-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable_KernelIdeal [hPre_usable_KernelIdeal : Cert.Pre_usable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable_ReferenceIdeal [hPre_usable_ReferenceIdeal : Cert.Pre_usable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_usable_KernelIdeal [hKernelIdeal : Cert.KernelIdeal.Facts] [hPre_usable_KernelIdeal : Cert.Pre_usable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_usable_ReferenceIdeal [hReferenceIdeal : Cert.ReferenceIdeal.Facts] [hPre_usable_ReferenceIdeal : Cert.Pre_usable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_usable_KernelIdeal [hKernelIdeal : Cert.KernelIdeal.Facts] [hReferenceIdeal : Cert.ReferenceIdeal.Facts] [hPre_usable_KernelIdeal : Cert.Pre_usable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨3, ![8192, 8, 128]⟩ ⟨3, ![16384, 8, 128]⟩ (Layout.meshBlock [2, 2, 2] ![[0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![8192, 8, 128]⟩ ⟨3, ![16384, 8, 128]⟩ (Layout.meshBlock [2, 2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_usable_KernelIdeal : Cert.Pre_usable_KernelIdeal.Facts) (hPre_usable_ReferenceIdeal : Cert.Pre_usable_ReferenceIdeal.Facts),
    quiescent_Kernel (hKernel := hKernel)
    ∧ quiescent_KernelIdeal (hKernelIdeal := hKernelIdeal)
    ∧ quiescent_KernelIdeal_pre_usable_KernelIdeal (hKernelIdeal := hKernelIdeal) (hPre_usable_KernelIdeal := hPre_usable_KernelIdeal)
    ∧ quiescent_ReferenceIdeal (hReferenceIdeal := hReferenceIdeal)
    ∧ quiescent_ReferenceIdeal_pre_usable_ReferenceIdeal (hReferenceIdeal := hReferenceIdeal) (hPre_usable_ReferenceIdeal := hPre_usable_ReferenceIdeal)
    ∧ preserves_Kernel_KernelIdeal
    ∧ algebraic_KernelIdeal_ReferenceIdeal_pre_usable_KernelIdeal (hKernelIdeal := hKernelIdeal) (hReferenceIdeal := hReferenceIdeal) (hPre_usable_KernelIdeal := hPre_usable_KernelIdeal)
-- ==== Pre_usable_KernelIdeal.lean ====
abbrev S8x1024 : Shape := ⟨2, ![8, 1024]⟩
abbrev S8192x8x128 : Shape := ⟨3, ![8192, 8, 128]⟩
abbrev S8x512 : Shape := ⟨2, ![8, 512]⟩
abbrev S8x1 : Shape := ⟨2, ![8, 1]⟩
abbrev S_ : Shape := ⟨0, ![]⟩

class Facts : Prop where
  bcast_S8x1_S8x512_0_1 : S8x1.BroadcastsInDim S8x512 (![0, 1] : Fin 2 → Fin S8x512.rank)
  bcast_S_S8x1024 : S_.BroadcastsInDim S8x1024 (![] : Fin 0 → Fin S8x1024.rank)
  reducesTo_S8x1024_S_d0_1 : S8x1024.ReducesTo [0, 1] S_
  h_S_ : 0 < S_.numel
  bcast_S_S8192x8x128 : S_.BroadcastsInDim S8192x8x128 (![] : Fin 0 → Fin S8192x8x128.rank)
  reducesTo_S8192x8x128_S_d0_1_2 : S8192x8x128.ReducesTo [0, 1, 2] S_
  bcast_S_S8x1 : S_.BroadcastsInDim S8x1 (![] : Fin 0 → Fin S8x1.rank)
  reducesTo_S8x1_S_d0_1 : S8x1.ReducesTo [0, 1] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg3 : IVec S8x512 32) (main_v15 : IVec S_ 1) (main_v16 : IVec S8x512 1) (main_c_4 : IVec S_ 32) : IVec S_ 1 :=
  let main_v17 : IVec S8x512 32 := broadcastInDim S8x512 ![] bcast_S_S8x512 main_c_4
  let main_v18 : IVec S8x512 1 := cmpi .sge main_arg3 main_v17
  let main_c_5 : IVec S_ 32 := constantI S_ 32 1024#32
  let main_v19 : IVec S8x512 32 := broadcastInDim S8x512 ![] bcast_S_S8x512 main_c_5
  let main_v20 : IVec S8x512 1 := cmpi .slt main_arg3 main_v19
  let main_v21 : IVec S8x512 1 := andi main_v18 main_v20
  let main_v22 : IVec S8x512 1 := ori main_v16 main_v21
  let main_c_6 : IVec S_ 1 := constantI S_ 1 1#1
  let main_v23 : IVec S_ 1 := (fun x v => Host.reduce IntOp.andi x v reducesTo_S8x512_S_d0_1 h_S_) main_v22 main_c_6
  let main_v24 : IVec S_ 1 := andi main_v15 main_v23
  main_v24

def fn {F : FTy → Type} [FloatOps F] (main_arg0 : FVec F S8x1024 .f32) (main_arg1 : FVec F S8192x8x128 .f32) (main_arg2 : FVec F S8192x8x128 .f32) (main_arg3 : IVec S8x512 32) (main_arg4 : IVec S8x1 32) : IVec S_ 1 :=
  let main_v0 : IVec S8x512 32 := iotaInDim S8x512 32 1
  let main_v1 : IVec S8x512 32 := broadcastInDim S8x512 ![0, 1] bcast_S8x1_S8x512_0_1 main_arg4
  let main_v2 : IVec S8x512 1 := cmpi .slt main_v0 main_v1
  let main_v3 : FVec F S8x1024 .f32 := Host.absf main_arg0
  let main_cst : FVec F S_ .f32 := constant S_ .f32 0x7F800000#32
  let main_v4 : FVec F S8x1024 .f32 := broadcastInDim S8x1024 ![] bcast_S_S8x1024 main_cst
  let main_v5 : IVec S8x1024 1 := cmpf .olt main_v3 main_v4
  let main_c : IVec S_ 1 := constantI S_ 1 1#1
  let main_v6 : IVec S_ 1 := (fun x v => Host.reduce IntOp.andi x v reducesTo_S8x1024_S_d0_1 h_S_) main_v5 main_c
  let main_v7 : FVec F S8192x8x128 .f32 := Host.absf main_arg1
  let main_cst_0 : FVec F S_ .f32 := constant S_ .f32 0x7F800000#32
  let main_v8 : FVec F S8192x8x128 .f32 := broadcastInDim S8192x8x128 ![] bcast_S_S8192x8x128 main_cst_0
  let main_v9 : IVec S8192x8x128 1 := cmpf .olt main_v7 main_v8
  let main_c_1 : IVec S_ 1 := constantI S_ 1 1#1
  let main_v10 : IVec S_ 1 := (fun x v => Host.reduce IntOp.andi x v reducesTo_S8192x8x128_S_d0_1_2 h_S_) main_v9 main_c_1
  let main_v11 : IVec S_ 1 := andi main_v6 main_v10
  let main_c_2 : IVec S_ 32 := constantI S_ 32 1#32
  let main_v12 : IVec S8x1 32 := broadcastInDim S8x1 ![] bcast_S_S8x1 main_c_2
  let main_v13 : IVec S8x1 1 := cmpi .sge main_arg4 main_v12
  let main_c_3 : IVec S_ 1 := constantI S_ 1 1#1
  let main_v14 : IVec S_ 1 := (fun x v => Host.reduce IntOp.andi x v reducesTo_S8x1_S_d0_1 h_S_) main_v13 main_c_3
  let main_v15 : IVec S_ 1 := andi main_v11 main_v14
  let main_v16 : IVec S8x512 1 := noti main_v2
  let main_c_4 : IVec S_ 32 := constantI S_ 32 0#32
  fn_part1 (F := F) main_arg3 main_v15 main_v16 main_c_4
-- ==== Pre_usable_ReferenceIdeal.lean ====
abbrev S8x1024 : Shape := ⟨2, ![8, 1024]⟩
abbrev S16384x8x128 : Shape := ⟨3, ![16384, 8, 128]⟩
abbrev S8x512 : Shape := ⟨2, ![8, 512]⟩
abbrev S8x1 : Shape := ⟨2, ![8, 1]⟩
abbrev S_ : Shape := ⟨0, ![]⟩

class Facts : Prop where
  bcast_S8x1_S8x512_0_1 : S8x1.BroadcastsInDim S8x512 (![0, 1] : Fin 2 → Fin S8x512.rank)
  bcast_S_S8x1024 : S_.BroadcastsInDim S8x1024 (![] : Fin 0 → Fin S8x1024.rank)
  reducesTo_S8x1024_S_d0_1 : S8x1024.ReducesTo [0, 1] S_
  h_S_ : 0 < S_.numel
  bcast_S_S16384x8x128 : S_.BroadcastsInDim S16384x8x128 (![] : Fin 0 → Fin S16384x8x128.rank)
  reducesTo_S16384x8x128_S_d0_1_2 : S16384x8x128.ReducesTo [0, 1, 2] S_
  bcast_S_S8x1 : S_.BroadcastsInDim S8x1 (![] : Fin 0 → Fin S8x1.rank)
  reducesTo_S8x1_S_d0_1 : S8x1.ReducesTo [0, 1] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg3 : IVec S8x512 32) (main_v15 : IVec S_ 1) (main_v16 : IVec S8x512 1) (main_c_4 : IVec S_ 32) : IVec S_ 1 :=
  let main_v17 : IVec S8x512 32 := broadcastInDim S8x512 ![] bcast_S_S8x512 main_c_4
  let main_v18 : IVec S8x512 1 := cmpi .sge main_arg3 main_v17
  let main_c_5 : IVec S_ 32 := constantI S_ 32 1024#32
  let main_v19 : IVec S8x512 32 := broadcastInDim S8x512 ![] bcast_S_S8x512 main_c_5
  let main_v20 : IVec S8x512 1 := cmpi .slt main_arg3 main_v19
  let main_v21 : IVec S8x512 1 := andi main_v18 main_v20
  let main_v22 : IVec S8x512 1 := ori main_v16 main_v21
  let main_c_6 : IVec S_ 1 := constantI S_ 1 1#1
  let main_v23 : IVec S_ 1 := (fun x v => Host.reduce IntOp.andi x v reducesTo_S8x512_S_d0_1 h_S_) main_v22 main_c_6
  let main_v24 : IVec S_ 1 := andi main_v15 main_v23
  main_v24

def fn {F : FTy → Type} [FloatOps F] (main_arg0 : FVec F S8x1024 .f32) (main_arg1 : FVec F S16384x8x128 .f32) (main_arg2 : FVec F S16384x8x128 .f32) (main_arg3 : IVec S8x512 32) (main_arg4 : IVec S8x1 32) : IVec S_ 1 :=
  let main_v0 : IVec S8x512 32 := iotaInDim S8x512 32 1
  let main_v1 : IVec S8x512 32 := broadcastInDim S8x512 ![0, 1] bcast_S8x1_S8x512_0_1 main_arg4
  let main_v2 : IVec S8x512 1 := cmpi .slt main_v0 main_v1
  let main_v3 : FVec F S8x1024 .f32 := Host.absf main_arg0
  let main_cst : FVec F S_ .f32 := constant S_ .f32 0x7F800000#32
  let main_v4 : FVec F S8x1024 .f32 := broadcastInDim S8x1024 ![] bcast_S_S8x1024 main_cst
  let main_v5 : IVec S8x1024 1 := cmpf .olt main_v3 main_v4
  let main_c : IVec S_ 1 := constantI S_ 1 1#1
  let main_v6 : IVec S_ 1 := (fun x v => Host.reduce IntOp.andi x v reducesTo_S8x1024_S_d0_1 h_S_) main_v5 main_c
  let main_v7 : FVec F S16384x8x128 .f32 := Host.absf main_arg1
  let main_cst_0 : FVec F S_ .f32 := constant S_ .f32 0x7F800000#32
  let main_v8 : FVec F S16384x8x128 .f32 := broadcastInDim S16384x8x128 ![] bcast_S_S16384x8x128 main_cst_0
  let main_v9 : IVec S16384x8x128 1 := cmpf .olt main_v7 main_v8
  let main_c_1 : IVec S_ 1 := constantI S_ 1 1#1
  let main_v10 : IVec S_ 1 := (fun x v => Host.reduce IntOp.andi x v reducesTo_S16384x8x128_S_d0_1_2 h_S_) main_v9 main_c_1
  let main_v11 : IVec S_ 1 := andi main_v6 main_v10
  let main_c_2 : IVec S_ 32 := constantI S_ 32 1#32
  let main_v12 : IVec S8x1 32 := broadcastInDim S8x1 ![] bcast_S_S8x1 main_c_2
  let main_v13 : IVec S8x1 1 := cmpi .sge main_arg4 main_v12
  let main_c_3 : IVec S_ 1 := constantI S_ 1 1#1
  let main_v14 : IVec S_ 1 := (fun x v => Host.reduce IntOp.andi x v reducesTo_S8x1_S_d0_1 h_S_) main_v13 main_c_3
  let main_v15 : IVec S_ 1 := andi main_v11 main_v14
  let main_v16 : IVec S8x512 1 := noti main_v2
  let main_c_4 : IVec S_ 32 := constantI S_ 32 0#32
  fn_part1 (F := F) main_arg3 main_v15 main_v16 main_c_4
-- ==== Kernel.lean ====
abbrev S8x1024 : Shape := ⟨2, ![8, 1024]⟩
abbrev S8192x8x128 : Shape := ⟨3, ![8192, 8, 128]⟩
abbrev S8x512 : Shape := ⟨2, ![8, 512]⟩
abbrev S8x1 : Shape := ⟨2, ![8, 1]⟩
abbrev S8x8x128 : Shape := ⟨3, ![8, 8, 128]⟩
abbrev S8x8x1 : Shape := ⟨3, ![8, 8, 1]⟩
abbrev S2x8x1024x128 : Shape := ⟨4, ![2, 8, 1024, 128]⟩
abbrev S8x8x256 : Shape := ⟨3, ![8, 8, 256]⟩
abbrev S3x8x8x256 : Shape := ⟨4, ![3, 8, 8, 256]⟩
abbrev S2 : Shape := ⟨1, ![2]⟩
abbrev S3 : Shape := ⟨1, ![3]⟩
abbrev S1 : Shape := ⟨1, ![1]⟩
abbrev S_ : Shape := ⟨0, ![]⟩
abbrev S1x1x1024x128 : Shape := ⟨4, ![1, 1, 1024, 128]⟩
abbrev S1024x128 : Shape := ⟨2, ![1024, 128]⟩
abbrev S1024x1x128 : Shape := ⟨3, ![1024, 1, 128]⟩
abbrev S64x8x512 : Shape := ⟨3, ![64, 8, 512]⟩
abbrev S1x8x512 : Shape := ⟨3, ![1, 8, 512]⟩
abbrev S64x8 : Shape := ⟨2, ![64, 8]⟩
abbrev S64x1024 : Shape := ⟨2, ![64, 1024]⟩
abbrev S8x128 : Shape := ⟨2, ![8, 128]⟩
abbrev S1x8x1 : Shape := ⟨3, ![1, 8, 1]⟩
abbrev S8 : Shape := ⟨1, ![8]⟩
abbrev S1x8x128 : Shape := ⟨3, ![1, 8, 128]⟩
abbrev S1x8x8x256 : Shape := ⟨4, ![1, 8, 8, 256]⟩
abbrev S1x8x8x1 : Shape := ⟨4, ![1, 8, 8, 1]⟩
abbrev S1x8x8x128 : Shape := ⟨4, ![1, 8, 8, 128]⟩

abbrev nBuf : Space → Nat
  | .hbm => 6
  | .vmem => 11
  | .smem => 0
  | _ => 0

abbrev bufTy : (tb : Table) → Fin (tcTables nBuf tb) → BufTy
  | .hbm, ⟨0, _⟩ => ⟨S8x1024, .f32⟩
  | .hbm, ⟨1, _⟩ => ⟨S8192x8x128, .f32⟩
  | .hbm, ⟨2, _⟩ => ⟨S8192x8x128, .f32⟩
  | .hbm, ⟨3, _⟩ => ⟨S8x512, .i32⟩
  | .hbm, ⟨4, _⟩ => ⟨S8x1, .i32⟩
  | .hbm, ⟨5, _⟩ => ⟨S8x8x128, .f32⟩
  | .local _ .vmem, ⟨0, _⟩ => ⟨S8x1024, .f32⟩
  | .local _ .vmem, ⟨1, _⟩ => ⟨S8x512, .i32⟩
  | .local _ .vmem, ⟨2, _⟩ => ⟨S8x1, .i32⟩
  | .local _ .vmem, ⟨3, _⟩ => ⟨S8x8x128, .f32⟩
  | .local _ .vmem, ⟨4, _⟩ => ⟨S8x8x1, .f32⟩
  | .local _ .vmem, ⟨5, _⟩ => ⟨S8x8x1, .f32⟩
  | .local _ .vmem, ⟨6, _⟩ => ⟨S8x8x128, .f32⟩
  | .local _ .vmem, ⟨7, _⟩ => ⟨S2x8x1024x128, .f32⟩
  | .local _ .vmem, ⟨8, _⟩ => ⟨S2x8x1024x128, .f32⟩
  | .local _ .vmem, ⟨9, _⟩ => ⟨S8x8x256, .f32⟩
  | .local _ .vmem, ⟨10, _⟩ => ⟨S3x8x8x256, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_4 : BitVec 32 := 0#32
  let v13 : BitVec 1 := Scalar.cmpi .ne v12 c0_i32_4
  v13

def k0_off1 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_362 : BitVec 32 := 128#32
  let v562 : BitVec 32 := Scalar.muli v10 c128_i32_362
  let c0_i32_363 : BitVec 32 := 0#32
  let v563 : BitVec 32 := Scalar.addi v562 c0_i32_363
  let c16_i32_364 : BitVec 32 := 16#32
  let v564 : BitVec 32 := Scalar.muli v563 c16_i32_364
  let c0_i32_365 : BitVec 32 := 0#32
  let c0_i32_371 : BitVec 32 := 0#32
  ![v564.toNat, 0, 0]
def k0_off2 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_362 : BitVec 32 := 128#32
  let v562 : BitVec 32 := Scalar.muli v10 c128_i32_362
  let c0_i32_363 : BitVec 32 := 0#32
  let v563 : BitVec 32 := Scalar.addi v562 c0_i32_363
  let c16_i32_364 : BitVec 32 := 16#32
  let v564 : BitVec 32 := Scalar.muli v563 c16_i32_364
  let c1_i32_372 : BitVec 32 := 1#32
  let c0_i32_378 : BitVec 32 := 0#32
  ![v564.toNat, 1, 0]
def k0_off3 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_362 : BitVec 32 := 128#32
  let v562 : BitVec 32 := Scalar.muli v10 c128_i32_362
  let c0_i32_363 : BitVec 32 := 0#32
  let v563 : BitVec 32 := Scalar.addi v562 c0_i32_363
  let c16_i32_364 : BitVec 32 := 16#32
  let v564 : BitVec 32 := Scalar.muli v563 c16_i32_364
  let c2_i32_379 : BitVec 32 := 2#32
  let c0_i32_385 : BitVec 32 := 0#32
  ![v564.toNat, 2, 0]
def k0_off4 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_362 : BitVec 32 := 128#32
  let v562 : BitVec 32 := Scalar.muli v10 c128_i32_362
  let c0_i32_363 : BitVec 32 := 0#32
  let v563 : BitVec 32 := Scalar.addi v562 c0_i32_363
  let c16_i32_364 : BitVec 32 := 16#32
  let v564 : BitVec 32 := Scalar.muli v563 c16_i32_364
  let c3_i32_386 : BitVec 32 := 3#32
  let c0_i32_392 : BitVec 32 := 0#32
  ![v564.toNat, 3, 0]
def k0_off5 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_362 : BitVec 32 := 128#32
  let v562 : BitVec 32 := Scalar.muli v10 c128_i32_362
  let c0_i32_363 : BitVec 32 := 0#32
  let v563 : BitVec 32 := Scalar.addi v562 c0_i32_363
  let c16_i32_364 : BitVec 32 := 16#32
  let v564 : BitVec 32 := Scalar.muli v563 c16_i32_364
  let c4_i32_393 : BitVec 32 := 4#32
  let c0_i32_399 : BitVec 32 := 0#32
  ![v564.toNat, 4, 0]
def k0_off6 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_362 : BitVec 32 := 128#32
  let v562 : BitVec 32 := Scalar.muli v10 c128_i32_362
  let c0_i32_363 : BitVec 32 := 0#32
  let v563 : BitVec 32 := Scalar.addi v562 c0_i32_363
  let c16_i32_364 : BitVec 32 := 16#32
  let v564 : BitVec 32 := Scalar.muli v563 c16_i32_364
  let c5_i32_400 : BitVec 32 := 5#32
  let c0_i32_406 : BitVec 32 := 0#32
  ![v564.toNat, 5, 0]
def k0_off7 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_362 : BitVec 32 := 128#32
  let v562 : BitVec 32 := Scalar.muli v10 c128_i32_362
  let c0_i32_363 : BitVec 32 := 0#32
  let v563 : BitVec 32 := Scalar.addi v562 c0_i32_363
  let c16_i32_364 : BitVec 32 := 16#32
  let v564 : BitVec 32 := Scalar.muli v563 c16_i32_364
  let c6_i32_407 : BitVec 32 := 6#32
  let c0_i32_413 : BitVec 32 := 0#32
  ![v564.toNat, 6, 0]
def k0_off8 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_362 : BitVec 32 := 128#32
  let v562 : BitVec 32 := Scalar.muli v10 c128_i32_362
  let c0_i32_363 : BitVec 32 := 0#32
  let v563 : BitVec 32 := Scalar.addi v562 c0_i32_363
  let c16_i32_364 : BitVec 32 := 16#32
  let v564 : BitVec 32 := Scalar.muli v563 c16_i32_364
  let c7_i32_414 : BitVec 32 := 7#32
  let c0_i32_420 : BitVec 32 := 0#32
  ![v564.toNat, 7, 0]
def k0_cond2 (i : grid0.Coords) : BitVec 1 :=
  let arg0 : BitVec 32 := BitVec.ofNat 32 (i 0).val
  let c1_i32_5 : BitVec 32 := 1#32
  let v14 : BitVec 32 := Scalar.addi arg0 c1_i32_5
  let c2_i32_6 : BitVec 32 := 2#32
  let v15 : BitVec 1 := Scalar.cmpi .slt v14 c2_i32_6
  let v16 : BitVec 32 := Scalar.extui v15
  let c0_i32_7 : BitVec 32 := 0#32
  let v17 : BitVec 1 := Scalar.cmpi .ne v16 c0_i32_7
  v17

def k0_off9 (i : grid0.Coords) : Fin 1 → Nat :=
  let arg0 : BitVec 32 := BitVec.ofNat 32 (i 0).val
  let c1_i32_351 : BitVec 32 := 1#32
  let v551 : BitVec 32 := Scalar.addi arg0 c1_i32_351
  let c2_i32_352 : BitVec 32 := 2#32
  let c0_i32_353 : BitVec 32 := 0#32
  let v552 : BitVec 1 := Scalar.cmpi .eq c2_i32_352 c0_i32_353
  let c1_i32_354 : BitVec 32 := 1#32
  let v553 : BitVec 32 := Scalar.select v552 c1_i32_354 c2_i32_352
  let v554 : BitVec 32 := Scalar.remsi v551 v553
  let c0_i32_356 : BitVec 32 := 0#32
  let v556 : BitVec 1 := Scalar.cmpi .slt v554 c0_i32_356
  let c0_i32_357 : BitVec 32 := 0#32
  let v557 : BitVec 1 := Scalar.cmpi .slt v553 c0_i32_357
  let v558 : BitVec 1 := Scalar.xori v556 v557
  let c0_i32_355 : BitVec 32 := 0#32
  let v555 : BitVec 1 := Scalar.cmpi .ne v554 c0_i32_355
  let v559 : BitVec 1 := Scalar.andi v558 v555
  let v560 : BitVec 32 := Scalar.addi v554 v553
  let v561 : BitVec 32 := Scalar.select v559 v560 v554
  ![v561.toNat]
def k0_off10 (i : grid0.Coords) : Fin 4 → Nat :=
  let arg0 : BitVec 32 := BitVec.ofNat 32 (i 0).val
  let c1_i32_351 : BitVec 32 := 1#32
  let v551 : BitVec 32 := Scalar.addi arg0 c1_i32_351
  let c2_i32_352 : BitVec 32 := 2#32
  let c0_i32_353 : BitVec 32 := 0#32
  let v552 : BitVec 1 := Scalar.cmpi .eq c2_i32_352 c0_i32_353
  let c1_i32_354 : BitVec 32 := 1#32
  let v553 : BitVec 32 := Scalar.select v552 c1_i32_354 c2_i32_352
  let v554 : BitVec 32 := Scalar.remsi v551 v553
  let c0_i32_356 : BitVec 32 := 0#32
  let v556 : BitVec 1 := Scalar.cmpi .slt v554 c0_i32_356
  let c0_i32_357 : BitVec 32 := 0#32
  let v557 : BitVec 1 := Scalar.cmpi .slt v553 c0_i32_357
  let v558 : BitVec 1 := Scalar.xori v556 v557
  let c0_i32_355 : BitVec 32 := 0#32
  let v555 : BitVec 1 := Scalar.cmpi .ne v554 c0_i32_355
  let v559 : BitVec 1 := Scalar.andi v558 v555
  let v560 : BitVec 32 := Scalar.addi v554 v553
  let v561 : BitVec 32 := Scalar.select v559 v560 v554
  let c0_i32_362 : BitVec 32 := 0#32
  let c0_i32_363 : BitVec 32 := 0#32
  let c0_i32_364 : BitVec 32 := 0#32
  ![v561.toNat, 0, 0, 0]
def k0_off11 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_358 : BitVec 32 := 128#32
  let v562 : BitVec 32 := Scalar.muli v10 c128_i32_358
  let arg0 : BitVec 32 := BitVec.ofNat 32 (i 0).val
  let c1_i32_350 : BitVec 32 := 1#32
  let v550 : BitVec 32 := Scalar.addi arg0 c1_i32_350
  let c64_i32_359 : BitVec 32 := 64#32
  let v563 : BitVec 32 := Scalar.muli v550 c64_i32_359
  let v564 : BitVec 32 := Scalar.addi v562 v563
  let c16_i32_360 : BitVec 32 := 16#32
  let v565 : BitVec 32 := Scalar.muli v564 c16_i32_360
  let c0_i32_361 : BitVec 32 := 0#32
  let c0_i32_365 : BitVec 32 := 0#32
  ![v565.toNat, 0, 0]
def k0_off12 (i : grid0.Coords) : Fin 4 → Nat :=
  let arg0 : BitVec 32 := BitVec.ofNat 32 (i 0).val
  let c1_i32_351 : BitVec 32 := 1#32
  let v551 : BitVec 32 := Scalar.addi arg0 c1_i32_351
  let c2_i32_352 : BitVec 32 := 2#32
  let c0_i32_353 : BitVec 32 := 0#32
  let v552 : BitVec 1 := Scalar.cmpi .eq c2_i32_352 c0_i32_353
  let c1_i32_354 : BitVec 32 := 1#32
  let v553 : BitVec 32 := Scalar.select v552 c1_i32_354 c2_i32_352
  let v554 : BitVec 32 := Scalar.remsi v551 v553
  let c0_i32_356 : BitVec 32 := 0#32
  let v556 : BitVec 1 := Scalar.cmpi .slt v554 c0_i32_356
  let c0_i32_357 : BitVec 32 := 0#32
  let v557 : BitVec 1 := Scalar.cmpi .slt v553 c0_i32_357
  let v558 : BitVec 1 := Scalar.xori v556 v557
  let c0_i32_355 : BitVec 32 := 0#32
  let v555 : BitVec 1 := Scalar.cmpi .ne v554 c0_i32_355
  let v559 : BitVec 1 := Scalar.andi v558 v555
  let v560 : BitVec 32 := Scalar.addi v554 v553
  let v561 : BitVec 32 := Scalar.select v559 v560 v554
  let c1_i32_367 : BitVec 32 := 1#32
  let c0_i32_368 : BitVec 32 := 0#32
  let c0_i32_369 : BitVec 32 := 0#32
  ![v561.toNat, 1, 0, 0]
def k0_off13 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_358 : BitVec 32 := 128#32
  let v562 : BitVec 32 := Scalar.muli v10 c128_i32_358
  let arg0 : BitVec 32 := BitVec.ofNat 32 (i 0).val
  let c1_i32_350 : BitVec 32 := 1#32
  let v550 : BitVec 32 := Scalar.addi arg0 c1_i32_350
  let c64_i32_359 : BitVec 32 := 64#32
  let v563 : BitVec 32 := Scalar.muli v550 c64_i32_359
  let v564 : BitVec 32 := Scalar.addi v562 v563
  let c16_i32_360 : BitVec 32 := 16#32
  let v565 : BitVec 32 := Scalar.muli v564 c16_i32_360
  let c1_i32_366 : BitVec 32 := 1#32
  let c0_i32_370 : BitVec 32 := 0#32
  ![v565.toNat, 1, 0]
def k0_off14 (i : grid0.Coords) : Fin 4 → Nat :=
  let arg0 : BitVec 32 := BitVec.ofNat 32 (i 0).val
  let c1_i32_351 : BitVec 32 := 1#32
  let v551 : BitVec 32 := Scalar.addi arg0 c1_i32_351
  let c2_i32_352 : BitVec 32 := 2#32
  let c0_i32_353 : BitVec 32 := 0#32
  let v552 : BitVec 1 := Scalar.cmpi .eq c2_i32_352 c0_i32_353
  let c1_i32_354 : BitVec 32 := 1#32
  let v553 : BitVec 32 := Scalar.select v552 c1_i32_354 c2_i32_352
  let v554 : BitVec 32 := Scalar.remsi v551 v553
  let c0_i32_356 : BitVec 32 := 0#32
  let v556 : BitVec 1 := Scalar.cmpi .slt v554 c0_i32_356
  let c0_i32_357 : BitVec 32 := 0#32
  let v557 : BitVec 1 := Scalar.cmpi .slt v553 c0_i32_357
  let v558 : BitVec 1 := Scalar.xori v556 v557
  let c0_i32_355 : BitVec 32 := 0#32
  let v555 : BitVec 1 := Scalar.cmpi .ne v554 c0_i32_355
  let v559 : BitVec 1 := Scalar.andi v558 v555
  let v560 : BitVec 32 := Scalar.addi v554 v553
  let v561 : BitVec 32 := Scalar.select v559 v560 v554
  let c2_i32_372 : BitVec 32 := 2#32
  let c0_i32_373 : BitVec 32 := 0#32
  let c0_i32_374 : BitVec 32 := 0#32
  ![v561.toNat, 2, 0, 0]
def k0_off15 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_358 : BitVec 32 := 128#32
  let v562 : BitVec 32 := Scalar.muli v10 c128_i32_358
  let arg0 : BitVec 32 := BitVec.ofNat 32 (i 0).val
  let c1_i32_350 : BitVec 32 := 1#32
  let v550 : BitVec 32 := Scalar.addi arg0 c1_i32_350
  let c64_i32_359 : BitVec 32 := 64#32
  let v563 : BitVec 32 := Scalar.muli v550 c64_i32_359
  let v564 : BitVec 32 := Scalar.addi v562 v563
  let c16_i32_360 : BitVec 32 := 16#32
  let v565 : BitVec 32 := Scalar.muli v564 c16_i32_360
  let c2_i32_371 : BitVec 32 := 2#32
  let c0_i32_375 : BitVec 32 := 0#32
  ![v565.toNat, 2, 0]
def k0_off16 (i : grid0.Coords) : Fin 4 → Nat :=
  let arg0 : BitVec 32 := BitVec.ofNat 32 (i 0).val
  let c1_i32_351 : BitVec 32 := 1#32
  let v551 : BitVec 32 := Scalar.addi arg0 c1_i32_351
  let c2_i32_352 : BitVec 32 := 2#32
  let c0_i32_353 : BitVec 32 := 0#32
  let v552 : BitVec 1 := Scalar.cmpi .eq c2_i32_352 c0_i32_353
  let c1_i32_354 : BitVec 32 := 1#32
  let v553 : BitVec 32 := Scalar.select v552 c1_i32_354 c2_i32_352
  let v554 : BitVec 32 := Scalar.remsi v551 v553
  let c0_i32_356 : BitVec 32 := 0#32
  let v556 : BitVec 1 := Scalar.cmpi .slt v554 c0_i32_356
  let c0_i32_357 : BitVec 32 := 0#32
  let v557 : BitVec 1 := Scalar.cmpi .slt v553 c0_i32_357
  let v558 : BitVec 1 := Scalar.xori v556 v557
  let c0_i32_355 : BitVec 32 := 0#32
  let v555 : BitVec 1 := Scalar.cmpi .ne v554 c0_i32_355
  let v559 : BitVec 1 := Scalar.andi v558 v555
  let v560 : BitVec 32 := Scalar.addi v554 v553
  let v561 : BitVec 32 := Scalar.select v559 v560 v554
  let c3_i32_377 : BitVec 32 := 3#32
  let c0_i32_378 : BitVec 32 := 0#32
  let c0_i32_379 : BitVec 32 := 0#32
  ![v561.toNat, 3, 0, 0]
def k0_off17 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_358 : BitVec 32 := 128#32
  let v562 : BitVec 32 := Scalar.muli v10 c128_i32_358
  let arg0 : BitVec 32 := BitVec.ofNat 32 (i 0).val
  let c1_i32_350 : BitVec 32 := 1#32
  let v550 : BitVec 32 := Scalar.addi arg0 c1_i32_350
  let c64_i32_359 : BitVec 32 := 64#32
  let v563 : BitVec 32 := Scalar.muli v550 c64_i32_359
  let v564 : BitVec 32 := Scalar.addi v562 v563
  let c16_i32_360 : BitVec 32 := 16#32
  let v565 : BitVec 32 := Scalar.muli v564 c16_i32_360
  let c3_i32_376 : BitVec 32 := 3#32
  let c0_i32_380 : BitVec 32 := 0#32
  ![v565.toNat, 3, 0]
def k0_off18 (i : grid0.Coords) : Fin 4 → Nat :=
  let arg0 : BitVec 32 := BitVec.ofNat 32 (i 0).val
  let c1_i32_351 : BitVec 32 := 1#32
  let v551 : BitVec 32 := Scalar.addi arg0 c1_i32_351
  let c2_i32_352 : BitVec 32 := 2#32
  let c0_i32_353 : BitVec 32 := 0#32
  let v552 : BitVec 1 := Scalar.cmpi .eq c2_i32_352 c0_i32_353
  let c1_i32_354 : BitVec 32 := 1#32
  let v553 : BitVec 32 := Scalar.select v552 c1_i32_354 c2_i32_352
  let v554 : BitVec 32 := Scalar.remsi v551 v553
  let c0_i32_356 : BitVec 32 := 0#32
  let v556 : BitVec 1 := Scalar.cmpi .slt v554 c0_i32_356
  let c0_i32_357 : BitVec 32 := 0#32
  let v557 : BitVec 1 := Scalar.cmpi .slt v553 c0_i32_357
  let v558 : BitVec 1 := Scalar.xori v556 v557
  let c0_i32_355 : BitVec 32 := 0#32
  let v555 : BitVec 1 := Scalar.cmpi .ne v554 c0_i32_355
  let v559 : BitVec 1 := Scalar.andi v558 v555
  let v560 : BitVec 32 := Scalar.addi v554 v553
  let v561 : BitVec 32 := Scalar.select v559 v560 v554
  let c4_i32_382 : BitVec 32 := 4#32
  let c0_i32_383 : BitVec 32 := 0#32
  let c0_i32_384 : BitVec 32 := 0#32
  ![v561.toNat, 4, 0, 0]
def k0_off19 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_358 : BitVec 32 := 128#32
  let v562 : BitVec 32 := Scalar.muli v10 c128_i32_358
  let arg0 : BitVec 32 := BitVec.ofNat 32 (i 0).val
  let c1_i32_350 : BitVec 32 := 1#32
  let v550 : BitVec 32 := Scalar.addi arg0 c1_i32_350
  let c64_i32_359 : BitVec 32 := 64#32
  let v563 : BitVec 32 := Scalar.muli v550 c64_i32_359
  let v564 : BitVec 32 := Scalar.addi v562 v563
  let c16_i32_360 : BitVec 32 := 16#32
  let v565 : BitVec 32 := Scalar.muli v564 c16_i32_360
  let c4_i32_381 : BitVec 32 := 4#32
  let c0_i32_385 : BitVec 32 := 0#32
  ![v565.toNat, 4, 0]
def k0_off20 (i : grid0.Coords) : Fin 4 → Nat :=
  let arg0 : BitVec 32 := BitVec.ofNat 32 (i 0).val
  let c1_i32_351 : BitVec 32 := 1#32
  let v551 : BitVec 32 := Scalar.addi arg0 c1_i32_351
  let c2_i32_352 : BitVec 32 := 2#32
  let c0_i32_353 : BitVec 32 := 0#32
  let v552 : BitVec 1 := Scalar.cmpi .eq c2_i32_352 c0_i32_353
  let c1_i32_354 : BitVec 32 := 1#32
  let v553 : BitVec 32 := Scalar.select v552 c1_i32_354 c2_i32_352
  let v554 : BitVec 32 := Scalar.remsi v551 v553
  let c0_i32_356 : BitVec 32 := 0#32
  let v556 : BitVec 1 := Scalar.cmpi .slt v554 c0_i32_356
  let c0_i32_357 : BitVec 32 := 0#32
  let v557 : BitVec 1 := Scalar.cmpi .slt v553 c0_i32_357
  let v558 : BitVec 1 := Scalar.xori v556 v557
  let c0_i32_355 : BitVec 32 := 0#32
  let v555 : BitVec 1 := Scalar.cmpi .ne v554 c0_i32_355
  let v559 : BitVec 1 := Scalar.andi v558 v555
  let v560 : BitVec 32 := Scalar.addi v554 v553
  let v561 : BitVec 32 := Scalar.select v559 v560 v554
  let c5_i32_387 : BitVec 32 := 5#32
  let c0_i32_388 : BitVec 32 := 0#32
  let c0_i32_389 : BitVec 32 := 0#32
  ![v561.toNat, 5, 0, 0]
def k0_off21 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_358 : BitVec 32 := 128#32
  let v562 : BitVec 32 := Scalar.muli v10 c128_i32_358
  let arg0 : BitVec 32 := BitVec.ofNat 32 (i 0).val
  let c1_i32_350 : BitVec 32 := 1#32
  let v550 : BitVec 32 := Scalar.addi arg0 c1_i32_350
  let c64_i32_359 : BitVec 32 := 64#32
  let v563 : BitVec 32 := Scalar.muli v550 c64_i32_359
  let v564 : BitVec 32 := Scalar.addi v562 v563
  let c16_i32_360 : BitVec 32 := 16#32
  let v565 : BitVec 32 := Scalar.muli v564 c16_i32_360
  let c5_i32_386 : BitVec 32 := 5#32
  let c0_i32_390 : BitVec 32 := 0#32
  ![v565.toNat, 5, 0]
def k0_off22 (i : grid0.Coords) : Fin 4 → Nat :=
  let arg0 : BitVec 32 := BitVec.ofNat 32 (i 0).val
  let c1_i32_351 : BitVec 32 := 1#32
  let v551 : BitVec 32 := Scalar.addi arg0 c1_i32_351
  let c2_i32_352 : BitVec 32 := 2#32
  let c0_i32_353 : BitVec 32 := 0#32
  let v552 : BitVec 1 := Scalar.cmpi .eq c2_i32_352 c0_i32_353
  let c1_i32_354 : BitVec 32 := 1#32
  let v553 : BitVec 32 := Scalar.select v552 c1_i32_354 c2_i32_352
  let v554 : BitVec 32 := Scalar.remsi v551 v553
  let c0_i32_356 : BitVec 32 := 0#32
  let v556 : BitVec 1 := Scalar.cmpi .slt v554 c0_i32_356
  let c0_i32_357 : BitVec 32 := 0#32
  let v557 : BitVec 1 := Scalar.cmpi .slt v553 c0_i32_357
  let v558 : BitVec 1 := Scalar.xori v556 v557
  let c0_i32_355 : BitVec 32 := 0#32
  let v555 : BitVec 1 := Scalar.cmpi .ne v554 c0_i32_355
  let v559 : BitVec 1 := Scalar.andi v558 v555
  let v560 : BitVec 32 := Scalar.addi v554 v553
  let v561 : BitVec 32 := Scalar.select v559 v560 v554
  let c6_i32_392 : BitVec 32 := 6#32
  let c0_i32_393 : BitVec 32 := 0#32
  let c0_i32_394 : BitVec 32 := 0#32
  ![v561.toNat, 6, 0, 0]
def k0_off23 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_358 : BitVec 32 := 128#32
  let v562 : BitVec 32 := Scalar.muli v10 c128_i32_358
  let arg0 : BitVec 32 := BitVec.ofNat 32 (i 0).val
  let c1_i32_350 : BitVec 32 := 1#32
  let v550 : BitVec 32 := Scalar.addi arg0 c1_i32_350
  let c64_i32_359 : BitVec 32 := 64#32
  let v563 : BitVec 32 := Scalar.muli v550 c64_i32_359
  let v564 : BitVec 32 := Scalar.addi v562 v563
  let c16_i32_360 : BitVec 32 := 16#32
  let v565 : BitVec 32 := Scalar.muli v564 c16_i32_360
  let c6_i32_391 : BitVec 32 := 6#32
  let c0_i32_395 : BitVec 32 := 0#32
  ![v565.toNat, 6, 0]
def k0_off24 (i : grid0.Coords) : Fin 4 → Nat :=
  let arg0 : BitVec 32 := BitVec.ofNat 32 (i 0).val
  let c1_i32_351 : BitVec 32 := 1#32
  let v551 : BitVec 32 := Scalar.addi arg0 c1_i32_351
  let c2_i32_352 : BitVec 32 := 2#32
  let c0_i32_353 : BitVec 32 := 0#32
  let v552 : BitVec 1 := Scalar.cmpi .eq c2_i32_352 c0_i32_353
  let c1_i32_354 : BitVec 32 := 1#32
  let v553 : BitVec 32 := Scalar.select v552 c1_i32_354 c2_i32_352
  let v554 : BitVec 32 := Scalar.remsi v551 v553
  let c0_i32_356 : BitVec 32 := 0#32
  let v556 : BitVec 1 := Scalar.cmpi .slt v554 c0_i32_356
  let c0_i32_357 : BitVec 32 := 0#32
  let v557 : BitVec 1 := Scalar.cmpi .slt v553 c0_i32_357
  let v558 : BitVec 1 := Scalar.xori v556 v557
  let c0_i32_355 : BitVec 32 := 0#32
  let v555 : BitVec 1 := Scalar.cmpi .ne v554 c0_i32_355
  let v559 : BitVec 1 := Scalar.andi v558 v555
  let v560 : BitVec 32 := Scalar.addi v554 v553
  let v561 : BitVec 32 := Scalar.select v559 v560 v554
  let c7_i32_397 : BitVec 32 := 7#32
  let c0_i32_398 : BitVec 32 := 0#32
  let c0_i32_399 : BitVec 32 := 0#32
  ![v561.toNat, 7, 0, 0]
def k0_off25 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_358 : BitVec 32 := 128#32
  let v562 : BitVec 32 := Scalar.muli v10 c128_i32_358
  let arg0 : BitVec 32 := BitVec.ofNat 32 (i 0).val
  let c1_i32_350 : BitVec 32 := 1#32
  let v550 : BitVec 32 := Scalar.addi arg0 c1_i32_350
  let c64_i32_359 : BitVec 32 := 64#32
  let v563 : BitVec 32 := Scalar.muli v550 c64_i32_359
  let v564 : BitVec 32 := Scalar.addi v562 v563
  let c16_i32_360 : BitVec 32 := 16#32
  let v565 : BitVec 32 := Scalar.muli v564 c16_i32_360
  let c7_i32_396 : BitVec 32 := 7#32
  let c0_i32_400 : BitVec 32 := 0#32
  ![v565.toNat, 7, 0]
def k0_cond3 (i : grid0.Coords) : BitVec 1 :=
  let arg0 : BitVec 32 := BitVec.ofNat 32 (i 0).val
  let c0_i32_8 : BitVec 32 := 0#32
  let v18 : BitVec 1 := Scalar.cmpi .eq arg0 c0_i32_8
  let v19 : BitVec 32 := Scalar.extui v18
  let c0_i32_9 : BitVec 32 := 0#32
  let v20 : BitVec 1 := Scalar.cmpi .ne v19 c0_i32_9
  v20

def k0_dev1 (d0 : Dev nD) : Nat :=
  let c0_i32_355 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_354 : BitVec 32 := 4#32
  let v554 : BitVec 32 := Scalar.muli v2 c4_i32_354
  let v555 : BitVec 32 := Scalar.addi c0_i32_355 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_356 : BitVec 32 := 2#32
  let v556 : BitVec 32 := Scalar.muli v5 c2_i32_356
  let v557 : BitVec 32 := Scalar.addi v555 v556
  let c1_i32_350 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v551 : BitVec 32 := Scalar.subi c1_i32_350 v8
  let c1_i32_357 : BitVec 32 := 1#32
  let v558 : BitVec 32 := Scalar.muli v551 c1_i32_357
  let v559 : BitVec 32 := Scalar.addi v557 v558
  v559.toNat
def k0_dev2 (d0 : Dev nD) : Nat :=
  let c0_i32_360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_359 : BitVec 32 := 4#32
  let v560 : BitVec 32 := Scalar.muli v2 c4_i32_359
  let v561 : BitVec 32 := Scalar.addi c0_i32_360 v560
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v552 : BitVec 32 := Scalar.subi c1_i32_351 v5
  let c2_i32_361 : BitVec 32 := 2#32
  let v562 : BitVec 32 := Scalar.muli v552 c2_i32_361
  let v563 : BitVec 32 := Scalar.addi v561 v562
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_362 : BitVec 32 := 1#32
  let v564 : BitVec 32 := Scalar.muli v8 c1_i32_362
  let v565 : BitVec 32 := Scalar.addi v563 v564
  v565.toNat
def k0_dev3 (d0 : Dev nD) : Nat :=
  let c0_i32_365 : BitVec 32 := 0#32
  let c1_i32_352 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v553 : BitVec 32 := Scalar.subi c1_i32_352 v2
  let c4_i32_364 : BitVec 32 := 4#32
  let v566 : BitVec 32 := Scalar.muli v553 c4_i32_364
  let v567 : BitVec 32 := Scalar.addi c0_i32_365 v566
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_366 : BitVec 32 := 2#32
  let v568 : BitVec 32 := Scalar.muli v5 c2_i32_366
  let v569 : BitVec 32 := Scalar.addi v567 v568
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_367 : BitVec 32 := 1#32
  let v570 : BitVec 32 := Scalar.muli v8 c1_i32_367
  let v571 : BitVec 32 := Scalar.addi v569 v570
  v571.toNat
def k0_off26 (i : grid0.Coords) : Fin 1 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  ![v86.toNat]
def k0_off27 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let c0_i32_31 : BitVec 32 := 0#32
  let c0_i32_32 : BitVec 32 := 0#32
  let c0_i32_33 : BitVec 32 := 0#32
  ![v86.toNat, 0, 0, 0]
def k0_off28 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_27 : BitVec 32 := 128#32
  let v87 : BitVec 32 := Scalar.muli v10 c128_i32_27
  let arg0 : BitVec 32 := BitVec.ofNat 32 (i 0).val
  let c64_i32_28 : BitVec 32 := 64#32
  let v88 : BitVec 32 := Scalar.muli arg0 c64_i32_28
  let v89 : BitVec 32 := Scalar.addi v87 v88
  let c16_i32_29 : BitVec 32 := 16#32
  let v90 : BitVec 32 := Scalar.muli v89 c16_i32_29
  let c0_i32_30 : BitVec 32 := 0#32
  let c0_i32_34 : BitVec 32 := 0#32
  ![v90.toNat, 0, 0]
def k0_off29 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let c1_i32_36 : BitVec 32 := 1#32
  let c0_i32_37 : BitVec 32 := 0#32
  let c0_i32_38 : BitVec 32 := 0#32
  ![v86.toNat, 1, 0, 0]
def k0_off30 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_27 : BitVec 32 := 128#32
  let v87 : BitVec 32 := Scalar.muli v10 c128_i32_27
  let arg0 : BitVec 32 := BitVec.ofNat 32 (i 0).val
  let c64_i32_28 : BitVec 32 := 64#32
  let v88 : BitVec 32 := Scalar.muli arg0 c64_i32_28
  let v89 : BitVec 32 := Scalar.addi v87 v88
  let c16_i32_29 : BitVec 32 := 16#32
  let v90 : BitVec 32 := Scalar.muli v89 c16_i32_29
  let c1_i32_35 : BitVec 32 := 1#32
  let c0_i32_39 : BitVec 32 := 0#32
  ![v90.toNat, 1, 0]
def k0_off31 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let c2_i32_41 : BitVec 32 := 2#32
  let c0_i32_42 : BitVec 32 := 0#32
  let c0_i32_43 : BitVec 32 := 0#32
  ![v86.toNat, 2, 0, 0]
def k0_off32 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_27 : BitVec 32 := 128#32
  let v87 : BitVec 32 := Scalar.muli v10 c128_i32_27
  let arg0 : BitVec 32 := BitVec.ofNat 32 (i 0).val
  let c64_i32_28 : BitVec 32 := 64#32
  let v88 : BitVec 32 := Scalar.muli arg0 c64_i32_28
  let v89 : BitVec 32 := Scalar.addi v87 v88
  let c16_i32_29 : BitVec 32 := 16#32
  let v90 : BitVec 32 := Scalar.muli v89 c16_i32_29
  let c2_i32_40 : BitVec 32 := 2#32
  let c0_i32_44 : BitVec 32 := 0#32
  ![v90.toNat, 2, 0]
def k0_off33 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let c3_i32_45 : BitVec 32 := 3#32
  let c0_i32_46 : BitVec 32 := 0#32
  let c0_i32_47 : BitVec 32 := 0#32
  ![v86.toNat, 3, 0, 0]
def k0_off34 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_27 : BitVec 32 := 128#32
  let v87 : BitVec 32 := Scalar.muli v10 c128_i32_27
  let arg0 : BitVec 32 := BitVec.ofNat 32 (i 0).val
  let c64_i32_28 : BitVec 32 := 64#32
  let v88 : BitVec 32 := Scalar.muli arg0 c64_i32_28
  let v89 : BitVec 32 := Scalar.addi v87 v88
  let c16_i32_29 : BitVec 32 := 16#32
  let v90 : BitVec 32 := Scalar.muli v89 c16_i32_29
  let c3_i32 : BitVec 32 := 3#32
  let c0_i32_48 : BitVec 32 := 0#32
  ![v90.toNat, 3, 0]
def k0_off35 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let c4_i32_50 : BitVec 32 := 4#32
  let c0_i32_51 : BitVec 32 := 0#32
  let c0_i32_52 : BitVec 32 := 0#32
  ![v86.toNat, 4, 0, 0]
def k0_off36 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_27 : BitVec 32 := 128#32
  let v87 : BitVec 32 := Scalar.muli v10 c128_i32_27
  let arg0 : BitVec 32 := BitVec.ofNat 32 (i 0).val
  let c64_i32_28 : BitVec 32 := 64#32
  let v88 : BitVec 32 := Scalar.muli arg0 c64_i32_28
  let v89 : BitVec 32 := Scalar.addi v87 v88
  let c16_i32_29 : BitVec 32 := 16#32
  let v90 : BitVec 32 := Scalar.muli v89 c16_i32_29
  let c4_i32_49 : BitVec 32 := 4#32
  let c0_i32_53 : BitVec 32 := 0#32
  ![v90.toNat, 4, 0]
def k0_off37 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let c5_i32_54 : BitVec 32 := 5#32
  let c0_i32_55 : BitVec 32 := 0#32
  let c0_i32_56 : BitVec 32 := 0#32
  ![v86.toNat, 5, 0, 0]
def k0_off38 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_27 : BitVec 32 := 128#32
  let v87 : BitVec 32 := Scalar.muli v10 c128_i32_27
  let arg0 : BitVec 32 := BitVec.ofNat 32 (i 0).val
  let c64_i32_28 : BitVec 32 := 64#32
  let v88 : BitVec 32 := Scalar.muli arg0 c64_i32_28
  let v89 : BitVec 32 := Scalar.addi v87 v88
  let c16_i32_29 : BitVec 32 := 16#32
  let v90 : BitVec 32 := Scalar.muli v89 c16_i32_29
  let c5_i32 : BitVec 32 := 5#32
  let c0_i32_57 : BitVec 32 := 0#32
  ![v90.toNat, 5, 0]
def k0_off39 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let c6_i32_58 : BitVec 32 := 6#32
  let c0_i32_59 : BitVec 32 := 0#32
  let c0_i32_60 : BitVec 32 := 0#32
  ![v86.toNat, 6, 0, 0]
def k0_off40 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_27 : BitVec 32 := 128#32
  let v87 : BitVec 32 := Scalar.muli v10 c128_i32_27
  let arg0 : BitVec 32 := BitVec.ofNat 32 (i 0).val
  let c64_i32_28 : BitVec 32 := 64#32
  let v88 : BitVec 32 := Scalar.muli arg0 c64_i32_28
  let v89 : BitVec 32 := Scalar.addi v87 v88
  let c16_i32_29 : BitVec 32 := 16#32
  let v90 : BitVec 32 := Scalar.muli v89 c16_i32_29
  let c6_i32 : BitVec 32 := 6#32
  let c0_i32_61 : BitVec 32 := 0#32
  ![v90.toNat, 6, 0]
def k0_off41 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let c7_i32_62 : BitVec 32 := 7#32
  let c0_i32_63 : BitVec 32 := 0#32
  let c0_i32_64 : BitVec 32 := 0#32
  ![v86.toNat, 7, 0, 0]
def k0_off42 (i : grid0.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_27 : BitVec 32 := 128#32
  let v87 : BitVec 32 := Scalar.muli v10 c128_i32_27
  let arg0 : BitVec 32 := BitVec.ofNat 32 (i 0).val
  let c64_i32_28 : BitVec 32 := 64#32
  let v88 : BitVec 32 := Scalar.muli arg0 c64_i32_28
  let v89 : BitVec 32 := Scalar.addi v87 v88
  let c16_i32_29 : BitVec 32 := 16#32
  let v90 : BitVec 32 := Scalar.muli v89 c16_i32_29
  let c7_i32 : BitVec 32 := 7#32
  let c0_i32_65 : BitVec 32 := 0#32
  ![v90.toNat, 7, 0]
def k0_off43 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let v189 : Index := Scalar.indexCast v86
  let c0_108 : Index := 0#32
  let c0_109 : Index := 0#32
  let c0_110 : Index := 0#32
  ![v189.toNat, 0, 0, 0]
def k0_off44 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let v234 : Index := Scalar.indexCast v86
  let c1 : Index := 1#32
  let c0_139 : Index := 0#32
  let c0_140 : Index := 0#32
  ![v234.toNat, 1, 0, 0]
def k0_off45 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let v279 : Index := Scalar.indexCast v86
  let c2 : Index := 2#32
  let c0_169 : Index := 0#32
  let c0_170 : Index := 0#32
  ![v279.toNat, 2, 0, 0]
def k0_off46 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let v324 : Index := Scalar.indexCast v86
  let c3 : Index := 3#32
  let c0_199 : Index := 0#32
  let c0_200 : Index := 0#32
  ![v324.toNat, 3, 0, 0]
def k0_off47 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let v369 : Index := Scalar.indexCast v86
  let c4 : Index := 4#32
  let c0_229 : Index := 0#32
  let c0_230 : Index := 0#32
  ![v369.toNat, 4, 0, 0]
def k0_off48 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let v414 : Index := Scalar.indexCast v86
  let c5 : Index := 5#32
  let c0_259 : Index := 0#32
  let c0_260 : Index := 0#32
  ![v414.toNat, 5, 0, 0]
def k0_off49 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let v459 : Index := Scalar.indexCast v86
  let c6 : Index := 6#32
  let c0_289 : Index := 0#32
  let c0_290 : Index := 0#32
  ![v459.toNat, 6, 0, 0]
def k0_off50 (i : grid0.Coords) : Fin 4 → Nat :=
  let arg0 : BitVec 32 := BitVec.ofNat 32 (i 0).val
  let c2_i32_21 : BitVec 32 := 2#32
  let c0_i32_22 : BitVec 32 := 0#32
  let v77 : BitVec 1 := Scalar.cmpi .eq c2_i32_21 c0_i32_22
  let c1_i32_23 : BitVec 32 := 1#32
  let v78 : BitVec 32 := Scalar.select v77 c1_i32_23 c2_i32_21
  let v79 : BitVec 32 := Scalar.remsi arg0 v78
  let c0_i32_25 : BitVec 32 := 0#32
  let v81 : BitVec 1 := Scalar.cmpi .slt v79 c0_i32_25
  let c0_i32_26 : BitVec 32 := 0#32
  let v82 : BitVec 1 := Scalar.cmpi .slt v78 c0_i32_26
  let v83 : BitVec 1 := Scalar.xori v81 v82
  let c0_i32_24 : BitVec 32 := 0#32
  let v80 : BitVec 1 := Scalar.cmpi .ne v79 c0_i32_24
  let v84 : BitVec 1 := Scalar.andi v83 v80
  let v85 : BitVec 32 := Scalar.addi v79 v78
  let v86 : BitVec 32 := Scalar.select v84 v85 v79
  let v504 : Index := Scalar.indexCast v86
  let c7 : Index := 7#32
  let c0_319 : Index := 0#32
  let c0_320 : Index := 0#32
  ![v504.toNat, 7, 0, 0]
def k0_cond4 (i : grid0.Coords) : BitVec 1 :=
  let arg0 : BitVec 32 := BitVec.ofNat 32 (i 0).val
  let c1_i32_348 : BitVec 32 := 1#32
  let v547 : BitVec 1 := Scalar.cmpi .eq arg0 c1_i32_348
  let v548 : BitVec 32 := Scalar.extui v547
  let c0_i32_349 : BitVec 32 := 0#32
  let v549 : BitVec 1 := Scalar.cmpi .ne v548 c0_i32_349
  v549

def k0_dev4 (d0 : Dev nD) : Nat :=
  let c0_i32_374 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_373 : BitVec 32 := 4#32
  let v565 : BitVec 32 := Scalar.muli v2 c4_i32_373
  let v566 : BitVec 32 := Scalar.addi c0_i32_374 v565
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_375 : BitVec 32 := 2#32
  let v567 : BitVec 32 := Scalar.muli v5 c2_i32_375
  let v568 : BitVec 32 := Scalar.addi v566 v567
  let c1_i32_367 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v562 : BitVec 32 := Scalar.subi c1_i32_367 v8
  let c1_i32_376 : BitVec 32 := 1#32
  let v569 : BitVec 32 := Scalar.muli v562 c1_i32_376
  let v570 : BitVec 32 := Scalar.addi v568 v569
  v570.toNat
def k0_dev5 (d0 : Dev nD) : Nat :=
  let c0_i32_452 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_451 : BitVec 32 := 4#32
  let v635 : BitVec 32 := Scalar.muli v2 c4_i32_451
  let v636 : BitVec 32 := Scalar.addi c0_i32_452 v635
  let c1_i32_368 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v563 : BitVec 32 := Scalar.subi c1_i32_368 v5
  let c2_i32_453 : BitVec 32 := 2#32
  let v637 : BitVec 32 := Scalar.muli v563 c2_i32_453
  let v638 : BitVec 32 := Scalar.addi v636 v637
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_454 : BitVec 32 := 1#32
  let v639 : BitVec 32 := Scalar.muli v8 c1_i32_454
  let v640 : BitVec 32 := Scalar.addi v638 v639
  v640.toNat
def k0_dev6 (d0 : Dev nD) : Nat :=
  let c0_i32_530 : BitVec 32 := 0#32
  let c1_i32_369 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v564 : BitVec 32 := Scalar.subi c1_i32_369 v2
  let c4_i32_529 : BitVec 32 := 4#32
  let v705 : BitVec 32 := Scalar.muli v564 c4_i32_529
  let v706 : BitVec 32 := Scalar.addi c0_i32_530 v705
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_531 : BitVec 32 := 2#32
  let v707 : BitVec 32 := Scalar.muli v5 c2_i32_531
  let v708 : BitVec 32 := Scalar.addi v706 v707
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_532 : BitVec 32 := 1#32
  let v709 : BitVec 32 := Scalar.muli v8 c1_i32_532
  let v710 : BitVec 32 := Scalar.addi v708 v709
  v710.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8x1024 : Shape := ⟨2, ![8, 1024]⟩
abbrev S16384x8x128 : Shape := ⟨3, ![16384, 8, 128]⟩
abbrev S8x512 : Shape := ⟨2, ![8, 512]⟩
abbrev S8x1 : Shape := ⟨2, ![8, 1]⟩
abbrev S8x1x8x128 : Shape := ⟨4, ![8, 1, 8, 128]⟩
abbrev S1024x16x8x128 : Shape := ⟨4, ![1024, 16, 8, 128]⟩
abbrev S_ : Shape := ⟨0, ![]⟩
abbrev S8x512x1 : Shape := ⟨3, ![8, 512, 1]⟩
abbrev S8x512x16x8x128 : Shape := ⟨5, ![8, 512, 16, 8, 128]⟩
abbrev S8x8192x8x128 : Shape := ⟨4, ![8, 8192, 8, 128]⟩
abbrev S8x512x16 : Shape := ⟨3, ![8, 512, 16]⟩
abbrev S8x1x1x8192 : Shape := ⟨4, ![8, 1, 1, 8192]⟩
abbrev S8x8x1x8192 : Shape := ⟨4, ![8, 8, 1, 8192]⟩
abbrev S8x8x1 : Shape := ⟨3, ![8, 8, 1]⟩
abbrev S8x8x1x1 : Shape := ⟨4, ![8, 8, 1, 1]⟩
abbrev S8x8x1x128 : Shape := ⟨4, ![8, 8, 1, 128]⟩
abbrev S8x8x128 : Shape := ⟨3, ![8, 8, 128]⟩

abbrev nBuf : Space → Nat
  | .hbm => 56
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S16384x8x128, .f32⟩
  | .hbm, ⟨2, _⟩ => ⟨S16384x8x128, .f32⟩
  | .hbm, ⟨3, _⟩ => ⟨S8x512, .i32⟩
  | .hbm, ⟨4, _⟩ => ⟨S8x1, .i32⟩
  | .hbm, ⟨5, _⟩ => ⟨S8x1x8x128, .f32⟩
  | .hbm, ⟨6, _⟩ => ⟨S1024x16x8x128, .f32⟩
  | .hbm, ⟨7, _⟩ => ⟨S1024x16x8x128, .f32⟩
  | .hbm, ⟨8, _⟩ => ⟨S_, .i32⟩
  | .hbm, ⟨9, _⟩ => ⟨S8x512, .i32⟩
  | .hbm, ⟨10, _⟩ => ⟨S8x512, .i1⟩
  | .hbm, ⟨11, _⟩ => ⟨S_, .i32⟩
  | .hbm, ⟨12, _⟩ => ⟨S8x512, .i32⟩
  | .hbm, ⟨13, _⟩ => ⟨S8x512, .i32⟩
  | .hbm, ⟨14, _⟩ => ⟨S8x512, .i32⟩
  | .hbm, ⟨15, _⟩ => ⟨S8x512x1, .i32⟩
  | .hbm, ⟨16, _⟩ => ⟨S8x512x16x8x128, .f32⟩
  | .hbm, ⟨17, _⟩ => ⟨S8x8192x8x128, .f32⟩
  | .hbm, ⟨18, _⟩ => ⟨S_, .i32⟩
  | .hbm, ⟨19, _⟩ => ⟨S8x512, .i32⟩
  | .hbm, ⟨20, _⟩ => ⟨S8x512, .i1⟩
  | .hbm, ⟨21, _⟩ => ⟨S_, .i32⟩
  | .hbm, ⟨22, _⟩ => ⟨S8x512, .i32⟩
  | .hbm, ⟨23, _⟩ => ⟨S8x512, .i32⟩
  | .hbm, ⟨24, _⟩ => ⟨S8x512, .i32⟩
  | .hbm, ⟨25, _⟩ => ⟨S8x512x1, .i32⟩
  | .hbm, ⟨26, _⟩ => ⟨S8x512x16x8x128, .f32⟩
  | .hbm, ⟨27, _⟩ => ⟨S8x8192x8x128, .f32⟩
  | .hbm, ⟨28, _⟩ => ⟨S8x512, .i32⟩
  | .hbm, ⟨29, _⟩ => ⟨S8x512, .i32⟩
  | .hbm, ⟨30, _⟩ => ⟨S8x512, .i1⟩
  | .hbm, ⟨31, _⟩ => ⟨S8x512x1, .i1⟩
  | .hbm, ⟨32, _⟩ => ⟨S8x512x16, .i1⟩
  | .hbm, ⟨33, _⟩ => ⟨S8x1x1x8192, .i1⟩
  | .hbm, ⟨34, _⟩ => ⟨S8x8x1x8192, .f32⟩
  | .hbm, ⟨35, _⟩ => ⟨S_, .f32⟩
  | .hbm, ⟨36, _⟩ => ⟨S8x8x1x8192, .f32⟩
  | .hbm, ⟨37, _⟩ => ⟨S8x8x1x8192, .f32⟩
  | .hbm, ⟨38, _⟩ => ⟨S_, .f32⟩
  | .hbm, ⟨39, _⟩ => ⟨S_, .f32⟩
  | .hbm, ⟨40, _⟩ => ⟨S8x8x1x8192, .i1⟩
  | .hbm, ⟨41, _⟩ => ⟨S8x8x1x8192, .f32⟩
  | .hbm, ⟨42, _⟩ => ⟨S8x8x1x8192, .f32⟩
  | .hbm, ⟨43, _⟩ => ⟨S_, .f32⟩
  | .hbm, ⟨44, _⟩ => ⟨S8x8x1, .f32⟩
  | .hbm, ⟨45, _⟩ => ⟨S8x8x1x1, .f32⟩
  | .hbm, ⟨46, _⟩ => ⟨S8x8x1x8192, .f32⟩
  | .hbm, ⟨47, _⟩ => ⟨S8x8x1x8192, .f32⟩
  | .hbm, ⟨48, _⟩ => ⟨S8x8x1x8192, .f32⟩
  | .hbm, ⟨49, _⟩ => ⟨S_, .f32⟩
  | .hbm, ⟨50, _⟩ => ⟨S8x8x1, .f32⟩
  | .hbm, ⟨51, _⟩ => ⟨S8x8x1x1, .f32⟩
  | .hbm, ⟨52, _⟩ => ⟨S8x8x1x8192, .f32⟩
  | .hbm, ⟨53, _⟩ => ⟨S8x8x1x8192, .f32⟩
  | .hbm, ⟨54, _⟩ => ⟨S8x8x1x128, .f32⟩
  | .hbm, ⟨55, _⟩ => ⟨S8x8x128, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.Base.lean ====
module

public import proofs.«01_k».proof.Proof.Gen.KernelIdeal.Skeleton
public import proofs.«01_k».proof.Proof.Gen.KernelIdeal.Frame
public import Idealize.ShloMosaic.Lib.Pipeline.Launch
public import Idealize.ShloMosaic.Lib.Batch
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The duties of the exchange protocol: one per stage of the butterfly. -/
abbrev Duty : Type := Fin 3
/-- The exchange's rounds algebra. -/
abbrev UB : Type := URounds (GSem nD τ sig) Duty
/-- The user algebra: the pipeline's rounds, the exchange's rounds, the local copies' counters. -/
abbrev UU : Type := UR sig nD τ × (UB × Counters)

local notation "𝕄" => MT nD τ sig Unit (Elt F) ℕ UU ℕ

/-- The exchange's rounds inside the machine's algebra. -/
abbrev ER : Emb UB (MT nD τ sig Unit (Elt F) ℕ UU ℕ) := (Emb.inl : Emb UB (UB × Counters)).trans embR

/-- The kernel's own memrefs, as the body receives them. -/
abbrev kHbm : Memref sig .tc .hbm S8192x8x128 .f32 := Memref.whole main_arg1
abbrev vHbm : Memref sig .tc .hbm S8192x8x128 .f32 := Memref.whole main_arg2
abbrev mSc : Memref sig .tc .vmem S8x8x1 .f32 := Memref.whole cc0_scratch0
abbrev lSc : Memref sig .tc .vmem S8x8x1 .f32 := Memref.whole cc0_scratch1
abbrev aSc : Memref sig .tc .vmem S8x8x128 .f32 := Memref.whole cc0_scratch2
abbrev kBuf : Memref sig .tc .vmem S2x8x1024x128 .f32 := Memref.whole cc0_scratch3
abbrev vBuf : Memref sig .tc .vmem S2x8x1024x128 .f32 := Memref.whole cc0_scratch4
abbrev sBuf : Memref sig .tc .vmem S8x8x256 .f32 := Memref.whole cc0_scratch5
abbrev rBuf : Memref sig .tc .vmem S3x8x8x256 .f32 := Memref.whole cc0_scratch6

/-- A buffer at `M`'s place on device `c`. -/
abbrev BufAt {sp : Space} {s : Shape} {e : EltTy} (c : Dev nD) (M : Memref sig .tc sp s e) : Type := Buf (Elt F) (M.view.loc (c : Thread nD τ))

/-- `M`'s own elements on device `c`, held at share `q`. -/
abbrev heldQ {sp : Space} {s : Shape} {e : EltTy} (c : Dev nD) (M : Memref sig .tc sp s e) (q : PosShare TreeShare) (f : BufAt (F := F) c M) : sProp 𝕄 :=
  M.view.loc (c : Thread nD τ) ↦[M.view.set]{q} f

/-- One head of one slot of a landing buffer. -/
abbrev hWin (M : Memref sig .tc .vmem S2x8x1024x128 .f32) (o : Fin 4 → ℕ) (h : ∀ a, o a + S1x1x1024x128.size a ≤ S2x8x1024x128.size a) :
    Memref sig .tc .vmem S1024x128 .f32 :=
  (M.slice (Rect.unit (s := S2x8x1024x128) o S1x1x1024x128.size h) (fun _ => rfl)).squeeze S1024x128 squeezes_S1x1x1024x128_S1024x128

/-- One head of 1024 consecutive rows of a cache. -/
abbrev cWin (M : Memref sig .tc .hbm S8192x8x128 .f32) (o : Fin 3 → ℕ) (h : ∀ a, o a + S1024x1x128.size a ≤ S8192x8x128.size a) :
    Memref sig .tc .hbm S1024x128 .f32 :=
  (M.slice (Rect.unit (s := S8192x8x128) o S1024x1x128.size h) (fun _ => rfl)).squeeze S1024x128 squeezes_S1024x1x128_S1024x128

/-- What is left of the read share after `n` copies took theirs. -/
def restShare : ℕ → PosShare TreeShare
  | 0 => fullShare.right
  | n + 1 => (restShare n).right
/-- The `n`-th copy's read share. -/
def rdShare (n : ℕ) : PosShare TreeShare := (restShare n).left

/-- What a local copy hands back: its landing window with the source rows in it, and its source window. -/
abbrev landing (c : Dev nD) (dst : Memref sig .tc .vmem S1024x128 .f32) (src : Memref sig .tc .hbm S1024x128 .f32) (q : PosShare TreeShare)
    (f : BufAt (F := F) c src) (d : BufAt (F := F) c dst) : sProp 𝕄 :=
  iprop(heldQ c dst fullShare (dst.view.writes (Elt F) d [⟨Rect.whole S1024x128, ReadAs.same.apply (src.view.read (Elt F) f)⟩])
    ∗ heldQ c src q f)

/-- The first grid point is the first block, the second the last. -/
theorem cond1_0 : k0_cond1 (grid0.coords t0_0) = 1#1 := by decide +kernel
theorem cond2_0 : k0_cond2 (grid0.coords t0_0) = 1#1 := by decide +kernel
/-- The landing windows, by slot and head. -/
abbrev kD00 : Memref sig .tc .vmem S1024x128 .f32 := hWin kBuf ![0, 0, 0, 0] (by decide)
abbrev vD00 : Memref sig .tc .vmem S1024x128 .f32 := hWin vBuf ![0, 0, 0, 0] (by decide)
abbrev kD01 : Memref sig .tc .vmem S1024x128 .f32 := hWin kBuf ![0, 1, 0, 0] (by decide)
abbrev vD01 : Memref sig .tc .vmem S1024x128 .f32 := hWin vBuf ![0, 1, 0, 0] (by decide)
abbrev kD02 : Memref sig .tc .vmem S1024x128 .f32 := hWin kBuf ![0, 2, 0, 0] (by decide)
abbrev vD02 : Memref sig .tc .vmem S1024x128 .f32 := hWin vBuf ![0, 2, 0, 0] (by decide)
abbrev kD03 : Memref sig .tc .vmem S1024x128 .f32 := hWin kBuf ![0, 3, 0, 0] (by decide)
abbrev vD03 : Memref sig .tc .vmem S1024x128 .f32 := hWin vBuf ![0, 3, 0, 0] (by decide)
abbrev kD04 : Memref sig .tc .vmem S1024x128 .f32 := hWin kBuf ![0, 4, 0, 0] (by decide)
abbrev vD04 : Memref sig .tc .vmem S1024x128 .f32 := hWin vBuf ![0, 4, 0, 0] (by decide)
abbrev kD05 : Memref sig .tc .vmem S1024x128 .f32 := hWin kBuf ![0, 5, 0, 0] (by decide)
abbrev vD05 : Memref sig .tc .vmem S1024x128 .f32 := hWin vBuf ![0, 5, 0, 0] (by decide)
abbrev kD06 : Memref sig .tc .vmem S1024x128 .f32 := hWin kBuf ![0, 6, 0, 0] (by decide)
abbrev vD06 : Memref sig .tc .vmem S1024x128 .f32 := hWin vBuf ![0, 6, 0, 0] (by decide)
abbrev kD07 : Memref sig .tc .vmem S1024x128 .f32 := hWin kBuf ![0, 7, 0, 0] (by decide)
abbrev vD07 : Memref sig .tc .vmem S1024x128 .f32 := hWin vBuf ![0, 7, 0, 0] (by decide)
abbrev kD10 : Memref sig .tc .vmem S1024x128 .f32 := hWin kBuf ![1, 0, 0, 0] (by decide)
abbrev vD10 : Memref sig .tc .vmem S1024x128 .f32 := hWin vBuf ![1, 0, 0, 0] (by decide)
abbrev kD11 : Memref sig .tc .vmem S1024x128 .f32 := hWin kBuf ![1, 1, 0, 0] (by decide)
abbrev vD11 : Memref sig .tc .vmem S1024x128 .f32 := hWin vBuf ![1, 1, 0, 0] (by decide)
abbrev kD12 : Memref sig .tc .vmem S1024x128 .f32 := hWin kBuf ![1, 2, 0, 0] (by decide)
abbrev vD12 : Memref sig .tc .vmem S1024x128 .f32 := hWin vBuf ![1, 2, 0, 0] (by decide)
abbrev kD13 : Memref sig .tc .vmem S1024x128 .f32 := hWin kBuf ![1, 3, 0, 0] (by decide)
abbrev vD13 : Memref sig .tc .vmem S1024x128 .f32 := hWin vBuf ![1, 3, 0, 0] (by decide)
abbrev kD14 : Memref sig .tc .vmem S1024x128 .f32 := hWin kBuf ![1, 4, 0, 0] (by decide)
abbrev vD14 : Memref sig .tc .vmem S1024x128 .f32 := hWin vBuf ![1, 4, 0, 0] (by decide)
abbrev kD15 : Memref sig .tc .vmem S1024x128 .f32 := hWin kBuf ![1, 5, 0, 0] (by decide)
abbrev vD15 : Memref sig .tc .vmem S1024x128 .f32 := hWin vBuf ![1, 5, 0, 0] (by decide)
abbrev kD16 : Memref sig .tc .vmem S1024x128 .f32 := hWin kBuf ![1, 6, 0, 0] (by decide)
abbrev vD16 : Memref sig .tc .vmem S1024x128 .f32 := hWin vBuf ![1, 6, 0, 0] (by decide)
abbrev kD17 : Memref sig .tc .vmem S1024x128 .f32 := hWin kBuf ![1, 7, 0, 0] (by decide)
abbrev vD17 : Memref sig .tc .vmem S1024x128 .f32 := hWin vBuf ![1, 7, 0, 0] (by decide)
/-- The source windows, by block and head. -/
abbrev kS00 (c : Dev nD) : Memref sig .tc .hbm S1024x128 .f32 := cWin kHbm (k0_off1 c) (k0_off1_inb (grid0.coords t0_0) c cond1_0)
abbrev kS01 (c : Dev nD) : Memref sig .tc .hbm S1024x128 .f32 := cWin kHbm (k0_off2 c) (k0_off2_inb (grid0.coords t0_0) c cond1_0)
abbrev kS02 (c : Dev nD) : Memref sig .tc .hbm S1024x128 .f32 := cWin kHbm (k0_off3 c) (k0_off3_inb (grid0.coords t0_0) c cond1_0)
abbrev kS03 (c : Dev nD) : Memref sig .tc .hbm S1024x128 .f32 := cWin kHbm (k0_off4 c) (k0_off4_inb (grid0.coords t0_0) c cond1_0)
abbrev kS04 (c : Dev nD) : Memref sig .tc .hbm S1024x128 .f32 := cWin kHbm (k0_off5 c) (k0_off5_inb (grid0.coords t0_0) c cond1_0)
abbrev kS05 (c : Dev nD) : Memref sig .tc .hbm S1024x128 .f32 := cWin kHbm (k0_off6 c) (k0_off6_inb (grid0.coords t0_0) c cond1_0)
abbrev kS06 (c : Dev nD) : Memref sig .tc .hbm S1024x128 .f32 := cWin kHbm (k0_off7 c) (k0_off7_inb (grid0.coords t0_0) c cond1_0)
abbrev kS07 (c : Dev nD) : Memref sig .tc .hbm S1024x128 .f32 := cWin kHbm (k0_off8 c) (k0_off8_inb (grid0.coords t0_0) c cond1_0)
abbrev kS10 (c : Dev nD) : Memref sig .tc .hbm S1024x128 .f32 := cWin kHbm (k0_off11 (grid0.coords t0_0) c) (k0_off11_inb (grid0.coords t0_0) c cond2_0)
abbrev kS11 (c : Dev nD) : Memref sig .tc .hbm S1024x128 .f32 := cWin kHbm (k0_off13 (grid0.coords t0_0) c) (k0_off13_inb (grid0.coords t0_0) c cond2_0)
abbrev kS12 (c : Dev nD) : Memref sig .tc .hbm S1024x128 .f32 := cWin kHbm (k0_off15 (grid0.coords t0_0) c) (k0_off15_inb (grid0.coords t0_0) c cond2_0)
abbrev kS13 (c : Dev nD) : Memref sig .tc .hbm S1024x128 .f32 := cWin kHbm (k0_off17 (grid0.coords t0_0) c) (k0_off17_inb (grid0.coords t0_0) c cond2_0)
abbrev kS14 (c : Dev nD) : Memref sig .tc .hbm S1024x128 .f32 := cWin kHbm (k0_off19 (grid0.coords t0_0) c) (k0_off19_inb (grid0.coords t0_0) c cond2_0)
abbrev kS15 (c : Dev nD) : Memref sig .tc .hbm S1024x128 .f32 := cWin kHbm (k0_off21 (grid0.coords t0_0) c) (k0_off21_inb (grid0.coords t0_0) c cond2_0)
abbrev kS16 (c : Dev nD) : Memref sig .tc .hbm S1024x128 .f32 := cWin kHbm (k0_off23 (grid0.coords t0_0) c) (k0_off23_inb (grid0.coords t0_0) c cond2_0)
abbrev kS17 (c : Dev nD) : Memref sig .tc .hbm S1024x128 .f32 := cWin kHbm (k0_off25 (grid0.coords t0_0) c) (k0_off25_inb (grid0.coords t0_0) c cond2_0)
abbrev vS00 (c : Dev nD) : Memref sig .tc .hbm S1024x128 .f32 := cWin vHbm (k0_off1 c) (k0_off1_inb (grid0.coords t0_0) c cond1_0)
abbrev vS01 (c : Dev nD) : Memref sig .tc .hbm S1024x128 .f32 := cWin vHbm (k0_off2 c) (k0_off2_inb (grid0.coords t0_0) c cond1_0)
abbrev vS02 (c : Dev nD) : Memref sig .tc .hbm S1024x128 .f32 := cWin vHbm (k0_off3 c) (k0_off3_inb (grid0.coords t0_0) c cond1_0)
abbrev vS03 (c : Dev nD) : Memref sig .tc .hbm S1024x128 .f32 := cWin vHbm (k0_off4 c) (k0_off4_inb (grid0.coords t0_0) c cond1_0)
abbrev vS04 (c : Dev nD) : Memref sig .tc .hbm S1024x128 .f32 := cWin vHbm (k0_off5 c) (k0_off5_inb (grid0.coords t0_0) c cond1_0)
abbrev vS05 (c : Dev nD) : Memref sig .tc .hbm S1024x128 .f32 := cWin vHbm (k0_off6 c) (k0_off6_inb (grid0.coords t0_0) c cond1_0)
abbrev vS06 (c : Dev nD) : Memref sig .tc .hbm S1024x128 .f32 := cWin vHbm (k0_off7 c) (k0_off7_inb (grid0.coords t0_0) c cond1_0)
abbrev vS07 (c : Dev nD) : Memref sig .tc .hbm S1024x128 .f32 := cWin vHbm (k0_off8 c) (k0_off8_inb (grid0.coords t0_0) c cond1_0)
abbrev vS10 (c : Dev nD) : Memref sig .tc .hbm S1024x128 .f32 := cWin vHbm (k0_off11 (grid0.coords t0_0) c) (k0_off11_inb (grid0.coords t0_0) c cond2_0)
abbrev vS11 (c : Dev nD) : Memref sig .tc .hbm S1024x128 .f32 := cWin vHbm (k0_off13 (grid0.coords t0_0) c) (k0_off13_inb (grid0.coords t0_0) c cond2_0)
abbrev vS12 (c : Dev nD) : Memref sig .tc .hbm S1024x128 .f32 := cWin vHbm (k0_off15 (grid0.coords t0_0) c) (k0_off15_inb (grid0.coords t0_0) c cond2_0)
abbrev vS13 (c : Dev nD) : Memref sig .tc .hbm S1024x128 .f32 := cWin vHbm (k0_off17 (grid0.coords t0_0) c) (k0_off17_inb (grid0.coords t0_0) c cond2_0)
abbrev vS14 (c : Dev nD) : Memref sig .tc .hbm S1024x128 .f32 := cWin vHbm (k0_off19 (grid0.coords t0_0) c) (k0_off19_inb (grid0.coords t0_0) c cond2_0)
abbrev vS15 (c : Dev nD) : Memref sig .tc .hbm S1024x128 .f32 := cWin vHbm (k0_off21 (grid0.coords t0_0) c) (k0_off21_inb (grid0.coords t0_0) c cond2_0)
abbrev vS16 (c : Dev nD) : Memref sig .tc .hbm S1024x128 .f32 := cWin vHbm (k0_off23 (grid0.coords t0_0) c) (k0_off23_inb (grid0.coords t0_0) c cond2_0)
abbrev vS17 (c : Dev nD) : Memref sig .tc .hbm S1024x128 .f32 := cWin vHbm (k0_off25 (grid0.coords t0_0) c) (k0_off25_inb (grid0.coords t0_0) c cond2_0)

/-- What the copies into slot 0 of the k buffer hand back, head by head. -/
def kDlv0 (c : Dev nD) (f : BufAt (F := F) c kHbm) (d0 : BufAt (F := F) c kD00) (d1 : BufAt (F := F) c kD01) (d2 : BufAt (F := F) c kD02) (d3 : BufAt (F := F) c kD03) (d4 : BufAt (F := F) c kD04) (d5 : BufAt (F := F) c kD05) (d6 : BufAt (F := F) c kD06) (d7 : BufAt (F := F) c kD07) : Fin 8 → sProp 𝕄
  | 0 => landing c kD00 (kS00 c) (rdShare 0) f d0
  | 1 => landing c kD01 (kS01 c) (rdShare 1) f d1
  | 2 => landing c kD02 (kS02 c) (rdShare 2) f d2
  | 3 => landing c kD03 (kS03 c) (rdShare 3) f d3
  | 4 => landing c kD04 (kS04 c) (rdShare 4) f d4
  | 5 => landing c kD05 (kS05 c) (rdShare 5) f d5
  | 6 => landing c kD06 (kS06 c) (rdShare 6) f d6
  | 7 => landing c kD07 (kS07 c) (rdShare 7) f d7
instance kDlv0_storable (c : Dev nD) (f : BufAt (F := F) c kHbm) (d0 : BufAt (F := F) c kD00) (d1 : BufAt (F := F) c kD01) (d2 : BufAt (F := F) c kD02) (d3 : BufAt (F := F) c kD03) (d4 : BufAt (F := F) c kD04) (d5 : BufAt (F := F) c kD05) (d6 : BufAt (F := F) c kD06) (d7 : BufAt (F := F) c kD07) (t : Fin 8) : Storable (upEmb : UEmb _ 𝕄) (kDlv0 c f d0 d1 d2 d3 d4 d5 d6 d7 t) := by
  fin_cases t <;> simp only [kDlv0] <;> infer_instance

/-- What the copies into slot 0 of the v buffer hand back, head by head. -/
def vDlv0 (c : Dev nD) (f : BufAt (F := F) c vHbm) (d0 : BufAt (F := F) c vD00) (d1 : BufAt (F := F) c vD01) (d2 : BufAt (F := F) c vD02) (d3 : BufAt (F := F) c vD03) (d4 : BufAt (F := F) c vD04) (d5 : BufAt (F := F) c vD05) (d6 : BufAt (F := F) c vD06) (d7 : BufAt (F := F) c vD07) : Fin 8 → sProp 𝕄
  | 0 => landing c vD00 (vS00 c) (rdShare 0) f d0
  | 1 => landing c vD01 (vS01 c) (rdShare 1) f d1
  | 2 => landing c vD02 (vS02 c) (rdShare 2) f d2
  | 3 => landing c vD03 (vS03 c) (rdShare 3) f d3
  | 4 => landing c vD04 (vS04 c) (rdShare 4) f d4
  | 5 => landing c vD05 (vS05 c) (rdShare 5) f d5
  | 6 => landing c vD06 (vS06 c) (rdShare 6) f d6
  | 7 => landing c vD07 (vS07 c) (rdShare 7) f d7
instance vDlv0_storable (c : Dev nD) (f : BufAt (F := F) c vHbm) (d0 : BufAt (F := F) c vD00) (d1 : BufAt (F := F) c vD01) (d2 : BufAt (F := F) c vD02) (d3 : BufAt (F := F) c vD03) (d4 : BufAt (F := F) c vD04) (d5 : BufAt (F := F) c vD05) (d6 : BufAt (F := F) c vD06) (d7 : BufAt (F := F) c vD07) (t : Fin 8) : Storable (upEmb : UEmb _ 𝕄) (vDlv0 c f d0 d1 d2 d3 d4 d5 d6 d7 t) := by
  fin_cases t <;> simp only [vDlv0] <;> infer_instance

/-- What the copies into slot 1 of the k buffer hand back, head by head. -/
def kDlv1 (c : Dev nD) (f : BufAt (F := F) c kHbm) (d0 : BufAt (F := F) c kD10) (d1 : BufAt (F := F) c kD11) (d2 : BufAt (F := F) c kD12) (d3 : BufAt (F := F) c kD13) (d4 : BufAt (F := F) c kD14) (d5 : BufAt (F := F) c kD15) (d6 : BufAt (F := F) c kD16) (d7 : BufAt (F := F) c kD17) : Fin 8 → sProp 𝕄
  | 0 => landing c kD10 (kS10 c) (rdShare 8) f d0
  | 1 => landing c kD11 (kS11 c) (rdShare 9) f d1
  | 2 => landing c kD12 (kS12 c) (rdShare 10) f d2
  | 3 => landing c kD13 (kS13 c) (rdShare 11) f d3
  | 4 => landing c kD14 (kS14 c) (rdShare 12) f d4
  | 5 => landing c kD15 (kS15 c) (rdShare 13) f d5
  | 6 => landing c kD16 (kS16 c) (rdShare 14) f d6
  | 7 => landing c kD17 (kS17 c) (rdShare 15) f d7
instance kDlv1_storable (c : Dev nD) (f : BufAt (F := F) c kHbm) (d0 : BufAt (F := F) c kD10) (d1 : BufAt (F := F) c kD11) (d2 : BufAt (F := F) c kD12) (d3 : BufAt (F := F) c kD13) (d4 : BufAt (F := F) c kD14) (d5 : BufAt (F := F) c kD15) (d6 : BufAt (F := F) c kD16) (d7 : BufAt (F := F) c kD17) (t : Fin 8) : Storable (upEmb : UEmb _ 𝕄) (kDlv1 c f d0 d1 d2 d3 d4 d5 d6 d7 t) := by
  fin_cases t <;> simp only [kDlv1] <;> infer_instance

/-- What the copies into slot 1 of the v buffer hand back, head by head. -/
def vDlv1 (c : Dev nD) (f : BufAt (F := F) c vHbm) (d0 : BufAt (F := F) c vD10) (d1 : BufAt (F := F) c vD11) (d2 : BufAt (F := F) c vD12) (d3 : BufAt (F := F) c vD13) (d4 : BufAt (F := F) c vD14) (d5 : BufAt (F := F) c vD15) (d6 : BufAt (F := F) c vD16) (d7 : BufAt (F := F) c vD17) : Fin 8 → sProp 𝕄
  | 0 => landing c vD10 (vS10 c) (rdShare 8) f d0
  | 1 => landing c vD11 (vS11 c) (rdShare 9) f d1
  | 2 => landing c vD12 (vS12 c) (rdShare 10) f d2
  | 3 => landing c vD13 (vS13 c) (rdShare 11) f d3
  | 4 => landing c vD14 (vS14 c) (rdShare 12) f d4
  | 5 => landing c vD15 (vS15 c) (rdShare 13) f d5
  | 6 => landing c vD16 (vS16 c) (rdShare 14) f d6
  | 7 => landing c vD17 (vS17 c) (rdShare 15) f d7
instance vDlv1_storable (c : Dev nD) (f : BufAt (F := F) c vHbm) (d0 : BufAt (F := F) c vD10) (d1 : BufAt (F := F) c vD11) (d2 : BufAt (F := F) c vD12) (d3 : BufAt (F := F) c vD13) (d4 : BufAt (F := F) c vD14) (d5 : BufAt (F := F) c vD15) (d6 : BufAt (F := F) c vD16) (d7 : BufAt (F := F) c vD17) (t : Fin 8) : Storable (upEmb : UEmb _ 𝕄) (vDlv1 c f d0 d1 d2 d3 d4 d5 d6 d7 t) := by
  fin_cases t <;> simp only [vDlv1] <;> infer_instance

end Cert.KernelIdeal.Hand

end
-- ==== Proof.Protocol.lean ====
module

public import proofs.«01_k».proof.Proof.Base
public import Idealize.ShloMosaic.Lib.Pipeline.Launch
public import Idealize.ShloMosaic.Lib.Pointwise
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The butterfly: at stage `s` a device exchanges with `peer s` -/

theorem cond3_0 : k0_cond3 (grid0.coords t0_0) = 1#1 := by decide +kernel
theorem cond4_0 : ¬ k0_cond4 (grid0.coords t0_0) = 1#1 := by decide +kernel
theorem cond4_1 : k0_cond4 (grid0.coords t0_1) = 1#1 := by decide +kernel
theorem cond1_1 : ¬ k0_cond1 (grid0.coords t0_1) = 1#1 := by decide +kernel
theorem cond2_1 : ¬ k0_cond2 (grid0.coords t0_1) = 1#1 := by decide +kernel
theorem cond3_1 : ¬ k0_cond3 (grid0.coords t0_1) = 1#1 := by decide +kernel

/-- The stage's partner: across `z`, then across `y`, then across `x`. -/
def peer : Fin 3 → Dev nD → Dev nD
  | 0, c => ⟨k0_dev1 c, k0_dev1_lt (grid0.coords t0_0) c cond3_0⟩
  | 1, c => ⟨k0_dev2 c, k0_dev2_lt (grid0.coords t0_0) c cond3_0⟩
  | 2, c => ⟨k0_dev3 c, k0_dev3_lt (grid0.coords t0_0) c cond3_0⟩

theorem peer_peer : ∀ (s : Fin 3) (c : Dev nD), peer s (peer s c) = c := by decide +kernel
theorem peer_inj : ∀ (s s' : Fin 3) (c : Dev nD), peer s c = peer s' c → s = s' := by decide +kernel
theorem dev4_eq (c : Dev nD) (h) : (⟨k0_dev4 c, h⟩ : Dev nD) = peer 0 c := Fin.ext ((k0_dev4_eq c).trans (k0_dev1_eq c).symm)
theorem dev5_eq (c : Dev nD) (h) : (⟨k0_dev5 c, h⟩ : Dev nD) = peer 1 c := Fin.ext ((k0_dev5_eq c).trans (k0_dev2_eq c).symm)
theorem dev6_eq (c : Dev nD) (h) : (⟨k0_dev6 c, h⟩ : Dev nD) = peer 2 c := Fin.ext ((k0_dev6_eq c).trans (k0_dev3_eq c).symm)

/-- The partner as a permutation of the devices. -/
def peerE (s : Fin 3) : Dev nD ≃ Dev nD := ⟨peer s, peer s, peer_peer s, peer_peer s⟩

/-! ## Semaphores, cells, windows -/

/-- The barrier semaphore of the call. -/
abbrev barS : Sem sig := (SemArray.scalar (sig.barrier 0 rfl) : Sems sig S_).sem
abbrev sendS0 : DmaSem sig := ((cc0_scratch9.slice (Rect.unit (s := S3) ![0] S1.size inb_S3_S1_0)).squeeze S_ squeezes_S1_S_).sem
abbrev sendS1 : DmaSem sig := ((cc0_scratch9.slice (Rect.unit (s := S3) ![1] S1.size inb_S3_S1_1)).squeeze S_ squeezes_S1_S_).sem
abbrev sendS2 : DmaSem sig := ((cc0_scratch9.slice (Rect.unit (s := S3) ![2] S1.size inb_S3_S1_2)).squeeze S_ squeezes_S1_S_).sem
abbrev recvS0 : DmaSem sig := ((cc0_scratch10.slice (Rect.unit (s := S3) ![0] S1.size inb_S3_S1_0)).squeeze S_ squeezes_S1_S_).sem
abbrev recvS1 : DmaSem sig := ((cc0_scratch10.slice (Rect.unit (s := S3) ![1] S1.size inb_S3_S1_1)).squeeze S_ squeezes_S1_S_).sem
abbrev recvS2 : DmaSem sig := ((cc0_scratch10.slice (Rect.unit (s := S3) ![2] S1.size inb_S3_S1_2)).squeeze S_ squeezes_S1_S_).sem
abbrev kSem0 : DmaSem sig := ((cc0_scratch7.slice (Rect.unit (s := S2) ![0] S1.size inb_S2_S1_0)).squeeze S_ squeezes_S1_S_).sem
abbrev kSem1 : DmaSem sig := ((cc0_scratch7.slice (Rect.unit (s := S2) ![1] S1.size (by decide))).squeeze S_ squeezes_S1_S_).sem
abbrev vSem0 : DmaSem sig := ((cc0_scratch8.slice (Rect.unit (s := S2) ![0] S1.size inb_S2_S1_0)).squeeze S_ squeezes_S1_S_).sem
abbrev vSem1 : DmaSem sig := ((cc0_scratch8.slice (Rect.unit (s := S2) ![1] S1.size (by decide))).squeeze S_ squeezes_S1_S_).sem

/-- The send and the receive semaphore of a stage. -/
abbrev sendS : Fin 3 → DmaSem sig | 0 => sendS0 | 1 => sendS1 | 2 => sendS2
abbrev recvS : Fin 3 → DmaSem sig | 0 => recvS0 | 1 => recvS1 | 2 => recvS2

theorem sendS_val : ∀ s : Fin 3, (sendS s).val = 8 + s.val := by decide
theorem recvS_val : ∀ s : Fin 3, (recvS s).val = 11 + s.val := by decide
theorem send_inj {s s' : Fin 3} (h : SemLoc.dma (sig := sig) (sendS s) = .dma (sendS s')) : s = s' := by
  have h1 : (sendS s).val = (sendS s').val := by rw [SemLoc.dma.inj h]
  rw [sendS_val, sendS_val] at h1; exact Fin.ext (by omega)
theorem recv_inj {s s' : Fin 3} (h : SemLoc.dma (sig := sig) (recvS s) = .dma (recvS s')) : s = s' := by
  have h1 : (recvS s).val = (recvS s').val := by rw [SemLoc.dma.inj h]
  rw [recvS_val, recvS_val] at h1; exact Fin.ext (by omega)
theorem send_ne_recv {s s' : Fin 3} : SemLoc.dma (sig := sig) (sendS s) ≠ .dma (recvS s') := fun h => by
  have h1 : (sendS s).val = (recvS s').val := by rw [SemLoc.dma.inj h]
  rw [sendS_val, recvS_val] at h1; omega
theorem dma_ne_bar {q : DmaSem sig} : SemLoc.dma q ≠ .reg barS := fun h => by cases h

abbrev barCell (c : Dev nD) : GSem nD τ sig := ((c : Thread nD τ), .reg barS)
abbrev sendCell (s : Fin 3) (c : Dev nD) : GSem nD τ sig := ((c : Thread nD τ), .dma (sendS s))
abbrev recvCell (s : Fin 3) (c : Dev nD) : GSem nD τ sig := ((c : Thread nD τ), .dma (recvS s))

/-- The landing window of a stage. -/
abbrev rW0 : Memref sig .tc .vmem S8x8x256 .f32 := (rBuf.slice (Rect.unit (s := S3x8x8x256) ![0, 0, 0, 0] S1x8x8x256.size inb_S3x8x8x256_S1x8x8x256_0_0_0_0) (fun _ => rfl)).squeeze S8x8x256 squeezes_S1x8x8x256_S8x8x256
abbrev rW1 : Memref sig .tc .vmem S8x8x256 .f32 := (rBuf.slice (Rect.unit (s := S3x8x8x256) ![1, 0, 0, 0] S1x8x8x256.size inb_S3x8x8x256_S1x8x8x256_1_0_0_0) (fun _ => rfl)).squeeze S8x8x256 squeezes_S1x8x8x256_S8x8x256
abbrev rW2 : Memref sig .tc .vmem S8x8x256 .f32 := (rBuf.slice (Rect.unit (s := S3x8x8x256) ![2, 0, 0, 0] S1x8x8x256.size inb_S3x8x8x256_S1x8x8x256_2_0_0_0) (fun _ => rfl)).squeeze S8x8x256 squeezes_S1x8x8x256_S8x8x256
abbrev rW : Fin 3 → Memref sig .tc .vmem S8x8x256 .f32 | 0 => rW0 | 1 => rW1 | 2 => rW2

/-- One exchange's credit. -/
abbrev N : ℕ := rW0.view.dmaCredit
theorem N_pos : 0 < N := View.dmaCredit_pos _ (by decide)

/-! ## What is exchanged -/

/-- A device's partial result: running maximum, running sum, running weighted sum. -/
structure Part (F : FTy → Type) where
  m : Vec F S8x8x1 .f32
  l : Vec F S8x8x1 .f32
  a : Vec F S8x8x128 .f32

/-- `x` holds the partial result `p` in its first 130 columns. -/
structure Packed (p : Part F) (x : Vec F S8x8x256 .f32) : Prop where
  a : ∀ (i j : Fin 8) (k : Fin 128), x (ix3 i j ⟨k.val, by omega⟩) = p.a (ix3 i j k)
  m : ∀ i j : Fin 8, x (ix3 i j ⟨128, by decide⟩) = p.m (ix3 i j 0)
  l : ∀ i j : Fin 8, x (ix3 i j ⟨129, by decide⟩) = p.l (ix3 i j 0)

variable (T : Fin 3 → Dev nD → Part F)

/-- What the stage's partner hands `c` by its barrier signal: its landing window, its receive cell open. -/
def barPay (s : Fin 3) (c : Dev nD) : sProp 𝕄 := iprop((∃ f, heldQ (peer s c) (rW s) fullShare f) ∗ reached ER (recvCell s (peer s c)) 0)
/-- What arrives at stage `s`: the window with the partner's partial result in it. -/
def recvPay (s : Fin 3) (c : Dev nD) : sProp 𝕄 :=
  iprop(∃ f : BufAt (F := F) c (rW s), ⌜Packed (T s (peer s c)) ((rW s).view.read (Elt F) f)⌝ ∗ heldQ c (rW s) fullShare f)
/-- What a completed send gives back: the send buffer. -/
def sendPay (c : Dev nD) : sProp 𝕄 := iprop(∃ f, heldQ (F := F) c sBuf fullShare f)

instance barPay_storable (s : Fin 3) (c : Dev nD) : BI.Storable (upEmb : UEmb _ 𝕄) (barPay s c) := by unfold barPay; infer_instance
instance recvPay_storable (s : Fin 3) (c : Dev nD) : BI.Storable (upEmb : UEmb _ 𝕄) (recvPay T s c) := by unfold recvPay; infer_instance
instance sendPay_storable (c : Dev nD) : BI.Storable (upEmb : UEmb _ 𝕄) (sendPay (F := F) c) := by unfold sendPay; infer_instance

/-! ## The schedule -/

abbrev IsBar (g : GSem nD τ sig) : Prop := g.1.2 = .tc ∧ g.2 = .reg barS
abbrev IsXfer (g : GSem nD τ sig) : Prop := g.1.2 = .tc ∧ ((∃ s, g.2 = .dma (sendS s)) ∨ ∃ s, g.2 = .dma (recvS s))

/-- One round per cell: a barrier cell has one unit from each of the three partners, a send or a receive cell one
    exchange's credit. -/
def Rd : Rounds.Schedule (GSem nD τ sig) Duty 𝕄 where
  duties g r := if r = 0 ∧ IsBar g then Finset.univ else if r = 0 ∧ IsXfer g then {0} else ∅
  unitless _ := False
  amount g _ _ := if g.2 = .reg barS then 1 else N
  payload g _ d :=
    if g.2 = .reg barS then barPay d g.1.1
    else if g.2 = .dma (recvS 0) then recvPay T 0 g.1.1
    else if g.2 = .dma (recvS 1) then recvPay T 1 g.1.1
    else if g.2 = .dma (recvS 2) then recvPay T 2 g.1.1
    else sendPay g.1.1
  amount_pos g _ _ _ := by
    by_cases h : g.2 = .reg barS
    · rw [if_pos h]; exact Nat.one_pos
    · rw [if_neg h]; exact N_pos

instance Rd_storable (g : GSem nD τ sig) (r : ℕ) (d : Duty) : BI.Storable (upEmb : UEmb _ 𝕄) ((Rd T).payload g r d) := by
  dsimp only [Rd]
  (repeat' split) <;> infer_instance

section Sched
variable (s : Fin 3) (c : Dev nD)

omit [FloatOps F] in
theorem duties_bar : (Rd T).duties (barCell c) 0 = Finset.univ := by dsimp only [Rd]; exact if_pos ⟨rfl, rfl, rfl⟩
omit [FloatOps F] in
theorem duties_send : (Rd T).duties (sendCell s c) 0 = {0} := by
  dsimp only [Rd]; rw [if_neg (fun h => dma_ne_bar h.2.2)]; exact if_pos ⟨rfl, rfl, .inl ⟨s, rfl⟩⟩
omit [FloatOps F] in
theorem duties_recv : (Rd T).duties (recvCell s c) 0 = {0} := by
  dsimp only [Rd]; rw [if_neg (fun h => dma_ne_bar h.2.2)]; exact if_pos ⟨rfl, rfl, .inr ⟨s, rfl⟩⟩
omit [FloatOps F] in
theorem duties_later (g : GSem nD τ sig) : ∀ r, 1 ≤ r → (Rd T).duties g r = ∅ :=
  fun r hr => by dsimp only [Rd]; rw [if_neg fun h => by omega, if_neg fun h => by omega]
omit [FloatOps F] in
theorem amount_bar (d : Duty) : (Rd T).amount (barCell c) 0 d = 1 := by dsimp only [Rd]; exact if_pos rfl
omit [FloatOps F] in
theorem amount_send (d : Duty) : (Rd T).amount (sendCell s c) 0 d = N := by dsimp only [Rd]; exact if_neg dma_ne_bar
omit [FloatOps F] in
theorem amount_recv (d : Duty) : (Rd T).amount (recvCell s c) 0 d = N := by dsimp only [Rd]; exact if_neg dma_ne_bar
omit [FloatOps F] in
theorem expect_bar : (Rd T).expect (barCell c) 0 = 3 := by
  unfold Schedule.expect Schedule.amountOf
  rw [duties_bar, Finset.sum_congr rfl fun d _ => amount_bar T c d, Finset.sum_const, Finset.card_univ, Fintype.card_fin, smul_eq_mul]
omit [FloatOps F] in
theorem expect_send : (Rd T).expect (sendCell s c) 0 = N := by
  unfold Schedule.expect Schedule.amountOf; rw [duties_send, Finset.sum_singleton, amount_send]
omit [FloatOps F] in
theorem expect_recv : (Rd T).expect (recvCell s c) 0 = N := by
  unfold Schedule.expect Schedule.amountOf; rw [duties_recv, Finset.sum_singleton, amount_recv]
omit [FloatOps F] in
theorem payload_bar (d : Duty) : (Rd T).payload (barCell c) 0 d = barPay d c := by dsimp only [Rd]; exact if_pos rfl
omit [FloatOps F] in
theorem payload_send (d : Duty) : (Rd T).payload (sendCell s c) 0 d = sendPay c := by
  dsimp only [Rd]
  rw [if_neg dma_ne_bar, if_neg send_ne_recv, if_neg send_ne_recv, if_neg send_ne_recv]
omit [FloatOps F] in
theorem payload_recv (d : Duty) : (Rd T).payload (recvCell s c) 0 d = recvPay T s c := by
  dsimp only [Rd]
  rw [if_neg dma_ne_bar]
  fin_cases s
  · exact if_pos rfl
  · rw [if_neg (fun h => absurd (recv_inj (s := 1) h) (by decide))]; exact if_pos rfl
  · rw [if_neg (fun h => absurd (recv_inj (s := 2) h) (by decide)), if_neg (fun h => absurd (recv_inj (s := 2) h) (by decide))]; exact if_pos rfl
omit [FloatOps F] in
/-- What the barrier wait brings: the three partners' windows. -/
theorem rest_bar : bigSep ((Rd T).duties (barCell c) 0 \ ∅) (fun d => (Rd T).payload (barCell c) 0 d) = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
omit [FloatOps F] in
theorem rest_send : bigSep ((Rd T).duties (sendCell s c) 0 \ ∅) (fun d => (Rd T).payload (sendCell s c) 0 d) = sendPay c := by
  rw [Finset.sdiff_empty, duties_send, bigSep_singleton, payload_send]
omit [FloatOps F] in
theorem rest_recv : bigSep ((Rd T).duties (recvCell s c) 0 \ ∅) (fun d => (Rd T).payload (recvCell s c) 0 d) = recvPay T s c := by
  rw [Finset.sdiff_empty, duties_recv, bigSep_singleton, payload_recv]
end Sched

/-! ## What a device owes; the levels -/

/-- The credit a device owes its partner's receive cell. -/
abbrev owR (s : Fin 3) (c : Dev nD) : CellTallies nD τ sig Unit := tallyAt (recvCell s (peer s c)) () N
abbrev owB (s : Fin 3) (c : Dev nD) : CellTallies nD τ sig Unit := tallyAt (barCell (peer s c)) () 1
/-- After the barrier signals: the three exchanges, first one outermost. -/
def O₁ (c : Dev nD) : CellTallies nD τ sig Unit := owR 2 c + owR 1 c + owR 0 c
/-- At launch: the barrier signals besides. -/
def O₀ (c : Dev nD) : CellTallies nD τ sig Unit := O₁ c + owB 2 c + owB 1 c + owB 0 c

def L (g : GSem nD τ sig) : Finset Unit := if g.1.2 = .tc then {()} else ∅
/-- Barrier cells at 1, the receive cells above them in the order of the stages, every other cell at 0. -/
def lv (g : GSem nD τ sig) (_ : Unit) : ℕ :=
  if g.2 = .reg barS then 1 else if g.2 = .dma (recvS 0) then 2 else if g.2 = .dma (recvS 1) then 3 else if g.2 = .dma (recvS 2) then 4 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (s : Fin 3) (c : Dev nD) (u : Unit) : lv (recvCell s c) u = 2 + s.val := by
  unfold lv
  rw [if_neg dma_ne_bar]
  fin_cases s
  · exact if_pos rfl
  · rw [if_neg (fun h => absurd (recv_inj (s := 1) h) (by decide))]; exact if_pos rfl
  · rw [if_neg (fun h => absurd (recv_inj (s := 2) h) (by decide)), if_neg (fun h => absurd (recv_inj (s := 2) h) (by decide))]; exact if_pos rfl
theorem lv_dma (c : Dev nD) (q : DmaSem sig) (hq : q.val < 11) (u : Unit) : lv ((c : Thread nD τ), .dma q) u = 0 := by
  have hne : ∀ s : Fin 3, SemLoc.dma q ≠ .dma (recvS s) := fun s h => by
    have h1 : q.val = (recvS s).val := by rw [SemLoc.dma.inj h]
    rw [recvS_val] at h1; omega
  unfold lv
  rw [if_neg dma_ne_bar, if_neg (hne 0), if_neg (hne 1), if_neg (hne 2)]

/-- A tally at one cell is positive at that cell only. -/
theorem tally_pos {g₀ g : GSem nD τ sig} {k : ℕ} {u : Unit} (h : 0 < (tallyAt g₀ () k : CellTallies nD τ sig Unit) g u) : g = g₀ := by
  rw [tallyAt_apply] at h
  by_contra hn
  rw [if_neg (fun h' => hn h'.1)] at h
  exact Nat.lt_irrefl 0 h
theorem add_pos_or {O O' : CellTallies nD τ sig Unit} {g : GSem nD τ sig} {u : Unit} (h : 0 < (O + O') g u) : 0 < O g u ∨ 0 < O' g u := by
  rw [Pi.add_apply, Finsupp.add_apply] at h; omega

/-- Every cell `O` owes is a TensorCore cell above level `b`. -/
def Above (b : ℕ) (O : CellTallies nD τ sig Unit) : Prop := ∀ g u, 0 < O g u → g.1.2 = .tc ∧ b < lv g u
theorem Above.zero (b : ℕ) : Above b 0 := fun g u h => absurd h (Nat.lt_irrefl 0)
theorem Above.add {b : ℕ} {O O' : CellTallies nD τ sig Unit} (h : Above b O) (h' : Above b O') : Above b (O + O') :=
  fun g u hp => (add_pos_or hp).elim (h g u) (h' g u)
theorem Above.recv {b : ℕ} (s : Fin 3) (c : Dev nD) (hb : b < 2 + s.val) : Above b (tallyAt (recvCell s c) () N) :=
  fun g u hp => by rw [tally_pos hp, lv_recv]; exact ⟨rfl, hb⟩
theorem Above.bar {b : ℕ} (c : Dev nD) (hb : b < 1) : Above b (tallyAt (barCell c) () 1) :=
  fun g u hp => by rw [tally_pos hp, lv_bar]; exact ⟨rfl, hb⟩
theorem above_O₁ {b : ℕ} (hb : b < 2) (c : Dev nD) : Above b (O₁ c) :=
  ((Above.recv 2 _ (by show b < 2 + 2; omega)).add (Above.recv 1 _ (by show b < 2 + 1; omega))).add (Above.recv 0 _ (by show b < 2 + 0; omega))
theorem above_O₀ (c : Dev nD) : Above 0 (O₀ c) :=
  (((above_O₁ (by decide) c).add (Above.bar _ (by decide))).add (Above.bar _ (by decide))).add (Above.bar _ (by decide))

omit [FloatOps F] in
/-- A device may wait at a cell of level `b` while all it owes is above `b`. -/
theorem mayWait_of (c : Dev nD) (sm : SemLoc sig) (b : ℕ) (hb : lv ((c : Thread nD τ), sm) () = b) {O : CellTallies nD τ sig Unit} (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb.le)
    (fun g u hg => (hO g u hg).2)

end Cert.KernelIdeal.Hand

end
-- ==== Proof.Split.lean ====
module

public import proofs.«01_k».proof.Proof.Protocol
public import Idealize.ShloMosaic.Lib.Pipeline.Launch
public import Idealize.ShloMosaic.Lib.Pointwise
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The blocks' heads: the waits for the block's windows, then the eight heads' updates. -/
def headProg (i : grid0.Coords) (arg1 : Memref sig .tc .vmem S8x1024 .f32) (harg1 : arg1.IsWhole) (arg2 : Memref sig .tc .hbm S8192x8x128 .f32) (harg2 : arg2.IsWhole) (arg3 : Memref sig .tc .hbm S8192x8x128 .f32) (harg3 : arg3.IsWhole) (arg4 : Memref sig .tc .vmem S8x512 .i32) (harg4 : arg4.IsWhole) (arg5 : Memref sig .tc .vmem S8x1 .i32) (harg5 : arg5.IsWhole) (arg6 : Memref sig .tc .vmem S8x8x128 .f32) (harg6 : arg6.IsWhole) (arg7 : Memref sig .tc .vmem S8x8x1 .f32) (harg7 : arg7.IsWhole) (arg8 : Memref sig .tc .vmem S8x8x1 .f32) (harg8 : arg8.IsWhole) (arg9 : Memref sig .tc .vmem S8x8x128 .f32) (harg9 : arg9.IsWhole) (arg10 : Memref sig .tc .vmem S2x8x1024x128 .f32) (harg10 : arg10.IsWhole) (arg11 : Memref sig .tc .vmem S2x8x1024x128 .f32) (harg11 : arg11.IsWhole) (arg12 : Memref sig .tc .vmem S8x8x256 .f32) (harg12 : arg12.IsWhole) (arg13 : Memref sig .tc .vmem S3x8x8x256 .f32) (harg13 : arg13.IsWhole) (arg14 : DmaSems sig S2) (arg15 : DmaSems sig S2) (arg16 : DmaSems sig S3) (arg17 : DmaSems sig S3) (arg0 : BitVec 32) (d0 : Dev nD) (v10 : BitVec 32) (v28 : IVec S64x8x512 32) (v33 : IVec S8x512 1) :
    Prog (TpuEff nD τ sig (Elt F) Λ₀ .tc) PUnit := do
  let ⟨v74, v76, v78, v79, c0_i32_24⟩ : Σ' (v74 : FVec F S8x1024 .f32) (v76 : IVec S8x1024 1) (v78 : BitVec 32) (v79 : BitVec 32), BitVec 32 ← k0_part17 i arg1 harg1 arg2 harg2 arg3 harg3 arg4 harg4 arg5 harg5 arg6 harg6 arg7 harg7 arg8 harg8 arg9 harg9 arg10 harg10 arg11 harg11 arg12 harg12 arg13 harg13 arg14 arg15 arg16 arg17 arg0 v28 v33
  let v86 : BitVec 32 ← k0_part18 i arg1 harg1 arg2 harg2 arg3 harg3 arg4 harg4 arg5 harg5 arg6 harg6 arg7 harg7 arg8 harg8 arg9 harg9 arg10 harg10 arg11 harg11 arg12 harg12 arg13 harg13 arg14 arg15 arg16 arg17 arg0 d0 v10 v78 v79 c0_i32_24
  k0_part19 i arg1 harg1 arg2 harg2 arg3 harg3 arg4 harg4 arg5 harg5 arg6 harg6 arg7 harg7 arg8 harg8 arg9 harg9 arg10 harg10 arg11 harg11 arg12 harg12 arg13 harg13 arg14 arg15 arg16 arg17 d0
  k0_part20 i arg1 harg1 arg2 harg2 arg3 harg3 arg4 harg4 arg5 harg5 arg6 harg6 arg7 harg7 arg8 harg8 arg9 harg9 arg10 harg10 arg11 harg11 arg12 harg12 arg13 harg13 arg14 arg15 arg16 arg17 d0
  let ⟨v194, v199, v201, v203⟩ : Σ' (v194 : FVec F S1024x128 .f32) (v199 : FVec F S8x1024 .f32) (v201 : FVec F S8x1 .f32), FVec F S8x1 .f32 ← k0_part21 i arg1 harg1 arg2 harg2 arg3 harg3 arg4 harg4 arg5 harg5 arg6 harg6 arg7 harg7 arg8 harg8 arg9 harg9 arg10 harg10 arg11 harg11 arg12 harg12 arg13 harg13 arg14 arg15 arg16 arg17 d0 v76 v86
  let ⟨v233, v236⟩ : Σ' (v233 : FVec F S8x128 .f32), FVec F S1024x128 .f32 ← k0_part22 i arg1 harg1 arg2 harg2 arg3 harg3 arg4 harg4 arg5 harg5 arg6 harg6 arg7 harg7 arg8 harg8 arg9 harg9 arg10 harg10 arg11 harg11 arg12 harg12 arg13 harg13 arg14 arg15 arg16 arg17 v74 v86 v194 v199 v201 v203
  let ⟨v249, v273⟩ : Σ' (v249 : FVec F S8x1 .f32), FVec F S1x8x128 .f32 ← k0_part23 i arg1 harg1 arg2 harg2 arg3 harg3 arg4 harg4 arg5 harg5 arg6 harg6 arg7 harg7 arg8 harg8 arg9 harg9 arg10 harg10 arg11 harg11 arg12 harg12 arg13 harg13 arg14 arg15 arg16 arg17 v74 v76 v233 v236
  let ⟨v284, v294, v296, v300, v306⟩ : Σ' (v284 : FVec F S1024x128 .f32) (v294 : FVec F S8x1 .f32) (v296 : FVec F S8x1 .f32) (v300 : FVec F S8x1024 .f32), FVec F S8x1 .f32 ← k0_part24 i arg1 harg1 arg2 harg2 arg3 harg3 arg4 harg4 arg5 harg5 arg6 harg6 arg7 harg7 arg8 harg8 arg9 harg9 arg10 harg10 arg11 harg11 arg12 harg12 arg13 harg13 arg14 arg15 arg16 arg17 v74 v76 v86 v249 v273
  let ⟨v329, v334, v336, v338⟩ : Σ' (v329 : FVec F S1024x128 .f32) (v334 : FVec F S8x1024 .f32) (v336 : FVec F S8x1 .f32), FVec F S8x1 .f32 ← k0_part25 i arg1 harg1 arg2 harg2 arg3 harg3 arg4 harg4 arg5 harg5 arg6 harg6 arg7 harg7 arg8 harg8 arg9 harg9 arg10 harg10 arg11 harg11 arg12 harg12 arg13 harg13 arg14 arg15 arg16 arg17 v76 v86 v284 v294 v296 v300 v306
  let ⟨v368, v371⟩ : Σ' (v368 : FVec F S8x128 .f32), FVec F S1024x128 .f32 ← k0_part26 i arg1 harg1 arg2 harg2 arg3 harg3 arg4 harg4 arg5 harg5 arg6 harg6 arg7 harg7 arg8 harg8 arg9 harg9 arg10 harg10 arg11 harg11 arg12 harg12 arg13 harg13 arg14 arg15 arg16 arg17 v74 v86 v329 v334 v336 v338
  let ⟨v384, v408⟩ : Σ' (v384 : FVec F S8x1 .f32), FVec F S1x8x128 .f32 ← k0_part27 i arg1 harg1 arg2 harg2 arg3 harg3 arg4 harg4 arg5 harg5 arg6 harg6 arg7 harg7 arg8 harg8 arg9 harg9 arg10 harg10 arg11 harg11 arg12 harg12 arg13 harg13 arg14 arg15 arg16 arg17 v74 v76 v368 v371
  let ⟨v419, v429, v431, v435, v441⟩ : Σ' (v419 : FVec F S1024x128 .f32) (v429 : FVec F S8x1 .f32) (v431 : FVec F S8x1 .f32) (v435 : FVec F S8x1024 .f32), FVec F S8x1 .f32 ← k0_part28 i arg1 harg1 arg2 harg2 arg3 harg3 arg4 harg4 arg5 harg5 arg6 harg6 arg7 harg7 arg8 harg8 arg9 harg9 arg10 harg10 arg11 harg11 arg12 harg12 arg13 harg13 arg14 arg15 arg16 arg17 v74 v76 v86 v384 v408
  let ⟨v464, v469, v471, v473⟩ : Σ' (v464 : FVec F S1024x128 .f32) (v469 : FVec F S8x1024 .f32) (v471 : FVec F S8x1 .f32), FVec F S8x1 .f32 ← k0_part29 i arg1 harg1 arg2 harg2 arg3 harg3 arg4 harg4 arg5 harg5 arg6 harg6 arg7 harg7 arg8 harg8 arg9 harg9 arg10 harg10 arg11 harg11 arg12 harg12 arg13 harg13 arg14 arg15 arg16 arg17 v76 v86 v419 v429 v431 v435 v441
  let ⟨v503, v506⟩ : Σ' (v503 : FVec F S8x128 .f32), FVec F S1024x128 .f32 ← k0_part30 i arg1 harg1 arg2 harg2 arg3 harg3 arg4 harg4 arg5 harg5 arg6 harg6 arg7 harg7 arg8 harg8 arg9 harg9 arg10 harg10 arg11 harg11 arg12 harg12 arg13 harg13 arg14 arg15 arg16 arg17 v74 v86 v464 v469 v471 v473
  let ⟨v519, v543⟩ : Σ' (v519 : FVec F S8x1 .f32), FVec F S1x8x128 .f32 ← k0_part31 i arg1 harg1 arg2 harg2 arg3 harg3 arg4 harg4 arg5 harg5 arg6 harg6 arg7 harg7 arg8 harg8 arg9 harg9 arg10 harg10 arg11 harg11 arg12 harg12 arg13 harg13 arg14 arg15 arg16 arg17 v74 v76 v503 v506
  Prog.lift (.store arg9 (Rect.unit (s := S8x8x128) ![7, 0, 0] S1x8x128.size inb_S8x8x128_S1x8x128_7_0_0) v543 Finset.univ (View.stores_vmem_bits_univ h_S1x8x128 rfl) (.inl rfl))
  let v544 : Vec F S1x8x1 .f32 ← Prog.lift (.load arg7 (Rect.unit (s := S8x8x1) ![7, 0, 0] S1x8x1.size inb_S8x8x1_S1x8x1_7_0_0).toLoadRect (View.loadsAt_vmem h_S1x8x1))
  Prog.lift (.store arg7 (Rect.unit (s := S8x8x1) ![7, 0, 0] S1x8x1.size inb_S8x8x1_S1x8x1_7_0_0) (k0_pay1 v519) Finset.univ (View.stores_vmem_bits_univ h_S1x8x1 rfl) (.inl rfl))

/-- The last block's end: the three exchanges, and the division. -/
def tailProg (i : grid0.Coords) (arg1 : Memref sig .tc .vmem S8x1024 .f32) (harg1 : arg1.IsWhole) (arg2 : Memref sig .tc .hbm S8192x8x128 .f32) (harg2 : arg2.IsWhole) (arg3 : Memref sig .tc .hbm S8192x8x128 .f32) (harg3 : arg3.IsWhole) (arg4 : Memref sig .tc .vmem S8x512 .i32) (harg4 : arg4.IsWhole) (arg5 : Memref sig .tc .vmem S8x1 .i32) (harg5 : arg5.IsWhole) (arg6 : Memref sig .tc .vmem S8x8x128 .f32) (harg6 : arg6.IsWhole) (arg7 : Memref sig .tc .vmem S8x8x1 .f32) (harg7 : arg7.IsWhole) (arg8 : Memref sig .tc .vmem S8x8x1 .f32) (harg8 : arg8.IsWhole) (arg9 : Memref sig .tc .vmem S8x8x128 .f32) (harg9 : arg9.IsWhole) (arg10 : Memref sig .tc .vmem S2x8x1024x128 .f32) (harg10 : arg10.IsWhole) (arg11 : Memref sig .tc .vmem S2x8x1024x128 .f32) (harg11 : arg11.IsWhole) (arg12 : Memref sig .tc .vmem S8x8x256 .f32) (harg12 : arg12.IsWhole) (arg13 : Memref sig .tc .vmem S3x8x8x256 .f32) (harg13 : arg13.IsWhole) (arg14 : DmaSems sig S2) (arg15 : DmaSems sig S2) (arg16 : DmaSems sig S3) (arg17 : DmaSems sig S3) (d0 : Dev nD) (v2 v5 v8 : BitVec 32) :
    Prog (TpuEff nD τ sig (Elt F) Λ₀ .tc) PUnit := do
  if k0_h4 : k0_cond4 i = 1#1 then do
    let ⟨v562, v563, v564⟩ : Σ' (v562 : BitVec 32) (v563 : BitVec 32), BitVec 32 ← k0_part8 i arg1 harg1 arg2 harg2 arg3 harg3 arg4 harg4 arg5 harg5 arg6 harg6 arg7 harg7 arg8 harg8 arg9 harg9 arg10 harg10 arg11 harg11 arg12 harg12 arg13 harg13 arg14 arg15 arg16 arg17 v2 v5 v8
    let ⟨v592, v594, v596, v598⟩ : Σ' (v592 : FVec F S8x8x1 .f32) (v594 : FVec F S8x8x1 .f32) (v596 : FVec F S8x8x128 .f32), FVec F S8x8x1 .f32 ← k0_part9 i arg1 harg1 arg2 harg2 arg3 harg3 arg4 harg4 arg5 harg5 arg6 harg6 arg7 harg7 arg8 harg8 arg9 harg9 arg10 harg10 arg11 harg11 arg12 harg12 arg13 harg13 arg14 arg15 arg16 arg17 d0 v2 v5 k0_h4 v562
    let v627 : Vec F S8x8x1 .f32 ← k0_part10 i arg1 harg1 arg2 harg2 arg3 harg3 arg4 harg4 arg5 harg5 arg6 harg6 arg7 harg7 arg8 harg8 arg9 harg9 arg10 harg10 arg11 harg11 arg12 harg12 arg13 harg13 arg14 arg15 arg16 arg17 v592 v594 v596 v598
    let ⟨v652, v653⟩ : Σ' (v652 : BitVec 32), BitVec 32 ← k0_part11 i arg1 harg1 arg2 harg2 arg3 harg3 arg4 harg4 arg5 harg5 arg6 harg6 arg7 harg7 arg8 harg8 arg9 harg9 arg10 harg10 arg11 harg11 arg12 harg12 arg13 harg13 arg14 arg15 arg16 arg17 d0 v2 v8 k0_h4 v563 v627
    let ⟨v666, v668, v671, v673⟩ : Σ' (v666 : FVec F S8x8x128 .f32) (v668 : FVec F S8x8x1 .f32) (v671 : FVec F S8x8x1 .f32), FVec F S8x8x1 .f32 ← k0_part12 i arg1 harg1 arg2 harg2 arg3 harg3 arg4 harg4 arg5 harg5 arg6 harg6 arg7 harg7 arg8 harg8 arg9 harg9 arg10 harg10 arg11 harg11 arg12 harg12 arg13 harg13 arg14 arg15 arg16 arg17 v8 v652 v653
    let v706 : BitVec 32 ← k0_part13 i arg1 harg1 arg2 harg2 arg3 harg3 arg4 harg4 arg5 harg5 arg6 harg6 arg7 harg7 arg8 harg8 arg9 harg9 arg10 harg10 arg11 harg11 arg12 harg12 arg13 harg13 arg14 arg15 arg16 arg17 v564 v666 v668 v671 v673
    let ⟨v732, v733⟩ : Σ' (v732 : FVec F S8x8x1 .f32), Vec F S1x8x8x1 .f32 ← k0_part14 i arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v8 k0_h4 v564 v706
    k0_part15 i arg1 harg1 arg2 harg2 arg3 harg3 arg4 harg4 arg5 harg5 arg6 harg6 arg7 harg7 arg8 harg8 arg9 harg9 arg10 harg10 arg11 harg11 arg12 harg12 arg13 harg13 arg14 arg15 arg16 arg17 v732 v733
    let v763 : Vec F S8x8x128 .f32 ← Prog.lift (.load arg9 (Rect.unit (s := S8x8x128) ![0, 0, 0] S8x8x128.size inb_S8x8x128_S8x8x128_0_0_0).toLoadRect (View.loadsAt_vmem h_S8x8x128))
    let v764 : Vec F S8x8x1 .f32 ← Prog.lift (.load arg8 (Rect.unit (s := S8x8x1) ![0, 0, 0] S8x8x1.size inb_S8x8x1_S8x8x1_0_0_0).toLoadRect (View.loadsAt_vmem h_S8x8x1))
    let v767 : Vec F S8x8x128 .f32 ← Prog.lift (.load arg6 (Rect.unit (s := S8x8x128) ![0, 0, 0] S8x8x128.size inb_S8x8x128_S8x8x128_0_0_0).toLoadRect (View.loadsAt_vmem h_S8x8x128))
    Prog.lift (.store arg6 (Rect.unit (s := S8x8x128) ![0, 0, 0] S8x8x128.size inb_S8x8x128_S8x8x128_0_0_0) (k0_pay2 v763 v764) Finset.univ (View.stores_vmem_bits_univ h_S8x8x128 rfl) (.inl rfl))
    pure ⟨⟩
  else do
    pure ⟨⟩
  pure ⟨⟩

theorem body_split (i : grid0.Coords) (arg1 : Memref sig .tc .vmem S8x1024 .f32) (harg1 : arg1.IsWhole) (arg2 : Memref sig .tc .hbm S8192x8x128 .f32) (harg2 : arg2.IsWhole) (arg3 : Memref sig .tc .hbm S8192x8x128 .f32) (harg3 : arg3.IsWhole) (arg4 : Memref sig .tc .vmem S8x512 .i32) (harg4 : arg4.IsWhole) (arg5 : Memref sig .tc .vmem S8x1 .i32) (harg5 : arg5.IsWhole) (arg6 : Memref sig .tc .vmem S8x8x128 .f32) (harg6 : arg6.IsWhole) (arg7 : Memref sig .tc .vmem S8x8x1 .f32) (harg7 : arg7.IsWhole) (arg8 : Memref sig .tc .vmem S8x8x1 .f32) (harg8 : arg8.IsWhole) (arg9 : Memref sig .tc .vmem S8x8x128 .f32) (harg9 : arg9.IsWhole) (arg10 : Memref sig .tc .vmem S2x8x1024x128 .f32) (harg10 : arg10.IsWhole) (arg11 : Memref sig .tc .vmem S2x8x1024x128 .f32) (harg11 : arg11.IsWhole) (arg12 : Memref sig .tc .vmem S8x8x256 .f32) (harg12 : arg12.IsWhole) (arg13 : Memref sig .tc .vmem S3x8x8x256 .f32) (harg13 : arg13.IsWhole) (arg14 : DmaSems sig S2) (arg15 : DmaSems sig S2) (arg16 : DmaSems sig S3) (arg17 : DmaSems sig S3) :
    cc0_body (F := F) i arg1 harg1 arg2 harg2 arg3 harg3 arg4 harg4 arg5 harg5 arg6 harg6 arg7 harg7 arg8 harg8 arg9 harg9 arg10 harg10 arg11 harg11 arg12 harg12 arg13 harg13 arg14 arg15 arg16 arg17
      = k0_part16 i arg1 harg1 arg2 harg2 arg3 harg3 arg4 harg4 arg5 harg5 arg6 harg6 arg7 harg7 arg8 harg8 arg9 harg9 arg10 harg10 arg11 harg11 arg12 harg12 arg13 harg13 arg14 arg15 arg16 arg17 >>= fun x => headProg i arg1 harg1 arg2 harg2 arg3 harg3 arg4 harg4 arg5 harg5 arg6 harg6 arg7 harg7 arg8 harg8 arg9 harg9 arg10 harg10 arg11 harg11 arg12 harg12 arg13 harg13 arg14 arg15 arg16 arg17 x.1 x.2.1 x.2.2.2.2.2.1 x.2.2.2.2.2.2.1 x.2.2.2.2.2.2.2
          >>= fun _ => tailProg i arg1 harg1 arg2 harg2 arg3 harg3 arg4 harg4 arg5 harg5 arg6 harg6 arg7 harg7 arg8 harg8 arg9 harg9 arg10 harg10 arg11 harg11 arg12 harg12 arg13 harg13 arg14 arg15 arg16 arg17 x.2.1 x.2.2.1 x.2.2.2.1 x.2.2.2.2.1 := by
  rw [cc0_body_eq_skeleton]
  unfold cc0_body_skel headProg tailProg
  repeat (first | rfl | (simp only [bind_assoc]; congr 1; funext x) | simp only [bind_assoc])

end Cert.KernelIdeal.Hand

end
-- ==== Proof.Windows.lean ====
module

public import proofs.«01_k».proof.Proof.Split
public import Idealize.ShloMosaic.Lib.Pipeline.Launch
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The windows of slot 0 of the k buffer, each at some contents. -/
def kFree0 (c : Dev nD) : sProp 𝕄 := iprop((∃ f, heldQ c kD00 fullShare f) ∗ (∃ f, heldQ c kD01 fullShare f) ∗ (∃ f, heldQ c kD02 fullShare f) ∗ (∃ f, heldQ c kD03 fullShare f) ∗ (∃ f, heldQ c kD04 fullShare f) ∗ (∃ f, heldQ c kD05 fullShare f) ∗ (∃ f, heldQ c kD06 fullShare f) ∗ (∃ f, heldQ c kD07 fullShare f))

/-- The windows of slot 1 of the k buffer, each at some contents. -/
def kFree1 (c : Dev nD) : sProp 𝕄 := iprop((∃ f, heldQ c kD10 fullShare f) ∗ (∃ f, heldQ c kD11 fullShare f) ∗ (∃ f, heldQ c kD12 fullShare f) ∗ (∃ f, heldQ c kD13 fullShare f) ∗ (∃ f, heldQ c kD14 fullShare f) ∗ (∃ f, heldQ c kD15 fullShare f) ∗ (∃ f, heldQ c kD16 fullShare f) ∗ (∃ f, heldQ c kD17 fullShare f))

/-- The windows of slot 0 of the v buffer, each at some contents. -/
def vFree0 (c : Dev nD) : sProp 𝕄 := iprop((∃ f, heldQ c vD00 fullShare f) ∗ (∃ f, heldQ c vD01 fullShare f) ∗ (∃ f, heldQ c vD02 fullShare f) ∗ (∃ f, heldQ c vD03 fullShare f) ∗ (∃ f, heldQ c vD04 fullShare f) ∗ (∃ f, heldQ c vD05 fullShare f) ∗ (∃ f, heldQ c vD06 fullShare f) ∗ (∃ f, heldQ c vD07 fullShare f))

/-- The windows of slot 1 of the v buffer, each at some contents. -/
def vFree1 (c : Dev nD) : sProp 𝕄 := iprop((∃ f, heldQ c vD10 fullShare f) ∗ (∃ f, heldQ c vD11 fullShare f) ∗ (∃ f, heldQ c vD12 fullShare f) ∗ (∃ f, heldQ c vD13 fullShare f) ∗ (∃ f, heldQ c vD14 fullShare f) ∗ (∃ f, heldQ c vD15 fullShare f) ∗ (∃ f, heldQ c vD16 fullShare f) ∗ (∃ f, heldQ c vD17 fullShare f))

/-! ## A landing buffer as its sixteen windows -/

theorem hInb : ∀ b : Fin 16, ∀ a, (![b.val / 8, b.val % 8, 0, 0] : Fin 4 → ℕ) a + S1x1x1024x128.size a ≤ S2x8x1024x128.size a := by decide
/-- The elements of window `b`. -/
abbrev hset (b : Fin 16) : Finset S2x8x1024x128.Idx := (Rect.unit (s := S2x8x1024x128) ![b.val / 8, b.val % 8, 0, 0] S1x1x1024x128.size (hInb b)).set
theorem mem_hset (b : Fin 16) (y : S2x8x1024x128.Idx) : y ∈ hset b ↔ (y 0).val = b.val / 8 ∧ (y 1).val = b.val % 8 := by
  rw [Rect.mem_set_unit]
  have h2 : (y 2).val < 1024 := (y 2).isLt
  have h3 : (y 3).val < 128 := (y 3).isLt
  constructor
  · intro H
    have a0 : b.val / 8 ≤ (y 0).val ∧ (y 0).val < b.val / 8 + 1 := H 0
    have a1 : b.val % 8 ≤ (y 1).val ∧ (y 1).val < b.val % 8 + 1 := H 1
    omega
  · intro H a; fin_cases a
    · show b.val / 8 ≤ (y 0).val ∧ (y 0).val < b.val / 8 + 1; omega
    · show b.val % 8 ≤ (y 1).val ∧ (y 1).val < b.val % 8 + 1; omega
    · show 0 ≤ (y 2).val ∧ (y 2).val < 0 + 1024; omega
    · show 0 ≤ (y 3).val ∧ (y 3).val < 0 + 128; omega
theorem hset_disjoint : ∀ b b' : Fin 16, b ≠ b' → Disjoint (hset b) (hset b') := fun b b' hne => by
  rw [Finset.disjoint_left]; intro y hy hy'; rw [mem_hset] at hy hy'; exact hne (Fin.ext (by omega))
theorem hset_cover : Finset.univ.biUnion hset = Finset.univ := by
  ext y; simp only [Finset.mem_biUnion, Finset.mem_univ, true_and, iff_true]
  have h0 : (y 0).val < 2 := (y 0).isLt
  have h1 : (y 1).val < 8 := (y 1).isLt
  exact ⟨⟨(y 0).val * 8 + (y 1).val, by omega⟩, (mem_hset _ _).mpr ⟨by show (y 0).val = ((y 0).val * 8 + (y 1).val) / 8; omega, by show (y 1).val = ((y 0).val * 8 + (y 1).val) % 8; omega⟩⟩

/-- Window `b` of the k buffer, of the v buffer. -/
abbrev kWin (b : Fin 16) : Memref sig .tc .vmem S1024x128 .f32 := hWin kBuf ![b.val / 8, b.val % 8, 0, 0] (hInb b)
abbrev vWin (b : Fin 16) : Memref sig .tc .vmem S1024x128 .f32 := hWin vBuf ![b.val / 8, b.val % 8, 0, 0] (hInb b)

theorem kset_eq (b : Fin 16) : (kWin b).view.set = hset b := by
  unfold kWin hWin; exact (View.set_reshape _ _).trans (View.set_slice_whole _ _)
omit [FloatOps F] in
theorem k_list (c : Dev nD) : (bigSep Finset.univ (fun b : Fin 16 => iprop(∃ f, heldQ (F := F) c (kWin b) fullShare f)) : sProp 𝕄) = iprop((∃ f, heldQ c kD00 fullShare f) ∗ (∃ f, heldQ c kD01 fullShare f) ∗ (∃ f, heldQ c kD02 fullShare f) ∗ (∃ f, heldQ c kD03 fullShare f) ∗ (∃ f, heldQ c kD04 fullShare f) ∗ (∃ f, heldQ c kD05 fullShare f) ∗ (∃ f, heldQ c kD06 fullShare f) ∗ (∃ f, heldQ c kD07 fullShare f) ∗ (∃ f, heldQ c kD10 fullShare f) ∗ (∃ f, heldQ c kD11 fullShare f) ∗ (∃ f, heldQ c kD12 fullShare f) ∗ (∃ f, heldQ c kD13 fullShare f) ∗ (∃ f, heldQ c kD14 fullShare f) ∗ (∃ f, heldQ c kD15 fullShare f) ∗ (∃ f, heldQ c kD16 fullShare f) ∗ (∃ f, heldQ c kD17 fullShare f)) := by
  rw [bigSep_univ_eq_bigSepL [0, 1, 2, 3, 4, 5, 6, 7, 8, 9, 10, 11, 12, 13, 14, 15] (by decide) (by decide)]
  simp only [bigSepL_cons_cons, bigSepL_singleton]
  rfl
omit [FloatOps F] in
/-- Held whole, it is its windows, -/
theorem k_split (c : Dev nD) (f : BufAt (F := F) c kBuf) : ((kBuf.view.loc (c : Thread nD τ)) ↦{fullShare} f : sProp 𝕄) ⊢ iprop(kFree0 (F := F) c ∗ kFree1 (F := F) c) := by
  have h : ((kBuf.view.loc (c : Thread nD τ)) ↦{fullShare} f : sProp 𝕄) ⊢ bigSep Finset.univ (fun b : Fin 16 => iprop(∃ f, heldQ (F := F) c (kWin b) fullShare f)) := by
    refine (Entails.of_eq (Ring.pointsTo_blocks (ℓ := kBuf.view.loc (c : Thread nD τ)) (q := fullShare) hset hset_disjoint hset_cover f)).trans (BI.bigSep_mono fun b _ => ?_)
    show (kBuf.view.loc (c : Thread nD τ) ↦[hset b]{fullShare} f : sProp 𝕄) ⊢ _
    rw [← kset_eq]; iintro H; iexists f; iexact H
  refine h.trans ?_
  rw [k_list]
  unfold kFree0 kFree1
  iintro ⟨H0, H1, H2, H3, H4, H5, H6, H7, H8, H9, H10, H11, H12, H13, H14, H15⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
omit [FloatOps F] in
/-- and back, at some contents. -/
theorem k_join [∀ e, Nonempty (Elt F e)] (c : Dev nD) : iprop(kFree0 (F := F) c ∗ kFree1 (F := F) c) ⊢ (iprop(∃ f, (kBuf.view.loc (c : Thread nD τ)) ↦{fullShare} f) : sProp 𝕄) := by
  have h : bigSep Finset.univ (fun b : Fin 16 => iprop(∃ f, heldQ (F := F) c (kWin b) fullShare f)) ⊢ (iprop(∃ f, (kBuf.view.loc (c : Thread nD τ)) ↦{fullShare} f) : sProp 𝕄) := by
    refine BIBase.Entails.trans ?_ (Ring.pointsTo_blocks_join_exists (ℓ := kBuf.view.loc (c : Thread nD τ)) (q := fullShare) hset hset_disjoint hset_cover kBuf.view.junk)
    refine BI.bigSep_mono fun b _ => ?_
    show _ ⊢ (iprop(∃ f, kBuf.view.loc (c : Thread nD τ) ↦[hset b]{fullShare} f) : sProp 𝕄)
    rw [← kset_eq]
  refine BIBase.Entails.trans ?_ h
  rw [k_list]
  unfold kFree0 kFree1
  iintro ⟨⟨H0, H1, H2, H3, H4, H5, H6, H7⟩, ⟨H8, H9, H10, H11, H12, H13, H14, H15⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem vset_eq (b : Fin 16) : (vWin b).view.set = hset b := by
  unfold vWin hWin; exact (View.set_reshape _ _).trans (View.set_slice_whole _ _)
omit [FloatOps F] in
theorem v_list (c : Dev nD) : (bigSep Finset.univ (fun b : Fin 16 => iprop(∃ f, heldQ (F := F) c (vWin b) fullShare f)) : sProp 𝕄) = iprop((∃ f, heldQ c vD00 fullShare f) ∗ (∃ f, heldQ c vD01 fullShare f) ∗ (∃ f, heldQ c vD02 fullShare f) ∗ (∃ f, heldQ c vD03 fullShare f) ∗ (∃ f, heldQ c vD04 fullShare f) ∗ (∃ f, heldQ c vD05 fullShare f) ∗ (∃ f, heldQ c vD06 fullShare f) ∗ (∃ f, heldQ c vD07 fullShare f) ∗ (∃ f, heldQ c vD10 fullShare f) ∗ (∃ f, heldQ c vD11 fullShare f) ∗ (∃ f, heldQ c vD12 fullShare f) ∗ (∃ f, heldQ c vD13 fullShare f) ∗ (∃ f, heldQ c vD14 fullShare f) ∗ (∃ f, heldQ c vD15 fullShare f) ∗ (∃ f, heldQ c vD16 fullShare f) ∗ (∃ f, heldQ c vD17 fullShare f)) := by
  rw [bigSep_univ_eq_bigSepL [0, 1, 2, 3, 4, 5, 6, 7, 8, 9, 10, 11, 12, 13, 14, 15] (by decide) (by decide)]
  simp only [bigSepL_cons_cons, bigSepL_singleton]
  rfl
omit [FloatOps F] in
/-- Held whole, it is its windows, -/
theorem v_split (c : Dev nD) (f : BufAt (F := F) c vBuf) : ((vBuf.view.loc (c : Thread nD τ)) ↦{fullShare} f : sProp 𝕄) ⊢ iprop(vFree0 (F := F) c ∗ vFree1 (F := F) c) := by
  have h : ((vBuf.view.loc (c : Thread nD τ)) ↦{fullShare} f : sProp 𝕄) ⊢ bigSep Finset.univ (fun b : Fin 16 => iprop(∃ f, heldQ (F := F) c (vWin b) fullShare f)) := by
    refine (Entails.of_eq (Ring.pointsTo_blocks (ℓ := vBuf.view.loc (c : Thread nD τ)) (q := fullShare) hset hset_disjoint hset_cover f)).trans (BI.bigSep_mono fun b _ => ?_)
    show (vBuf.view.loc (c : Thread nD τ) ↦[hset b]{fullShare} f : sProp 𝕄) ⊢ _
    rw [← vset_eq]; iintro H; iexists f; iexact H
  refine h.trans ?_
  rw [v_list]
  unfold vFree0 vFree1
  iintro ⟨H0, H1, H2, H3, H4, H5, H6, H7, H8, H9, H10, H11, H12, H13, H14, H15⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
omit [FloatOps F] in
/-- and back, at some contents. -/
theorem v_join [∀ e, Nonempty (Elt F e)] (c : Dev nD) : iprop(vFree0 (F := F) c ∗ vFree1 (F := F) c) ⊢ (iprop(∃ f, (vBuf.view.loc (c : Thread nD τ)) ↦{fullShare} f) : sProp 𝕄) := by
  have h : bigSep Finset.univ (fun b : Fin 16 => iprop(∃ f, heldQ (F := F) c (vWin b) fullShare f)) ⊢ (iprop(∃ f, (vBuf.view.loc (c : Thread nD τ)) ↦{fullShare} f) : sProp 𝕄) := by
    refine BIBase.Entails.trans ?_ (Ring.pointsTo_blocks_join_exists (ℓ := vBuf.view.loc (c : Thread nD τ)) (q := fullShare) hset hset_disjoint hset_cover vBuf.view.junk)
    refine BI.bigSep_mono fun b _ => ?_
    show _ ⊢ (iprop(∃ f, vBuf.view.loc (c : Thread nD τ) ↦[hset b]{fullShare} f) : sProp 𝕄)
    rw [← vset_eq]
  refine BIBase.Entails.trans ?_ h
  rw [v_list]
  unfold vFree0 vFree1
  iintro ⟨⟨H0, H1, H2, H3, H4, H5, H6, H7⟩, ⟨H8, H9, H10, H11, H12, H13, H14, H15⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-! ## The receive buffer as its three windows -/

theorem rInb : ∀ b : Fin 3, ∀ a, (![b.val, 0, 0, 0] : Fin 4 → ℕ) a + S1x8x8x256.size a ≤ S3x8x8x256.size a := by decide
abbrev rset (b : Fin 3) : Finset S3x8x8x256.Idx := (Rect.unit (s := S3x8x8x256) ![b.val, 0, 0, 0] S1x8x8x256.size (rInb b)).set
theorem mem_rset (b : Fin 3) (y : S3x8x8x256.Idx) : y ∈ rset b ↔ (y 0).val = b.val := by
  rw [Rect.mem_set_unit]
  have h1 : (y 1).val < 8 := (y 1).isLt
  have h2 : (y 2).val < 8 := (y 2).isLt
  have h3 : (y 3).val < 256 := (y 3).isLt
  constructor
  · intro H; have a0 : b.val ≤ (y 0).val ∧ (y 0).val < b.val + 1 := H 0; omega
  · intro H a; fin_cases a
    · show b.val ≤ (y 0).val ∧ (y 0).val < b.val + 1; omega
    · show 0 ≤ (y 1).val ∧ (y 1).val < 0 + 8; omega
    · show 0 ≤ (y 2).val ∧ (y 2).val < 0 + 8; omega
    · show 0 ≤ (y 3).val ∧ (y 3).val < 0 + 256; omega
theorem rset_disjoint : ∀ b b' : Fin 3, b ≠ b' → Disjoint (rset b) (rset b') := fun b b' hne => by
  rw [Finset.disjoint_left]; intro y hy hy'; rw [mem_rset] at hy hy'; exact hne (Fin.ext (by omega))
theorem rset_cover : Finset.univ.biUnion rset = Finset.univ := by
  ext y; simp only [Finset.mem_biUnion, Finset.mem_univ, true_and, iff_true]; exact ⟨y 0, (mem_rset _ _).mpr rfl⟩
abbrev rWin (b : Fin 3) : Memref sig .tc .vmem S8x8x256 .f32 :=
  (rBuf.slice (Rect.unit (s := S3x8x8x256) ![b.val, 0, 0, 0] S1x8x8x256.size (rInb b)) (fun _ => rfl)).squeeze S8x8x256 squeezes_S1x8x8x256_S8x8x256
theorem rwset_eq (b : Fin 3) : (rWin b).view.set = rset b := by
  unfold rWin; exact (View.set_reshape _ _).trans (View.set_slice_whole _ _)
omit [FloatOps F] in
theorem r_list (c : Dev nD) : (bigSep Finset.univ (fun b : Fin 3 => iprop(∃ f, heldQ (F := F) c (rWin b) fullShare f)) : sProp 𝕄)
    = iprop((∃ f, heldQ c rW0 fullShare f) ∗ (∃ f, heldQ c rW1 fullShare f) ∗ (∃ f, heldQ c rW2 fullShare f)) := by
  rw [bigSep_univ_eq_bigSepL [0, 1, 2] (by decide) (by decide)]
  simp only [bigSepL_cons_cons, bigSepL_singleton]
  rfl
omit [FloatOps F] in
theorem r_split (c : Dev nD) (f : BufAt (F := F) c rBuf) : ((rBuf.view.loc (c : Thread nD τ)) ↦{fullShare} f : sProp 𝕄)
    ⊢ iprop((∃ f, heldQ (F := F) c rW0 fullShare f) ∗ (∃ f, heldQ (F := F) c rW1 fullShare f) ∗ (∃ f, heldQ (F := F) c rW2 fullShare f)) := by
  rw [← r_list]
  refine (Entails.of_eq (Ring.pointsTo_blocks (ℓ := rBuf.view.loc (c : Thread nD τ)) (q := fullShare) rset rset_disjoint rset_cover f)).trans (BI.bigSep_mono fun b _ => ?_)
  show (rBuf.view.loc (c : Thread nD τ) ↦[rset b]{fullShare} f : sProp 𝕄) ⊢ _
  rw [← rwset_eq]; iintro H; iexists f; iexact H
omit [FloatOps F] in
theorem r_join [∀ e, Nonempty (Elt F e)] (c : Dev nD) :
    iprop((∃ f, heldQ (F := F) c rW0 fullShare f) ∗ (∃ f, heldQ (F := F) c rW1 fullShare f) ∗ (∃ f, heldQ (F := F) c rW2 fullShare f))
      ⊢ (iprop(∃ f, (rBuf.view.loc (c : Thread nD τ)) ↦{fullShare} f) : sProp 𝕄) := by
  rw [← r_list]
  refine BIBase.Entails.trans ?_ (Ring.pointsTo_blocks_join_exists (ℓ := rBuf.view.loc (c : Thread nD τ)) (q := fullShare) rset rset_disjoint rset_cover rBuf.view.junk)
  refine BI.bigSep_mono fun b _ => ?_
  show _ ⊢ (iprop(∃ f, rBuf.view.loc (c : Thread nD τ) ↦[rset b]{fullShare} f) : sProp 𝕄)
  rw [← rwset_eq]

/-! ## The caches' read shares -/

omit [FloatOps F] in
/-- One share more of a window of an array held whole at the remaining share. -/
theorem read_step (c : Dev nD) (M : Memref sig .tc .hbm S8192x8x128 .f32) (hM : M.view.set = Finset.univ) (n : ℕ)
    (o : Fin 3 → ℕ) (h : ∀ a, o a + S1024x1x128.size a ≤ S8192x8x128.size a) (f : BufAt (F := F) c M) :
    (heldQ c M (restShare n) f : sProp 𝕄) ⊢ iprop(heldQ c (cWin M o h) (rdShare n) f ∗ heldQ c M (restShare (n + 1)) f) := by
  iintro H
  ihave H' := (pointsTo_share (PosShare.mem_left_op_right (restShare n))).1 $$ H
  icases H' with ⟨H1, H2⟩
  isplitl [H1]
  · ihave H3 := (pointsTo_split_subset (I := (cWin M o h).view.set) (by rw [hM]; exact Finset.subset_univ _)).1 $$ H1
    icases H3 with ⟨H4, -⟩
    iexact H4
  · iexact H2

omit [FloatOps F] in
/-- The sixteen copies' source windows of the k cache, each at its read share. -/
theorem k_reads (c : Dev nD) (f : BufAt (F := F) c kHbm) : (heldQ c kHbm fullShare.right f : sProp 𝕄)
    ⊢ iprop(heldQ c (kS00 c) (rdShare 0) f ∗ heldQ c (kS01 c) (rdShare 1) f ∗ heldQ c (kS02 c) (rdShare 2) f ∗ heldQ c (kS03 c) (rdShare 3) f ∗ heldQ c (kS04 c) (rdShare 4) f ∗ heldQ c (kS05 c) (rdShare 5) f ∗ heldQ c (kS06 c) (rdShare 6) f ∗ heldQ c (kS07 c) (rdShare 7) f ∗ heldQ c (kS10 c) (rdShare 8) f ∗ heldQ c (kS11 c) (rdShare 9) f ∗ heldQ c (kS12 c) (rdShare 10) f ∗ heldQ c (kS13 c) (rdShare 11) f ∗ heldQ c (kS14 c) (rdShare 12) f ∗ heldQ c (kS15 c) (rdShare 13) f ∗ heldQ c (kS16 c) (rdShare 14) f ∗ heldQ c (kS17 c) (rdShare 15) f) := by
  have hM : (kHbm : Memref sig .tc .hbm S8192x8x128 .f32).view.set = Finset.univ := View.set_whole _
  iintro H
  rw [show (fullShare.right : PosShare TreeShare) = restShare 0 from rfl]
  ihave H := (read_step c kHbm hM 0 (k0_off1 c) (k0_off1_inb (grid0.coords t0_0) c cond1_0) f) $$ H
  icases H with ⟨H0, H⟩
  ihave H := (read_step c kHbm hM 1 (k0_off2 c) (k0_off2_inb (grid0.coords t0_0) c cond1_0) f) $$ H
  icases H with ⟨H1, H⟩
  ihave H := (read_step c kHbm hM 2 (k0_off3 c) (k0_off3_inb (grid0.coords t0_0) c cond1_0) f) $$ H
  icases H with ⟨H2, H⟩
  ihave H := (read_step c kHbm hM 3 (k0_off4 c) (k0_off4_inb (grid0.coords t0_0) c cond1_0) f) $$ H
  icases H with ⟨H3, H⟩
  ihave H := (read_step c kHbm hM 4 (k0_off5 c) (k0_off5_inb (grid0.coords t0_0) c cond1_0) f) $$ H
  icases H with ⟨H4, H⟩
  ihave H := (read_step c kHbm hM 5 (k0_off6 c) (k0_off6_inb (grid0.coords t0_0) c cond1_0) f) $$ H
  icases H with ⟨H5, H⟩
  ihave H := (read_step c kHbm hM 6 (k0_off7 c) (k0_off7_inb (grid0.coords t0_0) c cond1_0) f) $$ H
  icases H with ⟨H6, H⟩
  ihave H := (read_step c kHbm hM 7 (k0_off8 c) (k0_off8_inb (grid0.coords t0_0) c cond1_0) f) $$ H
  icases H with ⟨H7, H⟩
  ihave H := (read_step c kHbm hM 8 (k0_off11 (grid0.coords t0_0) c) (k0_off11_inb (grid0.coords t0_0) c cond2_0) f) $$ H
  icases H with ⟨H8, H⟩
  ihave H := (read_step c kHbm hM 9 (k0_off13 (grid0.coords t0_0) c) (k0_off13_inb (grid0.coords t0_0) c cond2_0) f) $$ H
  icases H with ⟨H9, H⟩
  ihave H := (read_step c kHbm hM 10 (k0_off15 (grid0.coords t0_0) c) (k0_off15_inb (grid0.coords t0_0) c cond2_0) f) $$ H
  icases H with ⟨H10, H⟩
  ihave H := (read_step c kHbm hM 11 (k0_off17 (grid0.coords t0_0) c) (k0_off17_inb (grid0.coords t0_0) c cond2_0) f) $$ H
  icases H with ⟨H11, H⟩
  ihave H := (read_step c kHbm hM 12 (k0_off19 (grid0.coords t0_0) c) (k0_off19_inb (grid0.coords t0_0) c cond2_0) f) $$ H
  icases H with ⟨H12, H⟩
  ihave H := (read_step c kHbm hM 13 (k0_off21 (grid0.coords t0_0) c) (k0_off21_inb (grid0.coords t0_0) c cond2_0) f) $$ H
  icases H with ⟨H13, H⟩
  ihave H := (read_step c kHbm hM 14 (k0_off23 (grid0.coords t0_0) c) (k0_off23_inb (grid0.coords t0_0) c cond2_0) f) $$ H
  icases H with ⟨H14, H⟩
  ihave H := (read_step c kHbm hM 15 (k0_off25 (grid0.coords t0_0) c) (k0_off25_inb (grid0.coords t0_0) c cond2_0) f) $$ H
  icases H with ⟨H15, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

omit [FloatOps F] in
/-- The sixteen copies' source windows of the v cache, each at its read share. -/
theorem v_reads (c : Dev nD) (f : BufAt (F := F) c vHbm) : (heldQ c vHbm fullShare.right f : sProp 𝕄)
    ⊢ iprop(heldQ c (vS00 c) (rdShare 0) f ∗ heldQ c (vS01 c) (rdShare 1) f ∗ heldQ c (vS02 c) (rdShare 2) f ∗ heldQ c (vS03 c) (rdShare 3) f ∗ heldQ c (vS04 c) (rdShare 4) f ∗ heldQ c (vS05 c) (rdShare 5) f ∗ heldQ c (vS06 c) (rdShare 6) f ∗ heldQ c (vS07 c) (rdShare 7) f ∗ heldQ c (vS10 c) (rdShare 8) f ∗ heldQ c (vS11 c) (rdShare 9) f ∗ heldQ c (vS12 c) (rdShare 10) f ∗ heldQ c (vS13 c) (rdShare 11) f ∗ heldQ c (vS14 c) (rdShare 12) f ∗ heldQ c (vS15 c) (rdShare 13) f ∗ heldQ c (vS16 c) (rdShare 14) f ∗ heldQ c (vS17 c) (rdShare 15) f) := by
  have hM : (vHbm : Memref sig .tc .hbm S8192x8x128 .f32).view.set = Finset.univ := View.set_whole _
  iintro H
  rw [show (fullShare.right : PosShare TreeShare) = restShare 0 from rfl]
  ihave H := (read_step c vHbm hM 0 (k0_off1 c) (k0_off1_inb (grid0.coords t0_0) c cond1_0) f) $$ H
  icases H with ⟨H0, H⟩
  ihave H := (read_step c vHbm hM 1 (k0_off2 c) (k0_off2_inb (grid0.coords t0_0) c cond1_0) f) $$ H
  icases H with ⟨H1, H⟩
  ihave H := (read_step c vHbm hM 2 (k0_off3 c) (k0_off3_inb (grid0.coords t0_0) c cond1_0) f) $$ H
  icases H with ⟨H2, H⟩
  ihave H := (read_step c vHbm hM 3 (k0_off4 c) (k0_off4_inb (grid0.coords t0_0) c cond1_0) f) $$ H
  icases H with ⟨H3, H⟩
  ihave H := (read_step c vHbm hM 4 (k0_off5 c) (k0_off5_inb (grid0.coords t0_0) c cond1_0) f) $$ H
  icases H with ⟨H4, H⟩
  ihave H := (read_step c vHbm hM 5 (k0_off6 c) (k0_off6_inb (grid0.coords t0_0) c cond1_0) f) $$ H
  icases H with ⟨H5, H⟩
  ihave H := (read_step c vHbm hM 6 (k0_off7 c) (k0_off7_inb (grid0.coords t0_0) c cond1_0) f) $$ H
  icases H with ⟨H6, H⟩
  ihave H := (read_step c vHbm hM 7 (k0_off8 c) (k0_off8_inb (grid0.coords t0_0) c cond1_0) f) $$ H
  icases H with ⟨H7, H⟩
  ihave H := (read_step c vHbm hM 8 (k0_off11 (grid0.coords t0_0) c) (k0_off11_inb (grid0.coords t0_0) c cond2_0) f) $$ H
  icases H with ⟨H8, H⟩
  ihave H := (read_step c vHbm hM 9 (k0_off13 (grid0.coords t0_0) c) (k0_off13_inb (grid0.coords t0_0) c cond2_0) f) $$ H
  icases H with ⟨H9, H⟩
  ihave H := (read_step c vHbm hM 10 (k0_off15 (grid0.coords t0_0) c) (k0_off15_inb (grid0.coords t0_0) c cond2_0) f) $$ H
  icases H with ⟨H10, H⟩
  ihave H := (read_step c vHbm hM 11 (k0_off17 (grid0.coords t0_0) c) (k0_off17_inb (grid0.coords t0_0) c cond2_0) f) $$ H
  icases H with ⟨H11, H⟩
  ihave H := (read_step c vHbm hM 12 (k0_off19 (grid0.coords t0_0) c) (k0_off19_inb (grid0.coords t0_0) c cond2_0) f) $$ H
  icases H with ⟨H12, H⟩
  ihave H := (read_step c vHbm hM 13 (k0_off21 (grid0.coords t0_0) c) (k0_off21_inb (grid0.coords t0_0) c cond2_0) f) $$ H
  icases H with ⟨H13, H⟩
  ihave H := (read_step c vHbm hM 14 (k0_off23 (grid0.coords t0_0) c) (k0_off23_inb (grid0.coords t0_0) c cond2_0) f) $$ H
  icases H with ⟨H14, H⟩
  ihave H := (read_step c vHbm hM 15 (k0_off25 (grid0.coords t0_0) c) (k0_off25_inb (grid0.coords t0_0) c cond2_0) f) $$ H
  icases H with ⟨H15, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.KernelIdeal.Hand

end
-- ==== Proof.RunA.lean ====
module

public import proofs.«01_k».proof.Proof.Windows
public import Idealize.ShloMosaic.Lib.Pipeline.Launch
public import Idealize.ShloMosaic.Lib.Batch
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (T : Fin 3 → Dev nD → Part F)

/-- The cells' invariants device `c` opens, under the names `K`: its own seven, its partners' barrier and receive cells. -/
def invs (K : Dev nD × Fin 7 → ℕ) (c : Dev nD) : sProp 𝕄 :=
  iprop(cellInv ER (Rd T) (K (c, 0)) (barCell c) ∗ cellInv ER (Rd T) (K (c, 1)) (sendCell 0 c) ∗ cellInv ER (Rd T) (K (c, 2)) (sendCell 1 c) ∗ cellInv ER (Rd T) (K (c, 3)) (sendCell 2 c) ∗ cellInv ER (Rd T) (K (c, 4)) (recvCell 0 c) ∗ cellInv ER (Rd T) (K (c, 5)) (recvCell 1 c) ∗ cellInv ER (Rd T) (K (c, 6)) (recvCell 2 c) ∗ cellInv ER (Rd T) (K (peer 0 c, 0)) (barCell (peer 0 c)) ∗ cellInv ER (Rd T) (K (peer 1 c, 0)) (barCell (peer 1 c)) ∗ cellInv ER (Rd T) (K (peer 2 c, 0)) (barCell (peer 2 c)) ∗ cellInv ER (Rd T) (K (peer 0 c, 4)) (recvCell 0 (peer 0 c)) ∗ cellInv ER (Rd T) (K (peer 1 c, 5)) (recvCell 1 (peer 1 c)) ∗ cellInv ER (Rd T) (K (peer 2 c, 6)) (recvCell 2 (peer 2 c)))
instance invs_persistent (K : Dev nD × Fin 7 → ℕ) (c : Dev nD) : BI.Persistent (invs T K c) := by unfold invs; infer_instance

/-- What the barrier takes: its position and credit, the three duty tokens, the rounds reached. -/
def barGhost (c : Dev nD) : sProp 𝕄 :=
  iprop(atPos ER (barCell c) 0 ∅ 0 ∗ cred (tallyAt (barCell c) () 3) ∗ dutyTok ER (barCell (peer 0 c)) 0 (0 : Fin 3) ∗ dutyTok ER (barCell (peer 1 c)) 0 (1 : Fin 3) ∗ dutyTok ER (barCell (peer 2 c)) 0 (2 : Fin 3) ∗ reached ER (barCell (peer 0 c)) 0 ∗ reached ER (barCell (peer 1 c)) 0 ∗ reached ER (barCell (peer 2 c)) 0 ∗ reached ER (recvCell 0 c) 0 ∗ reached ER (recvCell 1 c) 0 ∗ reached ER (recvCell 2 c) 0)

/-- What the exchanges take: positions, tokens and credits. -/
def xferGhost (c : Dev nD) : sProp 𝕄 :=
  iprop(atPos ER (sendCell 0 c) 0 ∅ 0 ∗ atPos ER (recvCell 0 c) 0 ∅ 0 ∗ reached ER (sendCell 0 c) 0 ∗ dutyTok ER (sendCell 0 c) 0 (0 : Fin 3) ∗ dutyTok ER (recvCell 0 (peer 0 c)) 0 (0 : Fin 3) ∗ cred (tallyAt (recvCell 0 c) () N) ∗ atPos ER (sendCell 1 c) 0 ∅ 0 ∗ atPos ER (recvCell 1 c) 0 ∅ 0 ∗ reached ER (sendCell 1 c) 0 ∗ dutyTok ER (sendCell 1 c) 0 (0 : Fin 3) ∗ dutyTok ER (recvCell 1 (peer 1 c)) 0 (0 : Fin 3) ∗ cred (tallyAt (recvCell 1 c) () N) ∗ atPos ER (sendCell 2 c) 0 ∅ 0 ∗ atPos ER (recvCell 2 c) 0 ∅ 0 ∗ reached ER (sendCell 2 c) 0 ∗ dutyTok ER (sendCell 2 c) 0 (0 : Fin 3) ∗ dutyTok ER (recvCell 2 (peer 2 c)) 0 (0 : Fin 3) ∗ cred (tallyAt (recvCell 2 c) () N))

theorem dev1_eq (c : Dev nD) (h) : (⟨k0_dev1 c, h⟩ : Dev nD) = peer 0 c := rfl
theorem dev2_eq (c : Dev nD) (h) : (⟨k0_dev2 c, h⟩ : Dev nD) = peer 1 c := rfl
theorem dev3_eq (c : Dev nD) (h) : (⟨k0_dev3 c, h⟩ : Dev nD) = peer 2 c := rfl

/-- A barrier signal to the stage's partner: `c`'s landing window goes with it. -/
theorem wp_sig (K : Dev nD × Fin 7 → ℕ) (s : Fin 3) (c n : Dev nD) (hn : n = peer s c) (O : CellTallies nD τ sig Unit) (W : Waits sig Unit)
    {α : Type} {Q : α → sProp 𝕄} {k : PUnit → Prog (TpuEff nD τ sig (Elt F) Λ₀ .tc) α} :
    iprop(cellInv ER (Rd T) (K (peer s c, 0)) (barCell (peer s c)) ∗ owes (c : Thread nD τ) (O + owB s c) W ∗ dutyTok ER (barCell (peer s c)) 0 s
        ∗ (∃ f, heldQ (F := F) c (rW s) fullShare f) ∗ reached ER (recvCell s c) 0 ∗ reached ER (barCell (peer s c)) 0)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal (n : Thread nD τ) barS (1#32).toInt) k) Q) := by
  subst hn
  iintro ⟨#HI, HO, Htok, Hw, #Hr, #HrB⟩ Hk
  iapply (Rounds.wp_signal Variants.none ER (Rd T) (c : Thread nD τ) none (dst := (peer s c : Thread nD τ)) (κ := K (peer s c, 0))
      (d := s) (by rw [duties_bar]; exact Finset.mem_univ _) ((amount_bar T (peer s c) s).trans (by decide)) () O rfl) $$ [HO Htok Hw]
  · isplitr; · iexact HI
    isplitl [HO]; · iexact HO
    isplitl [Htok]; · iexact Htok
    isplitl [Hw]
    · rw [payload_bar]; unfold barPay; rw [peer_peer]
      isplitl [Hw]; · iexact Hw
      iexact Hr
    · iexact HrB
  iexact Hk

theorem hz3 : (![0, 0, 0] : Fin 3 → ℕ) = fun _ => 0 := funext fun a => by fin_cases a <;> rfl
theorem hz2 : (![0, 0] : Fin 2 → ℕ) = fun _ => 0 := funext fun a => by fin_cases a <;> rfl
omit [FloatOps F] in
/-- A store of a whole scratch buffer leaves what it stores. -/
theorem writes_m (c : Dev nD) (f : BufAt (F := F) c mSc) (w : Vec F S8x8x1 .f32) :
    mSc.view.writes (Elt F) f [⟨Rect.unit (s := S8x8x1) ![0, 0, 0] S8x8x1.size inb_S8x8x1_S8x8x1_0_0_0, w⟩] = w :=
  View.read_writes_full (Memref.whole cc0_scratch0 : Memref sig .tc .vmem _ _).view f _ w []
omit [FloatOps F] in
theorem writes_l (c : Dev nD) (f : BufAt (F := F) c lSc) (w : Vec F S8x8x1 .f32) :
    lSc.view.writes (Elt F) f [⟨Rect.unit (s := S8x8x1) ![0, 0, 0] S8x8x1.size inb_S8x8x1_S8x8x1_0_0_0, w⟩] = w :=
  View.read_writes_full (Memref.whole cc0_scratch1 : Memref sig .tc .vmem _ _).view f _ w []
omit [FloatOps F] in
theorem writes_a (c : Dev nD) (f : BufAt (F := F) c aSc) (w : Vec F S8x8x128 .f32) :
    aSc.view.writes (Elt F) f [⟨Rect.unit (s := S8x8x128) ![0, 0, 0] S8x8x128.size inb_S8x8x128_S8x8x128_0_0_0, w⟩] = w :=
  View.read_writes_full (Memref.whole cc0_scratch2 : Memref sig .tc .vmem _ _).view f _ w []

set_option maxHeartbeats 4000000 in
/-- The lengths, as the body loads them. -/
abbrev lensOf (c : Dev nD) (a5 : Memref sig .tc .vmem S8x1 .i32) (f5 : BufAt (F := F) c a5) : Vec F S8x1 .i32 :=
  a5.view.readAt (Elt F) (Rect.unit (s := S8x1) ![0, 0] S8x1.size inb_S8x1_S8x1_0_0).toLoadRect f5

/-- The first block's opening: the running values reset, both blocks' copies issued, the barrier. -/
theorem runA0 (K : Dev nD × Fin 7 → ℕ) (c : Dev nD) (a1 : Memref sig .tc .vmem S8x1024 .f32) (ha1 : a1.IsWhole) (a4 : Memref sig .tc .vmem S8x512 .i32) (ha4 : a4.IsWhole)
    (a5 : Memref sig .tc .vmem S8x1 .i32) (ha5 : a5.IsWhole) (a6 : Memref sig .tc .vmem S8x8x128 .f32) (ha6 : a6.IsWhole)
    (f5 : BufAt (F := F) c a5) (fk : BufAt (F := F) c kHbm) (fv : BufAt (F := F) c vHbm) (W : Waits sig Unit) :
    iprop(heldQ c a5 fullShare f5 ∗ (∃ f, heldQ (F := F) c mSc fullShare f) ∗ (∃ f, heldQ (F := F) c lSc fullShare f) ∗ (∃ f, heldQ (F := F) c aSc fullShare f)
      ∗ (∃ f, (kBuf.view.loc (c : Thread nD τ)) ↦{fullShare} f) ∗ (∃ f, (vBuf.view.loc (c : Thread nD τ)) ↦{fullShare} f)
      ∗ semVal ((c : Thread nD τ), SemLoc.dma kSem0) 0 ∗ semVal ((c : Thread nD τ), SemLoc.dma kSem1) 0
      ∗ semVal ((c : Thread nD τ), SemLoc.dma vSem0) 0 ∗ semVal ((c : Thread nD τ), SemLoc.dma vSem1) 0
      ∗ heldQ c kHbm fullShare.right fk ∗ heldQ c vHbm fullShare.right fv
      ∗ (∃ f, heldQ (F := F) c rW0 fullShare f) ∗ (∃ f, heldQ (F := F) c rW1 fullShare f) ∗ (∃ f, heldQ (F := F) c rW2 fullShare f)
      ∗ invs T K c ∗ barGhost (F := F) c ∗ owes (c : Thread nD τ) (O₀ c) W ∗ levAts L lv)
      ⊢ wp frame (wpE (defs₀ (F := F)) Variants.none (c : Thread nD τ) none) Set.univ
        (k0_part16 (F := F) (grid0.coords t0_0) a1 ha1 kHbm (Memref.isWhole_whole _) vHbm (Memref.isWhole_whole _) a4 ha4 a5 ha5 a6 ha6
          mSc (Memref.isWhole_whole _) lSc (Memref.isWhole_whole _) aSc (Memref.isWhole_whole _) kBuf (Memref.isWhole_whole _) vBuf (Memref.isWhole_whole _)
          sBuf (Memref.isWhole_whole _) rBuf (Memref.isWhole_whole _) cc0_scratch7 cc0_scratch8 cc0_scratch9 cc0_scratch10)
        (fun x => iprop(⌜∃ w0 w2 w5 w8 w10, x = ⟨w0, c, w2, w5, w8, w10, k0_pay39 (grid0.coords t0_0) c, k0_pay40 (lensOf c a5 f5)⟩⌝ ∗ heldQ c a5 fullShare f5 ∗ heldQ c mSc fullShare (k0_pay3 (F := F)) ∗ heldQ c lSc fullShare (k0_pay4 (F := F)) ∗ heldQ c aSc fullShare (k0_pay5 (F := F))
          ∗ (∃ (d0 : BufAt (F := F) c kD00) (d1 : BufAt (F := F) c kD01) (d2 : BufAt (F := F) c kD02) (d3 : BufAt (F := F) c kD03) (d4 : BufAt (F := F) c kD04) (d5 : BufAt (F := F) c kD05) (d6 : BufAt (F := F) c kD06) (d7 : BufAt (F := F) c kD07), Transfers.Batch (countersEmb (U := UU)) (c : Thread nD τ) (.dma kSem0) () kD00.view.dmaCredit (kDlv0 c fk d0 d1 d2 d3 d4 d5 d6 d7) 8 0)
          ∗ (∃ (d0 : BufAt (F := F) c vD00) (d1 : BufAt (F := F) c vD01) (d2 : BufAt (F := F) c vD02) (d3 : BufAt (F := F) c vD03) (d4 : BufAt (F := F) c vD04) (d5 : BufAt (F := F) c vD05) (d6 : BufAt (F := F) c vD06) (d7 : BufAt (F := F) c vD07), Transfers.Batch (countersEmb (U := UU)) (c : Thread nD τ) (.dma vSem0) () kD00.view.dmaCredit (vDlv0 c fv d0 d1 d2 d3 d4 d5 d6 d7) 8 0)
          ∗ (∃ (d0 : BufAt (F := F) c kD10) (d1 : BufAt (F := F) c kD11) (d2 : BufAt (F := F) c kD12) (d3 : BufAt (F := F) c kD13) (d4 : BufAt (F := F) c kD14) (d5 : BufAt (F := F) c kD15) (d6 : BufAt (F := F) c kD16) (d7 : BufAt (F := F) c kD17), Transfers.Batch (countersEmb (U := UU)) (c : Thread nD τ) (.dma kSem1) () kD00.view.dmaCredit (kDlv1 c fk d0 d1 d2 d3 d4 d5 d6 d7) 8 0)
          ∗ (∃ (d0 : BufAt (F := F) c vD10) (d1 : BufAt (F := F) c vD11) (d2 : BufAt (F := F) c vD12) (d3 : BufAt (F := F) c vD13) (d4 : BufAt (F := F) c vD14) (d5 : BufAt (F := F) c vD15) (d6 : BufAt (F := F) c vD16) (d7 : BufAt (F := F) c vD17), Transfers.Batch (countersEmb (U := UU)) (c : Thread nD τ) (.dma vSem1) () kD00.view.dmaCredit (vDlv1 c fv d0 d1 d2 d3 d4 d5 d6 d7) 8 0)
          ∗ barPay (F := F) 0 c ∗ barPay (F := F) 1 c ∗ barPay (F := F) 2 c ∗ semVal (barCell c) 0
          ∗ (∃ W', owes (c : Thread nD τ) (O₁ c) W'))) := by
  · unfold invs barGhost
    iintro ⟨H5, ⟨%fm, Hm⟩, ⟨%fl, Hl⟩, ⟨%fa, Ha⟩, ⟨%fkb, Hkb⟩, ⟨%fvb, Hvb⟩, Hk0, Hk1, Hv0, Hv1, HK, HV, Hw0, Hw1, Hw2, ⟨#IB, #IS0, #IS1, #IS2, #IR0, #IR1, #IR2, #IBP0, #IBP1, #IBP2, #IRP0, #IRP1, #IRP2⟩, ⟨HatB, HcB, HtB0, HtB1, HtB2, #HrB0, #HrB1, #HrB2, #HrV0, #HrV1, #HrV2⟩, HO, #Hlev⟩
    ihave Hk := (k_split c fkb) $$ Hkb
    ihave Hv := (v_split c fvb) $$ Hvb
    ihave HKr := (k_reads c fk) $$ HK
    ihave HVr := (v_reads c fv) $$ HV
    unfold kFree0 kFree1 vFree0 vFree1
    icases Hk with ⟨⟨⟨%dk00, Dk00⟩, ⟨%dk01, Dk01⟩, ⟨%dk02, Dk02⟩, ⟨%dk03, Dk03⟩, ⟨%dk04, Dk04⟩, ⟨%dk05, Dk05⟩, ⟨%dk06, Dk06⟩, ⟨%dk07, Dk07⟩⟩, ⟨⟨%dk10, Dk10⟩, ⟨%dk11, Dk11⟩, ⟨%dk12, Dk12⟩, ⟨%dk13, Dk13⟩, ⟨%dk14, Dk14⟩, ⟨%dk15, Dk15⟩, ⟨%dk16, Dk16⟩, ⟨%dk17, Dk17⟩⟩⟩
    icases HKr with ⟨Sk00, Sk01, Sk02, Sk03, Sk04, Sk05, Sk06, Sk07, Sk10, Sk11, Sk12, Sk13, Sk14, Sk15, Sk16, Sk17⟩
    icases Hv with ⟨⟨⟨%dv00, Dv00⟩, ⟨%dv01, Dv01⟩, ⟨%dv02, Dv02⟩, ⟨%dv03, Dv03⟩, ⟨%dv04, Dv04⟩, ⟨%dv05, Dv05⟩, ⟨%dv06, Dv06⟩, ⟨%dv07, Dv07⟩⟩, ⟨⟨%dv10, Dv10⟩, ⟨%dv11, Dv11⟩, ⟨%dv12, Dv12⟩, ⟨%dv13, Dv13⟩, ⟨%dv14, Dv14⟩, ⟨%dv15, Dv15⟩, ⟨%dv16, Dv16⟩, ⟨%dv17, Dv17⟩⟩⟩
    icases HVr with ⟨Sv00, Sv01, Sv02, Sv03, Sv04, Sv05, Sv06, Sv07, Sv10, Sv11, Sv12, Sv13, Sv14, Sv15, Sv16, Sv17⟩
    imod (Transfers.batch_alloc' (Lvl := ℕ) (countersEmb (U := UU)) (c : Thread nD τ) () (kD00.view.dmaCredit) (kDlv0 c fk dk00 dk01 dk02 dk03 dk04 dk05 dk06 dk07) (E := Set.univ)) $$ Hk0 with Bk0
    imod (Transfers.batch_alloc' (Lvl := ℕ) (countersEmb (U := UU)) (c : Thread nD τ) () (kD00.view.dmaCredit) (kDlv1 c fk dk10 dk11 dk12 dk13 dk14 dk15 dk16 dk17) (E := Set.univ)) $$ Hk1 with Bk1
    imod (Transfers.batch_alloc' (Lvl := ℕ) (countersEmb (U := UU)) (c : Thread nD τ) () (kD00.view.dmaCredit) (vDlv0 c fv dv00 dv01 dv02 dv03 dv04 dv05 dv06 dv07) (E := Set.univ)) $$ Hv0 with Bv0
    imod (Transfers.batch_alloc' (Lvl := ℕ) (countersEmb (U := UU)) (c : Thread nD τ) () (kD00.view.dmaCredit) (vDlv1 c fv dv10 dv11 dv12 dv13 dv14 dv15 dv16 dv17) (E := Set.univ)) $$ Hv1 with Bv1
    unfold kDlv0 kDlv1 vDlv0 vDlv1
    sl_exec
    unfold O₀
    iapply (wp_sig T K 0 c _ (dev1_eq c _) _ W) $$ [HO HtB0 Hw0]
    · isplitr; · iexact IBP0
      isplitl [HO]; · iexact HO
      isplitl [HtB0]; · iexact HtB0
      isplitl [Hw0]; · iexact Hw0
      isplitr; · iexact HrV0
      iexact HrB0
    iintro HO
    sl_exec

    iapply (wp_sig T K 1 c _ (dev2_eq c _) _ W) $$ [HO HtB1 Hw1]
    · isplitr; · iexact IBP1
      isplitl [HO]; · iexact HO
      isplitl [HtB1]; · iexact HtB1
      isplitl [Hw1]; · iexact Hw1
      isplitr; · iexact HrV1
      iexact HrB1
    iintro HO
    sl_exec

    iapply (wp_sig T K 2 c _ (dev3_eq c _) _ W) $$ [HO HtB2 Hw2]
    · isplitr; · iexact IBP2
      isplitl [HO]; · iexact HO
      isplitl [HtB2]; · iexact HtB2
      isplitl [Hw2]; · iexact Hw2
      isplitr; · iexact HrV2
      iexact HrB2
    iintro HO
    sl_exec
    iapply (Rounds.wp_wait_rest_token Variants.none ER (Rd T) (c : Thread nD τ) none (κ := K (c, 0))
      (wpE_semWait_eq Variants.none (c : Thread nD τ) none Set.univ) (Set.mem_univ _) () (O := O₁ c) (W := W) (R := 0) (m := 0) (T := ∅)
      (by rw [expect_bar]; decide)) $$ [HcB HO HatB]
    · isplitr; · iexact IB
      isplitl [HcB]; · iexact HcB
      isplitl [HO]; · iexact HO
      isplitr; · iapply (mayWait_of c (.reg barS) 1 (lv_bar c ()) (above_O₁ (by decide) c)); iexact Hlev
      iexact HatB
    iintro ⟨HO, HatB, -, Hpay⟩
    ihave Hp := (Entails.of_eq (rest_bar T c)) $$ Hpay
    icases Hp with ⟨Hp0, Hp1, Hp2⟩
    imod (Rounds.cell_close ER (Rd T) (Set.mem_univ (K (c, 0))) (fun h => h) (R := 0 + 1) (duties_later T (barCell c))) $$ [HatB] with HzB
    · isplitr; · iexact IB
      iexact HatB
    sl_exec
    rw [wp_ret]; imodintro
    rw [writes_m, writes_l, writes_a]
    isplitr; · ipureintro; exact ⟨_, _, _, _, _, rfl⟩
    isplitl [H5]; · iexact H5
    isplitl [Hm]; · iexact Hm
    isplitl [Hl]; · iexact Hl
    isplitl [Ha]; · iexact Ha
    isplitl [Bk0]
    · iexists dk00, dk01, dk02, dk03, dk04, dk05, dk06, dk07; iexact Bk0
    isplitl [Bv0]
    · iexists dv00, dv01, dv02, dv03, dv04, dv05, dv06, dv07; iexact Bv0
    isplitl [Bk1]
    · iexists dk10, dk11, dk12, dk13, dk14, dk15, dk16, dk17; iexact Bk1
    isplitl [Bv1]
    · iexists dv10, dv11, dv12, dv13, dv14, dv15, dv16, dv17; iexact Bv1
    isplitl [Hp0]; · iexact Hp0
    isplitl [Hp1]; · iexact Hp1
    isplitl [Hp2]; · iexact Hp2
    isplitl [HzB]; · iexact HzB
    iexists _; iexact HO

omit T in
set_option maxHeartbeats 4000000 in
/-- The last block's opening: nothing but the load of the lengths. -/
theorem runA1 (c : Dev nD) (a1 : Memref sig .tc .vmem S8x1024 .f32) (ha1 : a1.IsWhole) (a4 : Memref sig .tc .vmem S8x512 .i32) (ha4 : a4.IsWhole)
    (a5 : Memref sig .tc .vmem S8x1 .i32) (ha5 : a5.IsWhole) (a6 : Memref sig .tc .vmem S8x8x128 .f32) (ha6 : a6.IsWhole)
    (f5 : BufAt (F := F) c a5) :
    heldQ c a5 fullShare f5
      ⊢ wp frame (wpE (defs₀ (F := F)) Variants.none (c : Thread nD τ) none) Set.univ
        (k0_part16 (F := F) (grid0.coords t0_1) a1 ha1 kHbm (Memref.isWhole_whole _) vHbm (Memref.isWhole_whole _) a4 ha4 a5 ha5 a6 ha6
          mSc (Memref.isWhole_whole _) lSc (Memref.isWhole_whole _) aSc (Memref.isWhole_whole _) kBuf (Memref.isWhole_whole _) vBuf (Memref.isWhole_whole _)
          sBuf (Memref.isWhole_whole _) rBuf (Memref.isWhole_whole _) cc0_scratch7 cc0_scratch8 cc0_scratch9 cc0_scratch10)
        (fun x => iprop(⌜∃ w0 w2 w5 w8 w10, x = ⟨w0, c, w2, w5, w8, w10, k0_pay39 (grid0.coords t0_1) c, k0_pay40 (lensOf c a5 f5)⟩⌝ ∗ heldQ c a5 fullShare f5)) := by
  iintro H5
  sl_exec
  rw [wp_ret]; imodintro
  isplitr; · ipureintro; exact ⟨_, _, _, _, _, rfl⟩
  iexact H5

end Cert.KernelIdeal.Hand

end
-- ==== Proof.TailWin.lean ====
module

public import proofs.«01_k».proof.Proof.RunA
public import Idealize.ShloMosaic.Lib.Pipeline.Launch
public import Idealize.ShloMosaic.Lib.Batch
public import Idealize.ShloMosaic.Lib.VecWindow
public import Idealize.ShloMosaic.Lib.WritesUnit
public import Idealize.ShloMosaic.Lib.Pipeline.Value
public import Idealize.ShloMosaic.Lib.WritesUnit
public import Idealize.ShloMosaic.Lib.Pipeline.Value
public import Idealize.ShloMosaic.Lib.Pointwise
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The staged buffer and the landing windows at an index -/

omit [FloatOps F] in
/-- The three rectangles written, the buffer holds the partial result. -/
theorem packed_writes (p : Part F) (c : Dev nD) (fs : BufAt (F := F) c sBuf) (wl wm : S8x8x1.Idx → F .f32) (wa : S8x8x128.Idx → F .f32) (hl : wl = p.l) (hm : wm = p.m) (ha : wa = p.a)
    (h1 : ∀ a, (![0, 0, 129] : Fin 3 → ℕ) a + S8x8x1.size a ≤ S8x8x256.size a) (h2 : ∀ a, (![0, 0, 128] : Fin 3 → ℕ) a + S8x8x1.size a ≤ S8x8x256.size a)
    (h3 : ∀ a, (![0, 0, 0] : Fin 3 → ℕ) a + S8x8x128.size a ≤ S8x8x256.size a) :
    Packed p (sBuf.view.read (Elt F) (sBuf.view.writes (Elt F) fs
      [⟨Rect.unit (s := S8x8x256) ![0, 0, 129] S8x8x1.size h1, wl⟩, ⟨Rect.unit (s := S8x8x256) ![0, 0, 128] S8x8x1.size h2, wm⟩, ⟨Rect.unit (s := S8x8x256) ![0, 0, 0] S8x8x128.size h3, wa⟩])) where
  a := fun i j k => by
    subst ha
    refine (View.read_writes_cons_unit_of_not_mem sBuf.view fs h1 _ _ _ rfl 2 (Or.inl ?_)).trans ?_
    · show k.val < 129; omega
    refine (View.read_writes_cons_unit_of_not_mem sBuf.view fs h2 _ _ _ rfl 2 (Or.inl ?_)).trans ?_
    · show k.val < 128; omega
    exact View.read_writes_cons_unit_of_mem sBuf.view fs h3 _ _ _ (ix3 i j k) rfl
      (fun a => by fin_cases a; exacts [(Nat.zero_add i.val).symm, (Nat.zero_add j.val).symm, (Nat.zero_add k.val).symm])
  m := fun i j => by
    subst hm
    refine (View.read_writes_cons_unit_of_not_mem sBuf.view fs h1 _ _ _ rfl 2 (Or.inl ?_)).trans ?_
    · show 128 < 129; decide
    exact View.read_writes_cons_unit_of_mem sBuf.view fs h2 _ _ _ (ix3 i j 0) rfl
      (fun a => by fin_cases a; exacts [(Nat.zero_add i.val).symm, (Nat.zero_add j.val).symm, rfl])
  l := fun i j => by
    subst hl
    exact View.read_writes_cons_unit_of_mem sBuf.view fs h1 _ _ _ (ix3 i j 0) rfl
      (fun a => by fin_cases a; exacts [(Nat.zero_add i.val).symm, (Nat.zero_add j.val).symm, rfl])

omit [FloatOps F] in
/-- Landing window 0 at an index: the buffer at that row of it. -/
theorem rW0_at (c : Dev nD) (f : BufAt (F := F) c rW0) (i j : Fin 8) (k : Fin 256) :
    rW0.view.read (Elt F) f (ix3 i j k) = rBuf.view.read (Elt F) f (ix4 (0 : Fin 3) i j k) := by
  show rBuf.view.read (Elt F) f ((Rect.unit (s := S3x8x8x256) ![0, 0, 0, 0] S1x8x8x256.size inb_S3x8x8x256_S1x8x8x256_0_0_0_0).emb
    (Shape.reshapeEquiv _ (ix3 i j k))) = _
  refine congrArg _ (Eq.trans (congrArg _ (Shape.reshapeEquiv_cons_one (d := ![8, 8, 256]) _ _)) (funext fun a => Fin.ext ?_))
  fin_cases a
  · rfl
  · show 0 + 1 * i.val = i.val; omega
  · show 0 + 1 * j.val = j.val; omega
  · show 0 + 1 * k.val = k.val; omega

omit [FloatOps F] in
/-- The `m` part loaded from landing window 0. -/
theorem ld0_m (p : Part F) (c : Dev nD) (f : BufAt (F := F) c rW0) (h : Packed p (rW0.view.read (Elt F) f))
    (hb : ∀ a, (![0, 0, 0, 128] : Fin 4 → ℕ) a + S1x8x8x1.size a ≤ S3x8x8x256.size a) (hc : S1x8x8x1.ShapeCasts S8x8x1) :
    shapeCast S8x8x1 (rBuf.view.readAt (Elt F) (Rect.unit (s := S3x8x8x256) ![0, 0, 0, 128] S1x8x8x1.size hb).toLoadRect f) hc = p.m := by
  funext x
  obtain ⟨i, j, k, rfl⟩ : ∃ (i j : Fin 8) (k : Fin 1), x = ix3 i j k := ⟨x 0, x 1, x 2, eq_ix3 x⟩
  obtain rfl : k = 0 := Subsingleton.elim _ _
  refine Eq.trans ?_ (h.m i j)
  rw [rW0_at]
  show rBuf.view.read (Elt F) f ((Rect.unit (s := S3x8x8x256) ![0, 0, 0, 128] S1x8x8x1.size hb).emb (Shape.reshapeEquiv _ (ix3 i j _))) = _
  refine congrArg _ (Eq.trans (congrArg _ (Shape.reshapeEquiv_cons_one (d := ![8, 8, 1]) _ _)) (funext fun a => Fin.ext ?_))
  fin_cases a
  · rfl
  · show 0 + 1 * i.val = i.val; omega
  · show 0 + 1 * j.val = j.val; omega
  · rfl

omit [FloatOps F] in
/-- The `l` part loaded from landing window 0. -/
theorem ld0_l (p : Part F) (c : Dev nD) (f : BufAt (F := F) c rW0) (h : Packed p (rW0.view.read (Elt F) f))
    (hb : ∀ a, (![0, 0, 0, 129] : Fin 4 → ℕ) a + S1x8x8x1.size a ≤ S3x8x8x256.size a) (hc : S1x8x8x1.ShapeCasts S8x8x1) :
    shapeCast S8x8x1 (rBuf.view.readAt (Elt F) (Rect.unit (s := S3x8x8x256) ![0, 0, 0, 129] S1x8x8x1.size hb).toLoadRect f) hc = p.l := by
  funext x
  obtain ⟨i, j, k, rfl⟩ : ∃ (i j : Fin 8) (k : Fin 1), x = ix3 i j k := ⟨x 0, x 1, x 2, eq_ix3 x⟩
  obtain rfl : k = 0 := Subsingleton.elim _ _
  refine Eq.trans ?_ (h.l i j)
  rw [rW0_at]
  show rBuf.view.read (Elt F) f ((Rect.unit (s := S3x8x8x256) ![0, 0, 0, 129] S1x8x8x1.size hb).emb (Shape.reshapeEquiv _ (ix3 i j _))) = _
  refine congrArg _ (Eq.trans (congrArg _ (Shape.reshapeEquiv_cons_one (d := ![8, 8, 1]) _ _)) (funext fun a => Fin.ext ?_))
  fin_cases a
  · rfl
  · show 0 + 1 * i.val = i.val; omega
  · show 0 + 1 * j.val = j.val; omega
  · rfl

omit [FloatOps F] in
/-- The `a` part loaded from landing window 0. -/
theorem ld0_a (p : Part F) (c : Dev nD) (f : BufAt (F := F) c rW0) (h : Packed p (rW0.view.read (Elt F) f))
    (hb : ∀ a, (![0, 0, 0, 0] : Fin 4 → ℕ) a + S1x8x8x128.size a ≤ S3x8x8x256.size a) (hc : S1x8x8x128.ShapeCasts S8x8x128) :
    shapeCast S8x8x128 (rBuf.view.readAt (Elt F) (Rect.unit (s := S3x8x8x256) ![0, 0, 0, 0] S1x8x8x128.size hb).toLoadRect f) hc = p.a := by
  funext x
  obtain ⟨i, j, k, rfl⟩ : ∃ (i j : Fin 8) (k : Fin 128), x = ix3 i j k := ⟨x 0, x 1, x 2, eq_ix3 x⟩

  refine Eq.trans ?_ (h.a i j k)
  rw [rW0_at]
  show rBuf.view.read (Elt F) f ((Rect.unit (s := S3x8x8x256) ![0, 0, 0, 0] S1x8x8x128.size hb).emb (Shape.reshapeEquiv _ (ix3 i j _))) = _
  refine congrArg _ (Eq.trans (congrArg _ (Shape.reshapeEquiv_cons_one (d := ![8, 8, 128]) _ _)) (funext fun a => Fin.ext ?_))
  fin_cases a
  · rfl
  · show 0 + 1 * i.val = i.val; omega
  · show 0 + 1 * j.val = j.val; omega
  · show 0 + 1 * k.val = k.val; omega

omit [FloatOps F] in
/-- Landing window 1 at an index: the buffer at that row of it. -/
theorem rW1_at (c : Dev nD) (f : BufAt (F := F) c rW1) (i j : Fin 8) (k : Fin 256) :
    rW1.view.read (Elt F) f (ix3 i j k) = rBuf.view.read (Elt F) f (ix4 (1 : Fin 3) i j k) := by
  show rBuf.view.read (Elt F) f ((Rect.unit (s := S3x8x8x256) ![1, 0, 0, 0] S1x8x8x256.size inb_S3x8x8x256_S1x8x8x256_1_0_0_0).emb
    (Shape.reshapeEquiv _ (ix3 i j k))) = _
  refine congrArg _ (Eq.trans (congrArg _ (Shape.reshapeEquiv_cons_one (d := ![8, 8, 256]) _ _)) (funext fun a => Fin.ext ?_))
  fin_cases a
  · rfl
  · show 0 + 1 * i.val = i.val; omega
  · show 0 + 1 * j.val = j.val; omega
  · show 0 + 1 * k.val = k.val; omega

omit [FloatOps F] in
/-- The `m` part loaded from landing window 1. -/
theorem ld1_m (p : Part F) (c : Dev nD) (f : BufAt (F := F) c rW1) (h : Packed p (rW1.view.read (Elt F) f))
    (hb : ∀ a, (![1, 0, 0, 128] : Fin 4 → ℕ) a + S1x8x8x1.size a ≤ S3x8x8x256.size a) (hc : S1x8x8x1.ShapeCasts S8x8x1) :
    shapeCast S8x8x1 (rBuf.view.readAt (Elt F) (Rect.unit (s := S3x8x8x256) ![1, 0, 0, 128] S1x8x8x1.size hb).toLoadRect f) hc = p.m := by
  funext x
  obtain ⟨i, j, k, rfl⟩ : ∃ (i j : Fin 8) (k : Fin 1), x = ix3 i j k := ⟨x 0, x 1, x 2, eq_ix3 x⟩
  obtain rfl : k = 0 := Subsingleton.elim _ _
  refine Eq.trans ?_ (h.m i j)
  rw [rW1_at]
  show rBuf.view.read (Elt F) f ((Rect.unit (s := S3x8x8x256) ![1, 0, 0, 128] S1x8x8x1.size hb).emb (Shape.reshapeEquiv _ (ix3 i j _))) = _
  refine congrArg _ (Eq.trans (congrArg _ (Shape.reshapeEquiv_cons_one (d := ![8, 8, 1]) _ _)) (funext fun a => Fin.ext ?_))
  fin_cases a
  · rfl
  · show 0 + 1 * i.val = i.val; omega
  · show 0 + 1 * j.val = j.val; omega
  · rfl

omit [FloatOps F] in
/-- The `l` part loaded from landing window 1. -/
theorem ld1_l (p : Part F) (c : Dev nD) (f : BufAt (F := F) c rW1) (h : Packed p (rW1.view.read (Elt F) f))
    (hb : ∀ a, (![1, 0, 0, 129] : Fin 4 → ℕ) a + S1x8x8x1.size a ≤ S3x8x8x256.size a) (hc : S1x8x8x1.ShapeCasts S8x8x1) :
    shapeCast S8x8x1 (rBuf.view.readAt (Elt F) (Rect.unit (s := S3x8x8x256) ![1, 0, 0, 129] S1x8x8x1.size hb).toLoadRect f) hc = p.l := by
  funext x
  obtain ⟨i, j, k, rfl⟩ : ∃ (i j : Fin 8) (k : Fin 1), x = ix3 i j k := ⟨x 0, x 1, x 2, eq_ix3 x⟩
  obtain rfl : k = 0 := Subsingleton.elim _ _
  refine Eq.trans ?_ (h.l i j)
  rw [rW1_at]
  show rBuf.view.read (Elt F) f ((Rect.unit (s := S3x8x8x256) ![1, 0, 0, 129] S1x8x8x1.size hb).emb (Shape.reshapeEquiv _ (ix3 i j _))) = _
  refine congrArg _ (Eq.trans (congrArg _ (Shape.reshapeEquiv_cons_one (d := ![8, 8, 1]) _ _)) (funext fun a => Fin.ext ?_))
  fin_cases a
  · rfl
  · show 0 + 1 * i.val = i.val; omega
  · show 0 + 1 * j.val = j.val; omega
  · rfl

omit [FloatOps F] in
/-- The `a` part loaded from landing window 1. -/
theorem ld1_a (p : Part F) (c : Dev nD) (f : BufAt (F := F) c rW1) (h : Packed p (rW1.view.read (Elt F) f))
    (hb : ∀ a, (![1, 0, 0, 0] : Fin 4 → ℕ) a + S1x8x8x128.size a ≤ S3x8x8x256.size a) (hc : S1x8x8x128.ShapeCasts S8x8x128) :
    shapeCast S8x8x128 (rBuf.view.readAt (Elt F) (Rect.unit (s := S3x8x8x256) ![1, 0, 0, 0] S1x8x8x128.size hb).toLoadRect f) hc = p.a := by
  funext x
  obtain ⟨i, j, k, rfl⟩ : ∃ (i j : Fin 8) (k : Fin 128), x = ix3 i j k := ⟨x 0, x 1, x 2, eq_ix3 x⟩

  refine Eq.trans ?_ (h.a i j k)
  rw [rW1_at]
  show rBuf.view.read (Elt F) f ((Rect.unit (s := S3x8x8x256) ![1, 0, 0, 0] S1x8x8x128.size hb).emb (Shape.reshapeEquiv _ (ix3 i j _))) = _
  refine congrArg _ (Eq.trans (congrArg _ (Shape.reshapeEquiv_cons_one (d := ![8, 8, 128]) _ _)) (funext fun a => Fin.ext ?_))
  fin_cases a
  · rfl
  · show 0 + 1 * i.val = i.val; omega
  · show 0 + 1 * j.val = j.val; omega
  · show 0 + 1 * k.val = k.val; omega

omit [FloatOps F] in
/-- Landing window 2 at an index: the buffer at that row of it. -/
theorem rW2_at (c : Dev nD) (f : BufAt (F := F) c rW2) (i j : Fin 8) (k : Fin 256) :
    rW2.view.read (Elt F) f (ix3 i j k) = rBuf.view.read (Elt F) f (ix4 (2 : Fin 3) i j k) := by
  show rBuf.view.read (Elt F) f ((Rect.unit (s := S3x8x8x256) ![2, 0, 0, 0] S1x8x8x256.size inb_S3x8x8x256_S1x8x8x256_2_0_0_0).emb
    (Shape.reshapeEquiv _ (ix3 i j k))) = _
  refine congrArg _ (Eq.trans (congrArg _ (Shape.reshapeEquiv_cons_one (d := ![8, 8, 256]) _ _)) (funext fun a => Fin.ext ?_))
  fin_cases a
  · rfl
  · show 0 + 1 * i.val = i.val; omega
  · show 0 + 1 * j.val = j.val; omega
  · show 0 + 1 * k.val = k.val; omega

omit [FloatOps F] in
/-- The `m` part loaded from landing window 2. -/
theorem ld2_m (p : Part F) (c : Dev nD) (f : BufAt (F := F) c rW2) (h : Packed p (rW2.view.read (Elt F) f))
    (hb : ∀ a, (![2, 0, 0, 128] : Fin 4 → ℕ) a + S1x8x8x1.size a ≤ S3x8x8x256.size a) (hc : S1x8x8x1.ShapeCasts S8x8x1) :
    shapeCast S8x8x1 (rBuf.view.readAt (Elt F) (Rect.unit (s := S3x8x8x256) ![2, 0, 0, 128] S1x8x8x1.size hb).toLoadRect f) hc = p.m := by
  funext x
  obtain ⟨i, j, k, rfl⟩ : ∃ (i j : Fin 8) (k : Fin 1), x = ix3 i j k := ⟨x 0, x 1, x 2, eq_ix3 x⟩
  obtain rfl : k = 0 := Subsingleton.elim _ _
  refine Eq.trans ?_ (h.m i j)
  rw [rW2_at]
  show rBuf.view.read (Elt F) f ((Rect.unit (s := S3x8x8x256) ![2, 0, 0, 128] S1x8x8x1.size hb).emb (Shape.reshapeEquiv _ (ix3 i j _))) = _
  refine congrArg _ (Eq.trans (congrArg _ (Shape.reshapeEquiv_cons_one (d := ![8, 8, 1]) _ _)) (funext fun a => Fin.ext ?_))
  fin_cases a
  · rfl
  · show 0 + 1 * i.val = i.val; omega
  · show 0 + 1 * j.val = j.val; omega
  · rfl

omit [FloatOps F] in
/-- The `l` part loaded from landing window 2. -/
theorem ld2_l (p : Part F) (c : Dev nD) (f : BufAt (F := F) c rW2) (h : Packed p (rW2.view.read (Elt F) f))
    (hb : ∀ a, (![2, 0, 0, 129] : Fin 4 → ℕ) a + S1x8x8x1.size a ≤ S3x8x8x256.size a) (hc : S1x8x8x1.ShapeCasts S8x8x1) :
    shapeCast S8x8x1 (rBuf.view.readAt (Elt F) (Rect.unit (s := S3x8x8x256) ![2, 0, 0, 129] S1x8x8x1.size hb).toLoadRect f) hc = p.l := by
  funext x
  obtain ⟨i, j, k, rfl⟩ : ∃ (i j : Fin 8) (k : Fin 1), x = ix3 i j k := ⟨x 0, x 1, x 2, eq_ix3 x⟩
  obtain rfl : k = 0 := Subsingleton.elim _ _
  refine Eq.trans ?_ (h.l i j)
  rw [rW2_at]
  show rBuf.view.read (Elt F) f ((Rect.unit (s := S3x8x8x256) ![2, 0, 0, 129] S1x8x8x1.size hb).emb (Shape.reshapeEquiv _ (ix3 i j _))) = _
  refine congrArg _ (Eq.trans (congrArg _ (Shape.reshapeEquiv_cons_one (d := ![8, 8, 1]) _ _)) (funext fun a => Fin.ext ?_))
  fin_cases a
  · rfl
  · show 0 + 1 * i.val = i.val; omega
  · show 0 + 1 * j.val = j.val; omega
  · rfl

omit [FloatOps F] in
/-- The `a` part loaded from landing window 2. -/
theorem ld2_a (p : Part F) (c : Dev nD) (f : BufAt (F := F) c rW2) (h : Packed p (rW2.view.read (Elt F) f))
    (hb : ∀ a, (![2, 0, 0, 0] : Fin 4 → ℕ) a + S1x8x8x128.size a ≤ S3x8x8x256.size a) (hc : S1x8x8x128.ShapeCasts S8x8x128) :
    shapeCast S8x8x128 (rBuf.view.readAt (Elt F) (Rect.unit (s := S3x8x8x256) ![2, 0, 0, 0] S1x8x8x128.size hb).toLoadRect f) hc = p.a := by
  funext x
  obtain ⟨i, j, k, rfl⟩ : ∃ (i j : Fin 8) (k : Fin 128), x = ix3 i j k := ⟨x 0, x 1, x 2, eq_ix3 x⟩

  refine Eq.trans ?_ (h.a i j k)
  rw [rW2_at]
  show rBuf.view.read (Elt F) f ((Rect.unit (s := S3x8x8x256) ![2, 0, 0, 0] S1x8x8x128.size hb).emb (Shape.reshapeEquiv _ (ix3 i j _))) = _
  refine congrArg _ (Eq.trans (congrArg _ (Shape.reshapeEquiv_cons_one (d := ![8, 8, 128]) _ _)) (funext fun a => Fin.ext ?_))
  fin_cases a
  · rfl
  · show 0 + 1 * i.val = i.val; omega
  · show 0 + 1 * j.val = j.val; omega
  · show 0 + 1 * k.val = k.val; omega

/-! ## Whole loads of the three accumulators -/

omit [FloatOps F] in
theorem rd_m (f : S8x8x1.Idx → F .f32) (h : ∀ a, (![0, 0, 0] : Fin 3 → ℕ) a + S8x8x1.size a ≤ S8x8x1.size a) :
    View.readAt (Elt F) mSc.view (Rect.unit (s := S8x8x1) ![0, 0, 0] S8x8x1.size h).toLoadRect f = f := by
  exact View.readAt_full (Val := Elt F) mSc.view f h
set_option maxHeartbeats 1000000 in
theorem rc_m (h h' : ∀ a, (![0, 0, 0] : Fin 3 → ℕ) a + S8x8x1.size a ≤ S8x8x1.size a) (w : S8x8x1.Idx → F .f32) (L : List (View.Piece (Elt F) S8x8x1 .f32)) :
    mSc.view.readCov ((⟨Rect.unit (s := S8x8x1) ![0, 0, 0] S8x8x1.size h', w⟩ : View.Piece (Elt F) S8x8x1 .f32) :: L) (Rect.unit (s := S8x8x1) ![0, 0, 0] S8x8x1.size h).toLoadRect = w := by
  exact View.readCov_full (Val := Elt F) mSc.view h h' w L

omit [FloatOps F] in
theorem rd_l (f : S8x8x1.Idx → F .f32) (h : ∀ a, (![0, 0, 0] : Fin 3 → ℕ) a + S8x8x1.size a ≤ S8x8x1.size a) :
    View.readAt (Elt F) lSc.view (Rect.unit (s := S8x8x1) ![0, 0, 0] S8x8x1.size h).toLoadRect f = f := by
  exact View.readAt_full (Val := Elt F) lSc.view f h
set_option maxHeartbeats 1000000 in
theorem rc_l (h h' : ∀ a, (![0, 0, 0] : Fin 3 → ℕ) a + S8x8x1.size a ≤ S8x8x1.size a) (w : S8x8x1.Idx → F .f32) (L : List (View.Piece (Elt F) S8x8x1 .f32)) :
    lSc.view.readCov ((⟨Rect.unit (s := S8x8x1) ![0, 0, 0] S8x8x1.size h', w⟩ : View.Piece (Elt F) S8x8x1 .f32) :: L) (Rect.unit (s := S8x8x1) ![0, 0, 0] S8x8x1.size h).toLoadRect = w := by
  exact View.readCov_full (Val := Elt F) lSc.view h h' w L

omit [FloatOps F] in
theorem rd_a (f : S8x8x128.Idx → F .f32) (h : ∀ a, (![0, 0, 0] : Fin 3 → ℕ) a + S8x8x128.size a ≤ S8x8x128.size a) :
    View.readAt (Elt F) aSc.view (Rect.unit (s := S8x8x128) ![0, 0, 0] S8x8x128.size h).toLoadRect f = f := by
  exact View.readAt_full (Val := Elt F) aSc.view f h
set_option maxHeartbeats 1000000 in
theorem rc_a (h h' : ∀ a, (![0, 0, 0] : Fin 3 → ℕ) a + S8x8x128.size a ≤ S8x8x128.size a) (w : S8x8x128.Idx → F .f32) (L : List (View.Piece (Elt F) S8x8x128 .f32)) :
    aSc.view.readCov ((⟨Rect.unit (s := S8x8x128) ![0, 0, 0] S8x8x128.size h', w⟩ : View.Piece (Elt F) S8x8x128 .f32) :: L) (Rect.unit (s := S8x8x128) ![0, 0, 0] S8x8x128.size h).toLoadRect = w := by
  exact View.readCov_full (Val := Elt F) aSc.view h h' w L

end Cert.KernelIdeal.Hand

end
-- ==== Proof.Tail.lean ====
module

public import proofs.«01_k».proof.Proof.RunA
public import proofs.«01_k».proof.Proof.TailWin
public import Idealize.ShloMosaic.Lib.Pipeline.Launch
public import Idealize.ShloMosaic.Lib.Batch
public import Idealize.ShloMosaic.Lib.VecWindow
public import Idealize.ShloMosaic.Lib.Pointwise
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (T : Fin 3 → Dev nD → Part F)

/-- Two partial results combined: both rescaled to the larger maximum, then added. -/
def Part.merge (p p' : Part F) : Part F where
  m := maximumf p.m p'.m
  l := addf (mulf p.l (exp (subf p.m (maximumf p.m p'.m)))) (mulf p'.l (exp (subf p'.m (maximumf p.m p'.m))))
  a := addf (mulf p.a (broadcastTo S8x8x128 (exp (subf p.m (maximumf p.m p'.m))) broadcasts_S8x8x1_S8x8x128))
    (mulf p'.a (broadcastTo S8x8x128 (exp (subf p'.m (maximumf p.m p'.m))) broadcasts_S8x8x1_S8x8x128))

/-- A partial result divided out. -/
def Part.out (p : Part F) : Vec F S8x8x128 .f32 := k0_pay2 p.a p.l

omit [FloatOps F] in
/-- What a device still owes after stage `s` is above level `b` while `b ≤ 2 + s`. -/
theorem above_after (s : Fin 3) (b : ℕ) (c : Dev nD) (hb : b ≤ 2 + s.val) :
    Above b (match s with | 0 => owR 2 c + owR 1 c | 1 => owR 2 c | 2 => 0) := by
  fin_cases s
  · exact (Above.recv 2 _ (by show b < 4; simp at hb; omega)).add (Above.recv 1 _ (by show b < 3; simp at hb; omega))
  · exact Above.recv 2 _ (by show b < 4; simp at hb; omega)
  · exact Above.zero b

omit [FloatOps F] in
theorem pay_send (s : Fin 3) (c : Dev nD) : bigSep ((Rd T).duties (sendCell s c) 0) (fun d => (Rd T).payload (sendCell s c) 0 d) = sendPay c := by
  rw [duties_send, bigSep_singleton, payload_send]
omit [FloatOps F] in
theorem pay_recv (s : Fin 3) (c : Dev nD) : bigSep ((Rd T).duties (recvCell s c) 0) (fun d => (Rd T).payload (recvCell s c) 0 d) = recvPay T s c := by
  rw [duties_recv, bigSep_singleton, payload_recv]

/-- An exchange's send: the partial result to the partner's window. -/
theorem wp_xfer (s : Fin 3) (κ κ' : ℕ) (c n : Dev nD) (hn : n = peer s c) (O : CellTallies nD τ sig Unit) (W : Waits sig Unit)
    (fs : BufAt (F := F) c sBuf)
    {hsc : (rW s : Memref sig (Dev.tc n : Thread nD τ).2.kind .vmem S8x8x256 .f32).view.ref.isScScratch = false}
    {hsrc : (sBuf : Memref sig .tc .vmem S8x8x256 .f32).view.WordExact} {hdst : (rW s : Memref sig .tc .vmem S8x8x256 .f32).view.WordExact}
    {hsem : DmaTarget.Typed .vmem (.dma (recvS s)) (.remote (Dev.tc n : Thread nD τ) (rW s : Memref sig .tc .vmem S8x8x256 .f32) (.dma (sendS s)) hsc)}
    {α : Type} {Q : α → sProp 𝕄} {k : PUnit → Prog (TpuEff nD τ sig (Elt F) Λ₀ .tc) α} :
    iprop(cellInv ER (Rd T) κ (sendCell s c) ∗ cellInv ER (Rd T) κ' (recvCell s (peer s c)) ∗ heldQ c sBuf fullShare fs ∗ (∃ f, heldQ (F := F) (peer s c) (rW s) fullShare f)
        ∗ owes (c : Thread nD τ) (O + owR s c) W
        ∗ dutyTok ER (sendCell s c) 0 (0 : Fin 3) ∗ reached ER (sendCell s c) 0
        ∗ dutyTok ER (recvCell s (peer s c)) 0 (0 : Fin 3) ∗ reached ER (recvCell s (peer s c)) 0 ∗ ⌜Packed (T s c) (sBuf.view.read (Elt F) fs)⌝)
      ⊢ iprop(((cred (tallyAt (sendCell s c) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma sBuf (.remote (Dev.tc n : Thread nD τ) (rW s) (.dma (sendS s)) hsc) (.dma (recvS s)) hsrc hdst hsem) k) Q) := by
  subst hn
  iintro ⟨#HI, #HI', Hs, ⟨%fd, Hd⟩, HO, Ht, #Hr, Ht', #Hr', %hp⟩ Hk
  iapply (Rounds.wp_send_pointsTo Variants.none ER (Rd T) (c : Thread nD τ) none (κ₁ := κ) (κ₂ := κ')
    (r₁ := 0) (r₂ := 0) (d₁ := (0 : Fin 3)) (d₂ := (0 : Fin 3)) (fd := fd)
    (by rw [duties_send]; exact Finset.mem_singleton_self _) (by rw [duties_recv]; exact Finset.mem_singleton_self _)
    () () N (by fin_cases s <;> rfl) (amount_send T s c 0) (amount_recv T s (peer s c) 0) O rfl (W := W)
    (by rw [payload_send]; unfold sendPay; iintro H; iexists fs; iexact H)
    (by
      rw [payload_recv]; unfold recvPay; rw [peer_peer]
      iintro H; iexists ((rW s).view.write (Elt F) fd (sBuf.view.read (Elt F) fs) Finset.univ); isplitr
      · ipureintro; rw [View.read_write_univ]; exact hp
      · iexact H)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iexact Hk

set_option maxHeartbeats 4000000 in
/-- The last block's end: three exchanges, then the division. -/
theorem runC (hT1 : ∀ c, T 1 c = (T 0 c).merge (T 0 (peer 0 c))) (hT2 : ∀ c, T 2 c = (T 1 c).merge (T 1 (peer 1 c)))
    (K : Dev nD × Fin 7 → ℕ) (c : Dev nD) (a1 : Memref sig .tc .vmem S8x1024 .f32) (ha1 : a1.IsWhole) (a4 : Memref sig .tc .vmem S8x512 .i32) (ha4 : a4.IsWhole)
    (a5 : Memref sig .tc .vmem S8x1 .i32) (ha5 : a5.IsWhole) (a6 : Memref sig .tc .vmem S8x8x128 .f32) (ha6 : a6.IsWhole)
    (f6 : BufAt (F := F) c a6) (fs : BufAt (F := F) c sBuf) (w0 w2 w5 w8 : BitVec 32) (W : Waits sig Unit) :
    iprop(heldQ c a6 fullShare f6 ∗ heldQ c mSc fullShare (T 0 c).m ∗ heldQ c lSc fullShare (T 0 c).l ∗ heldQ c aSc fullShare (T 0 c).a
      ∗ heldQ c sBuf fullShare fs ∗ barPay (F := F) 0 c ∗ barPay (F := F) 1 c ∗ barPay (F := F) 2 c
      ∗ invs T K c ∗ xferGhost (F := F) c ∗ owes (c : Thread nD τ) (O₁ c) W ∗ levAts L lv)
      ⊢ wp frame (wpE (defs₀ (F := F)) Variants.none (c : Thread nD τ) none) Set.univ
        (tailProg (F := F) (grid0.coords t0_1) a1 ha1 kHbm (Memref.isWhole_whole _) vHbm (Memref.isWhole_whole _) a4 ha4 a5 ha5 a6 ha6
          mSc (Memref.isWhole_whole _) lSc (Memref.isWhole_whole _) aSc (Memref.isWhole_whole _) kBuf (Memref.isWhole_whole _) vBuf (Memref.isWhole_whole _)
          sBuf (Memref.isWhole_whole _) rBuf (Memref.isWhole_whole _) cc0_scratch7 cc0_scratch8 cc0_scratch9 cc0_scratch10 c w2 w5 w8)
        (fun _ => iprop((∃ f : BufAt (F := F) c a6, ⌜a6.view.read (Elt F) f = ((T 2 c).merge (T 2 (peer 2 c))).out⌝ ∗ heldQ c a6 fullShare f)
          ∗ (∃ f, heldQ (F := F) c mSc fullShare f) ∗ (∃ f, heldQ (F := F) c lSc fullShare f) ∗ (∃ f, heldQ (F := F) c aSc fullShare f) ∗ (∃ f, heldQ (F := F) c sBuf fullShare f)
          ∗ (∃ f, heldQ (F := F) c rW0 fullShare f) ∗ (∃ f, heldQ (F := F) c rW1 fullShare f) ∗ (∃ f, heldQ (F := F) c rW2 fullShare f)
          ∗ semVal (sendCell 0 c) 0 ∗ semVal (sendCell 1 c) 0 ∗ semVal (sendCell 2 c) 0
          ∗ semVal (recvCell 0 c) 0 ∗ semVal (recvCell 1 c) 0 ∗ semVal (recvCell 2 c) 0
          ∗ (∃ W', owes (c : Thread nD τ) 0 W'))) := by
  unfold invs xferGhost barPay
  iintro ⟨H6, Hm, Hl, Ha, Hs, ⟨Hw0, #HrP0⟩, ⟨Hw1, #HrP1⟩, ⟨Hw2, #HrP2⟩, ⟨#IB, #IS0, #IS1, #IS2, #IR0, #IR1, #IR2, #IBP0, #IBP1, #IBP2, #IRP0, #IRP1, #IRP2⟩, ⟨HaS0, HaV0, #HrS0, HtS0, HtV0, HcV0, HaS1, HaV1, #HrS1, HtS1, HtV1, HcV1, HaS2, HaV2, #HrS2, HtS2, HtV2, HcV2⟩, HO, #Hlev⟩
  unfold tailProg O₁
  sl_exec
  iapply (wp_xfer T 0 (K (c, 1)) (K (peer 0 c, 4)) c _ (dev4_eq c _) (owR 2 c + owR 1 c) _ _) $$ [Hs Hw0 HO HtS0 HtV0]
  · isplitr; · iexact IS0
    isplitr; · iexact IRP0
    isplitl [Hs]; · iexact Hs
    isplitl [Hw0]; · iexact Hw0
    isplitl [HO]; · iexact HO
    isplitl [HtS0]; · iexact HtS0
    isplitr; · iexact HrS0
    isplitl [HtV0]; · iexact HtV0
    isplitr; · iexact HrP0
    ipureintro
    exact packed_writes (T 0 c) c _ _ _ _ (by repeat (first | delta runC.sl.v561 | delta runC.sl.v560 | delta runC.sl.v559 | delta runC.sl.v557 | delta runC.sl.v556 | delta runC.sl.v555 | delta runC.sl.v553 | delta runC.sl.v552); (repeat (first | rw [rc_m] | rw [rc_l] | rw [rc_a] | rw [rd_m] | rw [rd_l] | rw [rd_a])); simp only [shapeCast_self, k0_pay6, k0_pay7, k0_pay8]) (by repeat (first | delta runC.sl.v561 | delta runC.sl.v560 | delta runC.sl.v559 | delta runC.sl.v557 | delta runC.sl.v556 | delta runC.sl.v555 | delta runC.sl.v553 | delta runC.sl.v552); (repeat (first | rw [rc_m] | rw [rc_l] | rw [rc_a] | rw [rd_m] | rw [rd_l] | rw [rd_a])); simp only [shapeCast_self, k0_pay6, k0_pay7, k0_pay8]) (by repeat (first | delta runC.sl.v561 | delta runC.sl.v560 | delta runC.sl.v559 | delta runC.sl.v557 | delta runC.sl.v556 | delta runC.sl.v555 | delta runC.sl.v553 | delta runC.sl.v552); (repeat (first | rw [rc_m] | rw [rc_l] | rw [rc_a] | rw [rd_m] | rw [rd_l] | rw [rd_a])); simp only [shapeCast_self, k0_pay6, k0_pay7, k0_pay8]) _ _ _
  iintro ⟨HcS0, HO⟩
  sl_exec

  iapply (Rounds.wp_wait_rest_token Variants.none ER (Rd T) (c : Thread nD τ) none (κ := K (c, 1))
      (wpE_waitDma2_eq Variants.none (c : Thread nD τ) none Set.univ) (Set.mem_univ _) () (O := owR 2 c + owR 1 c) (R := 0) (m := 0) (T := ∅)
      (by rw [Nat.zero_add]; exact (expect_send T 0 c).symm)) $$ [HcS0 HO HaS0]
  · isplitr; · iexact IS0
    isplitl [HcS0]; · iexact HcS0
    isplitl [HO]; · iexact HO
    isplitr; · iapply (mayWait_of c (.dma (sendS 0)) 0 (lv_dma c _ (by decide) ()) (above_after 0 0 c (by decide))); iexact Hlev
    iexact HaS0
  iintro ⟨HO, HaS0, -, Hpay⟩
  ihave Hp := (Entails.of_eq (rest_send T 0 c)) $$ Hpay
  unfold sendPay
  icases Hp with ⟨%fs1, Hs⟩
  sl_exec
  iapply (Rounds.wp_wait_rest_token Variants.none ER (Rd T) (c : Thread nD τ) none (κ := K (c, 4))
      (wpE_waitDma2_eq Variants.none (c : Thread nD τ) none Set.univ) (Set.mem_univ _) () (O := owR 2 c + owR 1 c) (R := 0) (m := 0) (T := ∅)
      (by rw [Nat.zero_add]; exact (expect_recv T 0 c).symm)) $$ [HcV0 HO HaV0]
  · isplitr; · iexact IR0
    isplitl [HcV0]; · iexact HcV0
    isplitl [HO]; · iexact HO
    isplitr; · iapply (mayWait_of c (.dma (recvS 0)) 2 (lv_recv 0 c ()) (above_after 0 2 c (by decide))); iexact Hlev
    iexact HaV0
  iintro ⟨HO, HaV0, -, Hpay⟩
  ihave Hp := (Entails.of_eq (rest_recv T 0 c)) $$ Hpay
  unfold recvPay
  icases Hp with ⟨%fr0, %hr0, Hr0⟩
  imod (Rounds.cell_close ER (Rd T) (Set.mem_univ (K (c, 1))) (fun h => h) (R := 0 + 1) (duties_later T (sendCell 0 c))) $$ [HaS0] with HzS0
  · isplitr; · iexact IS0
    iexact HaS0
  imod (Rounds.cell_close ER (Rd T) (Set.mem_univ (K (c, 4))) (fun h => h) (R := 0 + 1) (duties_later T (recvCell 0 c))) $$ [HaV0] with HzV0
  · isplitr; · iexact IR0
    iexact HaV0
  sl_exec
  iapply (wp_xfer T 1 (K (c, 2)) (K (peer 1 c, 5)) c _ (dev5_eq c _) (owR 2 c) _ _) $$ [Hs Hw1 HO HtS1 HtV1]
  · isplitr; · iexact IS1
    isplitr; · iexact IRP1
    isplitl [Hs]; · iexact Hs
    isplitl [Hw1]; · iexact Hw1
    isplitl [HO]; · iexact HO
    isplitl [HtS1]; · iexact HtS1
    isplitr; · iexact HrS1
    isplitl [HtV1]; · iexact HtV1
    isplitr; · iexact HrP1
    ipureintro
    exact packed_writes (T 1 c) c _ _ _ _ (by rw [hT1 c]; repeat (first | delta runC.sl.r | delta runC.sl.r_1 | delta runC.sl.r_2 | delta runC.sl.r_3 | delta runC.sl.v623 | delta runC.sl.v627 | delta runC.sl.v628 | delta runC.sl.v629 | delta runC.sl.v630 | delta runC.sl.v631 | delta runC.sl.v632 | delta runC.sl.v633 | delta runC.sl.v634 | delta runC.sl.Hm_1 | delta runC.sl.Hl_1 | delta runC.sl.Ha_1); (repeat (first | rw [rc_m] | rw [rc_l] | rw [rc_a] | rw [rd_m] | rw [rd_l] | rw [rd_a])); simp only [shapeCast_self, k0_pay9, k0_pay10, k0_pay11, k0_pay12, k0_pay13, k0_pay14, k0_pay15, k0_pay16, k0_pay17, k0_pay18, k0_pay19, k0_pay20, ld0_m _ c _ hr0, ld0_l _ c _ hr0, ld0_a _ c _ hr0, Part.merge]) (by rw [hT1 c]; repeat (first | delta runC.sl.r | delta runC.sl.r_1 | delta runC.sl.r_2 | delta runC.sl.r_3 | delta runC.sl.v623 | delta runC.sl.v627 | delta runC.sl.v628 | delta runC.sl.v629 | delta runC.sl.v630 | delta runC.sl.v631 | delta runC.sl.v632 | delta runC.sl.v633 | delta runC.sl.v634 | delta runC.sl.Hm_1 | delta runC.sl.Hl_1 | delta runC.sl.Ha_1); (repeat (first | rw [rc_m] | rw [rc_l] | rw [rc_a] | rw [rd_m] | rw [rd_l] | rw [rd_a])); simp only [shapeCast_self, k0_pay9, k0_pay10, k0_pay11, k0_pay12, k0_pay13, k0_pay14, k0_pay15, k0_pay16, k0_pay17, k0_pay18, k0_pay19, k0_pay20, ld0_m _ c _ hr0, ld0_l _ c _ hr0, ld0_a _ c _ hr0, Part.merge]) (by rw [hT1 c]; repeat (first | delta runC.sl.r | delta runC.sl.r_1 | delta runC.sl.r_2 | delta runC.sl.r_3 | delta runC.sl.v623 | delta runC.sl.v627 | delta runC.sl.v628 | delta runC.sl.v629 | delta runC.sl.v630 | delta runC.sl.v631 | delta runC.sl.v632 | delta runC.sl.v633 | delta runC.sl.v634 | delta runC.sl.Hm_1 | delta runC.sl.Hl_1 | delta runC.sl.Ha_1); (repeat (first | rw [rc_m] | rw [rc_l] | rw [rc_a] | rw [rd_m] | rw [rd_l] | rw [rd_a])); simp only [shapeCast_self, k0_pay9, k0_pay10, k0_pay11, k0_pay12, k0_pay13, k0_pay14, k0_pay15, k0_pay16, k0_pay17, k0_pay18, k0_pay19, k0_pay20, ld0_m _ c _ hr0, ld0_l _ c _ hr0, ld0_a _ c _ hr0, Part.merge]) _ _ _
  iintro ⟨HcS1, HO⟩
  sl_exec

  iapply (Rounds.wp_wait_rest_token Variants.none ER (Rd T) (c : Thread nD τ) none (κ := K (c, 2))
      (wpE_waitDma2_eq Variants.none (c : Thread nD τ) none Set.univ) (Set.mem_univ _) () (O := owR 2 c) (R := 0) (m := 0) (T := ∅)
      (by rw [Nat.zero_add]; exact (expect_send T 1 c).symm)) $$ [HcS1 HO HaS1]
  · isplitr; · iexact IS1
    isplitl [HcS1]; · iexact HcS1
    isplitl [HO]; · iexact HO
    isplitr; · iapply (mayWait_of c (.dma (sendS 1)) 0 (lv_dma c _ (by decide) ()) (above_after 1 0 c (by decide))); iexact Hlev
    iexact HaS1
  iintro ⟨HO, HaS1, -, Hpay⟩
  ihave Hp := (Entails.of_eq (rest_send T 1 c)) $$ Hpay
  unfold sendPay
  icases Hp with ⟨%fs2, Hs⟩
  sl_exec
  iapply (Rounds.wp_wait_rest_token Variants.none ER (Rd T) (c : Thread nD τ) none (κ := K (c, 5))
      (wpE_waitDma2_eq Variants.none (c : Thread nD τ) none Set.univ) (Set.mem_univ _) () (O := owR 2 c) (R := 0) (m := 0) (T := ∅)
      (by rw [Nat.zero_add]; exact (expect_recv T 1 c).symm)) $$ [HcV1 HO HaV1]
  · isplitr; · iexact IR1
    isplitl [HcV1]; · iexact HcV1
    isplitl [HO]; · iexact HO
    isplitr; · iapply (mayWait_of c (.dma (recvS 1)) 3 (lv_recv 1 c ()) (above_after 1 3 c (by decide))); iexact Hlev
    iexact HaV1
  iintro ⟨HO, HaV1, -, Hpay⟩
  ihave Hp := (Entails.of_eq (rest_recv T 1 c)) $$ Hpay
  unfold recvPay
  icases Hp with ⟨%fr1, %hr1, Hr1⟩
  imod (Rounds.cell_close ER (Rd T) (Set.mem_univ (K (c, 2))) (fun h => h) (R := 0 + 1) (duties_later T (sendCell 1 c))) $$ [HaS1] with HzS1
  · isplitr; · iexact IS1
    iexact HaS1
  imod (Rounds.cell_close ER (Rd T) (Set.mem_univ (K (c, 5))) (fun h => h) (R := 0 + 1) (duties_later T (recvCell 1 c))) $$ [HaV1] with HzV1
  · isplitr; · iexact IR1
    iexact HaV1
  sl_exec
  rw [show owR 2 c = 0 + owR 2 c from (zero_add _).symm]
  iapply (wp_xfer T 2 (K (c, 3)) (K (peer 2 c, 6)) c _ (dev6_eq c _) (0) _ _) $$ [Hs Hw2 HO HtS2 HtV2]
  · isplitr; · iexact IS2
    isplitr; · iexact IRP2
    isplitl [Hs]; · iexact Hs
    isplitl [Hw2]; · iexact Hw2
    isplitl [HO]; · iexact HO
    isplitl [HtS2]; · iexact HtS2
    isplitr; · iexact HrS2
    isplitl [HtV2]; · iexact HtV2
    isplitr; · iexact HrP2
    ipureintro
    exact packed_writes (T 2 c) c _ _ _ _ (by rw [hT2 c, hT1 c]; repeat (first | delta runC.sl.r_4 | delta runC.sl.r_5 | delta runC.sl.r_6 | delta runC.sl.r_7 | delta runC.sl.v667 | delta runC.sl.v674 | delta runC.sl.v681 | delta runC.sl.v693 | delta runC.sl.v697 | delta runC.sl.v701 | delta runC.sl.Hm_2 | delta runC.sl.Hl_2 | delta runC.sl.Ha_2 | delta runC.sl.r | delta runC.sl.r_1 | delta runC.sl.r_2 | delta runC.sl.r_3 | delta runC.sl.v623 | delta runC.sl.v627 | delta runC.sl.v628 | delta runC.sl.v629 | delta runC.sl.v630 | delta runC.sl.v631 | delta runC.sl.v632 | delta runC.sl.v633 | delta runC.sl.v634 | delta runC.sl.Hm_1 | delta runC.sl.Hl_1 | delta runC.sl.Ha_1); (repeat (first | rw [rc_m] | rw [rc_l] | rw [rc_a] | rw [rd_m] | rw [rd_l] | rw [rd_a])); simp only [shapeCast_self, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, ld0_m _ c _ hr0, ld0_l _ c _ hr0, ld0_a _ c _ hr0, ld1_m _ c _ hr1, ld1_l _ c _ hr1, ld1_a _ c _ hr1, Part.merge]) (by rw [hT2 c, hT1 c]; repeat (first | delta runC.sl.r_4 | delta runC.sl.r_5 | delta runC.sl.r_6 | delta runC.sl.r_7 | delta runC.sl.v667 | delta runC.sl.v674 | delta runC.sl.v681 | delta runC.sl.v693 | delta runC.sl.v697 | delta runC.sl.v701 | delta runC.sl.Hm_2 | delta runC.sl.Hl_2 | delta runC.sl.Ha_2 | delta runC.sl.r | delta runC.sl.r_1 | delta runC.sl.r_2 | delta runC.sl.r_3 | delta runC.sl.v623 | delta runC.sl.v627 | delta runC.sl.v628 | delta runC.sl.v629 | delta runC.sl.v630 | delta runC.sl.v631 | delta runC.sl.v632 | delta runC.sl.v633 | delta runC.sl.v634 | delta runC.sl.Hm_1 | delta runC.sl.Hl_1 | delta runC.sl.Ha_1); (repeat (first | rw [rc_m] | rw [rc_l] | rw [rc_a] | rw [rd_m] | rw [rd_l] | rw [rd_a])); simp only [shapeCast_self, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, ld0_m _ c _ hr0, ld0_l _ c _ hr0, ld0_a _ c _ hr0, ld1_m _ c _ hr1, ld1_l _ c _ hr1, ld1_a _ c _ hr1, Part.merge]) (by rw [hT2 c, hT1 c]; repeat (first | delta runC.sl.r_4 | delta runC.sl.r_5 | delta runC.sl.r_6 | delta runC.sl.r_7 | delta runC.sl.v667 | delta runC.sl.v674 | delta runC.sl.v681 | delta runC.sl.v693 | delta runC.sl.v697 | delta runC.sl.v701 | delta runC.sl.Hm_2 | delta runC.sl.Hl_2 | delta runC.sl.Ha_2 | delta runC.sl.r | delta runC.sl.r_1 | delta runC.sl.r_2 | delta runC.sl.r_3 | delta runC.sl.v623 | delta runC.sl.v627 | delta runC.sl.v628 | delta runC.sl.v629 | delta runC.sl.v630 | delta runC.sl.v631 | delta runC.sl.v632 | delta runC.sl.v633 | delta runC.sl.v634 | delta runC.sl.Hm_1 | delta runC.sl.Hl_1 | delta runC.sl.Ha_1); (repeat (first | rw [rc_m] | rw [rc_l] | rw [rc_a] | rw [rd_m] | rw [rd_l] | rw [rd_a])); simp only [shapeCast_self, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, ld0_m _ c _ hr0, ld0_l _ c _ hr0, ld0_a _ c _ hr0, ld1_m _ c _ hr1, ld1_l _ c _ hr1, ld1_a _ c _ hr1, Part.merge]) _ _ _
  iintro ⟨HcS2, HO⟩
  sl_exec

  ihave Hp := (Entails.of_eq (pay_send T 2 c)) $$ HaS2_pay1
  unfold sendPay
  icases Hp with ⟨%fs3, Hs⟩
  ihave Hp := (Entails.of_eq (pay_recv T 2 c)) $$ HaV2_pay1
  unfold recvPay
  icases Hp with ⟨%fr2, %hr2, Hr2⟩
  imod (Rounds.cell_close ER (Rd T) (Set.mem_univ (K (c, 3))) (fun h => h) (R := 0 + 1) (duties_later T (sendCell 2 c))) $$ [HaS2] with HzS2
  · isplitr; · iexact IS2
    iexact HaS2
  imod (Rounds.cell_close ER (Rd T) (Set.mem_univ (K (c, 6))) (fun h => h) (R := 0 + 1) (duties_later T (recvCell 2 c))) $$ [HaV2] with HzV2
  · isplitr; · iexact IR2
    iexact HaV2
  sl_exec
  rw [wp_ret]; imodintro
  isplitl [H6]
  · iexists _
    isplitr
    rotate_left
    · iexact H6
    · ipureintro
      rw [View.read_writes_full a6.view f6 _ _ [], hT2 c, hT1 c]
      repeat (first | delta runC.sl.r_8 | delta runC.sl.v731 | delta runC.sl.v732 | delta runC.sl.v737 | delta runC.sl.v744 | delta runC.sl.v751 | delta runC.sl.v763 | delta runC.sl.v764 | delta runC.sl.Hl_3 | delta runC.sl.Ha_3 | delta runC.sl.r_4 | delta runC.sl.r_5 | delta runC.sl.r_6 | delta runC.sl.r_7 | delta runC.sl.v667 | delta runC.sl.v674 | delta runC.sl.v681 | delta runC.sl.v693 | delta runC.sl.v697 | delta runC.sl.v701 | delta runC.sl.Hm_2 | delta runC.sl.Hl_2 | delta runC.sl.Ha_2 | delta runC.sl.r | delta runC.sl.r_1 | delta runC.sl.r_2 | delta runC.sl.r_3 | delta runC.sl.v623 | delta runC.sl.v627 | delta runC.sl.v628 | delta runC.sl.v629 | delta runC.sl.v630 | delta runC.sl.v631 | delta runC.sl.v632 | delta runC.sl.v633 | delta runC.sl.v634 | delta runC.sl.Hm_1 | delta runC.sl.Hl_1 | delta runC.sl.Ha_1); (repeat (first | rw [rc_m] | rw [rc_l] | rw [rc_a] | rw [rd_m] | rw [rd_l] | rw [rd_a]));
      simp only [Part.out, Part.merge, shapeCast_self, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, ld0_m _ c _ hr0, ld0_l _ c _ hr0, ld0_a _ c _ hr0, ld1_m _ c _ hr1, ld1_l _ c _ hr1, ld1_a _ c _ hr1, ld2_m _ c _ hr2, ld2_l _ c _ hr2, ld2_a _ c _ hr2]
  isplitl [Hm]; · iexists _; iexact Hm
  isplitl [Hl]; · iexists _; iexact Hl
  isplitl [Ha]; · iexists _; iexact Ha
  isplitl [Hs]; · iexists _; iexact Hs
  isplitl [Hr0]; · iexists _; iexact Hr0
  isplitl [Hr1]; · iexists _; iexact Hr1
  isplitl [Hr2]; · iexists _; iexact Hr2
  isplitl [HzS0]; · iexact HzS0
  isplitl [HzS1]; · iexact HzS1
  isplitl [HzS2]; · iexact HzS2
  isplitl [HzV0]; · iexact HzV0
  isplitl [HzV1]; · iexact HzV1
  isplitl [HzV2]; · iexact HzV2
  iexists _; iexact HO

end Cert.KernelIdeal.Hand

end
-- ==== Proof.RunB0.lean ====
module

public import proofs.«01_k».proof.Proof.Windows
public import Idealize.ShloMosaic.Lib.Pipeline.Launch
public import Idealize.ShloMosaic.Lib.Batch
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 8000000 in
def runB0 (c : Dev nD) (a1 : Memref sig .tc .vmem S8x1024 .f32) (ha1 : a1.IsWhole) (a4 : Memref sig .tc .vmem S8x512 .i32) (ha4 : a4.IsWhole)
    (a5 : Memref sig .tc .vmem S8x1 .i32) (ha5 : a5.IsWhole) (a6 : Memref sig .tc .vmem S8x8x128 .f32) (ha6 : a6.IsWhole)
    (f1 : BufAt (F := F) c a1) (f4 : BufAt (F := F) c a4)
    (fk : BufAt (F := F) c kHbm) (fv : BufAt (F := F) c vHbm) (fm : BufAt (F := F) c mSc) (fl : BufAt (F := F) c lSc) (fa : BufAt (F := F) c aSc)
    (dk0 : BufAt (F := F) c kD00) (dk1 : BufAt (F := F) c kD01) (dk2 : BufAt (F := F) c kD02) (dk3 : BufAt (F := F) c kD03) (dk4 : BufAt (F := F) c kD04) (dk5 : BufAt (F := F) c kD05) (dk6 : BufAt (F := F) c kD06) (dk7 : BufAt (F := F) c kD07) (dv0 : BufAt (F := F) c vD00) (dv1 : BufAt (F := F) c vD01) (dv2 : BufAt (F := F) c vD02) (dv3 : BufAt (F := F) c vD03) (dv4 : BufAt (F := F) c vD04) (dv5 : BufAt (F := F) c vD05) (dv6 : BufAt (F := F) c vD06) (dv7 : BufAt (F := F) c vD07)
    (w0 w10 : BitVec 32) (w28 : IVec S64x8x512 32) (w33 : IVec S8x512 1)
    (O : CellTallies nD τ sig Unit) (W : Waits sig Unit) :
  {r : BufAt (F := F) c mSc × BufAt (F := F) c lSc × BufAt (F := F) c aSc //
   ((levAts L lv : sProp 𝕄) ⊢ MayWait (c : Thread nD τ) (.dma kSem0) () O) → ((levAts L lv : sProp 𝕄) ⊢ MayWait (c : Thread nD τ) (.dma vSem0) () O) →
    iprop(heldQ c a1 fullShare f1 ∗ heldQ c a4 fullShare f4 ∗ heldQ c mSc fullShare fm ∗ heldQ c lSc fullShare fl ∗ heldQ c aSc fullShare fa
      ∗ Transfers.Batch (countersEmb (U := UU)) (c : Thread nD τ) (.dma kSem0) () kD00.view.dmaCredit (kDlv0 c fk dk0 dk1 dk2 dk3 dk4 dk5 dk6 dk7) 8 0
      ∗ Transfers.Batch (countersEmb (U := UU)) (c : Thread nD τ) (.dma vSem0) () kD00.view.dmaCredit (vDlv0 c fv dv0 dv1 dv2 dv3 dv4 dv5 dv6 dv7) 8 0
      ∗ owes (c : Thread nD τ) O W ∗ levAts L lv)
      ⊢ wp frame (wpE (defs₀ (F := F)) Variants.none (c : Thread nD τ) none) Set.univ
        (headProg (F := F) (grid0.coords t0_0) a1 ha1 kHbm (Memref.isWhole_whole _) vHbm (Memref.isWhole_whole _) a4 ha4 a5 ha5 a6 ha6
          mSc (Memref.isWhole_whole _) lSc (Memref.isWhole_whole _) aSc (Memref.isWhole_whole _) kBuf (Memref.isWhole_whole _) vBuf (Memref.isWhole_whole _)
          sBuf (Memref.isWhole_whole _) rBuf (Memref.isWhole_whole _) cc0_scratch7 cc0_scratch8 cc0_scratch9 cc0_scratch10 w0 c w10 w28 w33)
        (fun _ => iprop((∃ W', owes (c : Thread nD τ) O W')
          ∗ heldQ c a1 fullShare f1 ∗ heldQ c a4 fullShare f4 ∗ heldQ c mSc fullShare r.1 ∗ heldQ c lSc fullShare r.2.1 ∗ heldQ c aSc fullShare r.2.2
          ∗ semVal ((c : Thread nD τ), .dma kSem0) 0 ∗ semVal ((c : Thread nD τ), .dma vSem0) 0
          ∗ kFree0 (F := F) c ∗ vFree0 (F := F) c))} := by
  refine ⟨⟨?_, ?_, ?_⟩, ?_⟩
  rotate_left 3
  · intro hmk hmv
    iintro ⟨H1, H4, Hm, Hl, Ha, Bk, Bv, HO, #Hlev⟩
    unfold kDlv0 vDlv0
    unfold headProg
    sl_exec
    rw [wp_ret]; imodintro
    unfold kFree0 vFree0
    isplitl [HO]; · iexists _; iexact HO
    isplitl [H1]; · iexact H1
    isplitl [H4]; · iexact H4
    isplitl [Hm]; · iexact Hm
    isplitl [Hl]; · iexact Hl
    isplitl [Ha]; · iexact Ha
    isplitl [Bk]; · iexact Bk
    isplitl [Bv]; · iexact Bv
    isplitl [Bk_dst0 Bk_dst1 Bk_dst2 Bk_dst3 Bk_dst4 Bk_dst5 Bk_dst6 Bk_dst7]
    · isplitl [Bk_dst0]; · iexists _; iexact Bk_dst0
      isplitl [Bk_dst1]; · iexists _; iexact Bk_dst1
      isplitl [Bk_dst2]; · iexists _; iexact Bk_dst2
      isplitl [Bk_dst3]; · iexists _; iexact Bk_dst3
      isplitl [Bk_dst4]; · iexists _; iexact Bk_dst4
      isplitl [Bk_dst5]; · iexists _; iexact Bk_dst5
      isplitl [Bk_dst6]; · iexists _; iexact Bk_dst6
      iexists _; iexact Bk_dst7
    · isplitl [Bv_dst0]; · iexists _; iexact Bv_dst0
      isplitl [Bv_dst1]; · iexists _; iexact Bv_dst1
      isplitl [Bv_dst2]; · iexists _; iexact Bv_dst2
      isplitl [Bv_dst3]; · iexists _; iexact Bv_dst3
      isplitl [Bv_dst4]; · iexists _; iexact Bv_dst4
      isplitl [Bv_dst5]; · iexists _; iexact Bv_dst5
      isplitl [Bv_dst6]; · iexists _; iexact Bv_dst6
      iexists _; iexact Bv_dst7

end Cert.KernelIdeal.Hand

end
-- ==== Proof.RunB1.lean ====
module

public import proofs.«01_k».proof.Proof.Windows
public import Idealize.ShloMosaic.Lib.Pipeline.Launch
public import Idealize.ShloMosaic.Lib.Batch
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 8000000 in
def runB1 (c : Dev nD) (a1 : Memref sig .tc .vmem S8x1024 .f32) (ha1 : a1.IsWhole) (a4 : Memref sig .tc .vmem S8x512 .i32) (ha4 : a4.IsWhole)
    (a5 : Memref sig .tc .vmem S8x1 .i32) (ha5 : a5.IsWhole) (a6 : Memref sig .tc .vmem S8x8x128 .f32) (ha6 : a6.IsWhole)
    (f1 : BufAt (F := F) c a1) (f4 : BufAt (F := F) c a4)
    (fk : BufAt (F := F) c kHbm) (fv : BufAt (F := F) c vHbm) (fm : BufAt (F := F) c mSc) (fl : BufAt (F := F) c lSc) (fa : BufAt (F := F) c aSc)
    (dk0 : BufAt (F := F) c kD10) (dk1 : BufAt (F := F) c kD11) (dk2 : BufAt (F := F) c kD12) (dk3 : BufAt (F := F) c kD13) (dk4 : BufAt (F := F) c kD14) (dk5 : BufAt (F := F) c kD15) (dk6 : BufAt (F := F) c kD16) (dk7 : BufAt (F := F) c kD17) (dv0 : BufAt (F := F) c vD10) (dv1 : BufAt (F := F) c vD11) (dv2 : BufAt (F := F) c vD12) (dv3 : BufAt (F := F) c vD13) (dv4 : BufAt (F := F) c vD14) (dv5 : BufAt (F := F) c vD15) (dv6 : BufAt (F := F) c vD16) (dv7 : BufAt (F := F) c vD17)
    (w0 w10 : BitVec 32) (w28 : IVec S64x8x512 32) (w33 : IVec S8x512 1)
    (O : CellTallies nD τ sig Unit) (W : Waits sig Unit) :
  {r : BufAt (F := F) c mSc × BufAt (F := F) c lSc × BufAt (F := F) c aSc //
   ((levAts L lv : sProp 𝕄) ⊢ MayWait (c : Thread nD τ) (.dma kSem1) () O) → ((levAts L lv : sProp 𝕄) ⊢ MayWait (c : Thread nD τ) (.dma vSem1) () O) →
    iprop(heldQ c a1 fullShare f1 ∗ heldQ c a4 fullShare f4 ∗ heldQ c mSc fullShare fm ∗ heldQ c lSc fullShare fl ∗ heldQ c aSc fullShare fa
      ∗ Transfers.Batch (countersEmb (U := UU)) (c : Thread nD τ) (.dma kSem1) () kD00.view.dmaCredit (kDlv1 c fk dk0 dk1 dk2 dk3 dk4 dk5 dk6 dk7) 8 0
      ∗ Transfers.Batch (countersEmb (U := UU)) (c : Thread nD τ) (.dma vSem1) () kD00.view.dmaCredit (vDlv1 c fv dv0 dv1 dv2 dv3 dv4 dv5 dv6 dv7) 8 0
      ∗ owes (c : Thread nD τ) O W ∗ levAts L lv)
      ⊢ wp frame (wpE (defs₀ (F := F)) Variants.none (c : Thread nD τ) none) Set.univ
        (headProg (F := F) (grid0.coords t0_1) a1 ha1 kHbm (Memref.isWhole_whole _) vHbm (Memref.isWhole_whole _) a4 ha4 a5 ha5 a6 ha6
          mSc (Memref.isWhole_whole _) lSc (Memref.isWhole_whole _) aSc (Memref.isWhole_whole _) kBuf (Memref.isWhole_whole _) vBuf (Memref.isWhole_whole _)
          sBuf (Memref.isWhole_whole _) rBuf (Memref.isWhole_whole _) cc0_scratch7 cc0_scratch8 cc0_scratch9 cc0_scratch10 w0 c w10 w28 w33)
        (fun _ => iprop((∃ W', owes (c : Thread nD τ) O W')
          ∗ heldQ c a1 fullShare f1 ∗ heldQ c a4 fullShare f4 ∗ heldQ c mSc fullShare r.1 ∗ heldQ c lSc fullShare r.2.1 ∗ heldQ c aSc fullShare r.2.2
          ∗ semVal ((c : Thread nD τ), .dma kSem1) 0 ∗ semVal ((c : Thread nD τ), .dma vSem1) 0
          ∗ kFree1 (F := F) c ∗ vFree1 (F := F) c))} := by
  refine ⟨⟨?_, ?_, ?_⟩, ?_⟩
  rotate_left 3
  · intro hmk hmv
    iintro ⟨H1, H4, Hm, Hl, Ha, Bk, Bv, HO, #Hlev⟩
    unfold kDlv1 vDlv1
    unfold headProg
    sl_exec
    rw [wp_ret]; imodintro
    unfold kFree1 vFree1
    isplitl [HO]; · iexists _; iexact HO
    isplitl [H1]; · iexact H1
    isplitl [H4]; · iexact H4
    isplitl [Hm]; · iexact Hm
    isplitl [Hl]; · iexact Hl
    isplitl [Ha]; · iexact Ha
    isplitl [Bk]; · iexact Bk
    isplitl [Bv]; · iexact Bv
    isplitl [Bk_dst0 Bk_dst1 Bk_dst2 Bk_dst3 Bk_dst4 Bk_dst5 Bk_dst6 Bk_dst7]
    · isplitl [Bk_dst0]; · iexists _; iexact Bk_dst0
      isplitl [Bk_dst1]; · iexists _; iexact Bk_dst1
      isplitl [Bk_dst2]; · iexists _; iexact Bk_dst2
      isplitl [Bk_dst3]; · iexists _; iexact Bk_dst3
      isplitl [Bk_dst4]; · iexists _; iexact Bk_dst4
      isplitl [Bk_dst5]; · iexists _; iexact Bk_dst5
      isplitl [Bk_dst6]; · iexists _; iexact Bk_dst6
      iexists _; iexact Bk_dst7
    · isplitl [Bv_dst0]; · iexists _; iexact Bv_dst0
      isplitl [Bv_dst1]; · iexists _; iexact Bv_dst1
      isplitl [Bv_dst2]; · iexists _; iexact Bv_dst2
      isplitl [Bv_dst3]; · iexists _; iexact Bv_dst3
      isplitl [Bv_dst4]; · iexists _; iexact Bv_dst4
      isplitl [Bv_dst5]; · iexists _; iexact Bv_dst5
      isplitl [Bv_dst6]; · iexists _; iexact Bv_dst6
      iexists _; iexact Bv_dst7

end Cert.KernelIdeal.Hand

end
-- ==== Proof.Data.lean ====
module

public import proofs.«01_k».proof.Proof.Tail
public import proofs.«01_k».proof.Proof.RunB0
public import proofs.«01_k».proof.Proof.RunB1
public import proofs.«01_k».proof.Proof.Split
public import proofs.«01_k».proof.Proof.Windows
public import Idealize.ShloMosaic.Lib.Pipeline.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The staging buffers and their contents -/

abbrev a1w : Memref sig .tc .vmem S8x1024 .f32 := Memref.whole cc0_stg0_0
abbrev a4w : Memref sig .tc .vmem S8x512 .i32 := Memref.whole cc0_stg1_0
abbrev a5w : Memref sig .tc .vmem S8x1 .i32 := Memref.whole cc0_stg2_0
abbrev a6w : Memref sig .tc .vmem S8x8x128 .f32 := Memref.whole cc0_stg3_0

variable (m : (ℓ : Loc nD τ sig) → Buf (Elt F) ℓ) (ρ : Dev nD → PrngReg)

/-- The queries, the block table, the lengths and the two caches of device `c`, as launched. -/
def qAt (c : Dev nD) : BufAt (F := F) c a1w := iblk m c 0 t0_0
def btAt (c : Dev nD) : BufAt (F := F) c a4w := iblk m c 1 t0_0
def lnAt (c : Dev nD) : BufAt (F := F) c a5w := iblk m c 2 t0_0
def kAt (c : Dev nD) : BufAt (F := F) c kHbm := m ((c : Thread nD τ).loc main_arg1)
def vAt (c : Dev nD) : BufAt (F := F) c vHbm := m ((c : Thread nD τ).loc main_arg2)

/-- The first float value of the start contents: any value would do where it is used. -/
def zE : F .f32 := k0_pay4 (F := F) (fun a => ⟨0, by fin_cases a <;> decide⟩)

/-- Device `c`'s running maximum, sum and weighted sum after its first block, and after its second. -/
def part0 (c : Dev nD) : BufAt (F := F) c mSc × BufAt (F := F) c lSc × BufAt (F := F) c aSc :=
  (runB0 c a1w (Memref.isWhole_whole _) a4w (Memref.isWhole_whole _) a5w (Memref.isWhole_whole _) a6w (Memref.isWhole_whole _) (qAt m c) (btAt m c) (kAt m c) (vAt m c) k0_pay3 k0_pay4 k0_pay5
    (fun _ => zE) (fun _ => zE) (fun _ => zE) (fun _ => zE) (fun _ => zE) (fun _ => zE) (fun _ => zE) (fun _ => zE) (fun _ => zE) (fun _ => zE) (fun _ => zE) (fun _ => zE) (fun _ => zE) (fun _ => zE) (fun _ => zE) (fun _ => zE) 0 0 (k0_pay39 (grid0.coords t0_0) c) (k0_pay40 (lensOf c a5w (lnAt m c))) 0 ∅).1
def part1 (c : Dev nD) : BufAt (F := F) c mSc × BufAt (F := F) c lSc × BufAt (F := F) c aSc :=
  (runB1 c a1w (Memref.isWhole_whole _) a4w (Memref.isWhole_whole _) a5w (Memref.isWhole_whole _) a6w (Memref.isWhole_whole _) (qAt m c) (btAt m c) (kAt m c) (vAt m c) (part0 m c).1 (part0 m c).2.1 (part0 m c).2.2
    (fun _ => zE) (fun _ => zE) (fun _ => zE) (fun _ => zE) (fun _ => zE) (fun _ => zE) (fun _ => zE) (fun _ => zE) (fun _ => zE) (fun _ => zE) (fun _ => zE) (fun _ => zE) (fun _ => zE) (fun _ => zE) (fun _ => zE) (fun _ => zE) 0 0 (k0_pay39 (grid0.coords t0_1) c) (k0_pay40 (lensOf c a5w (lnAt m c))) 0 ∅).1

/-- The partial results before each exchange. -/
def T : Fin 3 → Dev nD → Part F
  | 0 => fun c => ⟨(part1 m c).1, (part1 m c).2.1, (part1 m c).2.2⟩
  | 1 => fun c => Part.merge ⟨(part1 m c).1, (part1 m c).2.1, (part1 m c).2.2⟩ ⟨(part1 m (peer 0 c)).1, (part1 m (peer 0 c)).2.1, (part1 m (peer 0 c)).2.2⟩
  | 2 => fun c => Part.merge
      (Part.merge ⟨(part1 m c).1, (part1 m c).2.1, (part1 m c).2.2⟩ ⟨(part1 m (peer 0 c)).1, (part1 m (peer 0 c)).2.1, (part1 m (peer 0 c)).2.2⟩)
      (Part.merge ⟨(part1 m (peer 1 c)).1, (part1 m (peer 1 c)).2.1, (part1 m (peer 1 c)).2.2⟩
        ⟨(part1 m (peer 0 (peer 1 c))).1, (part1 m (peer 0 (peer 1 c))).2.1, (part1 m (peer 0 (peer 1 c))).2.2⟩)

theorem T_one (c : Dev nD) : T m 1 c = (T m 0 c).merge (T m 0 (peer 0 c)) := rfl
theorem T_two (c : Dev nD) : T m 2 c = (T m 1 c).merge (T m 1 (peer 1 c)) := rfl

/-- The result on device `c`. -/
def outAt (c : Dev nD) : Vec F S8x8x128 .f32 := ((T m 2 c).merge (T m 2 (peer 2 c))).out

/-! ## The invariant between the grid points -/

/-- What a device starts with, apart from its scratch buffers. -/
def start (c : Dev nD) : sProp 𝕄 :=
  iprop((∃ K, invs (T m) K c) ∗ barGhost (F := F) c ∗ xferGhost (F := F) c ∗ levAts L lv
    ∗ heldQ c kHbm fullShare.left (kAt m c) ∗ heldQ c kHbm fullShare.right (kAt m c)
    ∗ heldQ c vHbm fullShare.left (vAt m c) ∗ heldQ c vHbm fullShare.right (vAt m c)
    ∗ semVal ((c : Thread nD τ), SemLoc.dma kSem0) 0 ∗ semVal ((c : Thread nD τ), SemLoc.dma kSem1) 0
    ∗ semVal ((c : Thread nD τ), SemLoc.dma vSem0) 0 ∗ semVal ((c : Thread nD τ), SemLoc.dma vSem1) 0)

/-- Before the first point. -/
def Φ₀ (c : Dev nD) : sProp 𝕄 :=
  iprop(start m c
    ∗ (∃ f, heldQ (F := F) c mSc fullShare f) ∗ (∃ f, heldQ (F := F) c lSc fullShare f) ∗ (∃ f, heldQ (F := F) c aSc fullShare f)
    ∗ (∃ f, (kBuf.view.loc (c : Thread nD τ)) ↦{fullShare} f) ∗ (∃ f, (vBuf.view.loc (c : Thread nD τ)) ↦{fullShare} f)
    ∗ (∃ f, heldQ (F := F) c sBuf fullShare f)
    ∗ (∃ f, heldQ (F := F) c rW0 fullShare f) ∗ (∃ f, heldQ (F := F) c rW1 fullShare f) ∗ (∃ f, heldQ (F := F) c rW2 fullShare f))

/-- Between the points: the first block's partial result, the second block's copies in flight, the partners' windows. -/
def Φ₁ (c : Dev nD) : sProp 𝕄 :=
  iprop((∃ K, invs (T m) K c) ∗ xferGhost (F := F) c ∗ levAts L lv
    ∗ heldQ c kHbm fullShare.left (kAt m c) ∗ heldQ c vHbm fullShare.left (vAt m c)
    ∗ semVal ((c : Thread nD τ), SemLoc.dma kSem0) 0 ∗ semVal ((c : Thread nD τ), SemLoc.dma vSem0) 0
    ∗ (∃ (d0 : BufAt (F := F) c kD10) (d1 : BufAt (F := F) c kD11) (d2 : BufAt (F := F) c kD12) (d3 : BufAt (F := F) c kD13) (d4 : BufAt (F := F) c kD14) (d5 : BufAt (F := F) c kD15) (d6 : BufAt (F := F) c kD16) (d7 : BufAt (F := F) c kD17), Transfers.Batch (countersEmb (U := UU)) (c : Thread nD τ) (.dma kSem1) () kD00.view.dmaCredit (kDlv1 c (kAt m c) d0 d1 d2 d3 d4 d5 d6 d7) 8 0)
    ∗ (∃ (d0 : BufAt (F := F) c vD10) (d1 : BufAt (F := F) c vD11) (d2 : BufAt (F := F) c vD12) (d3 : BufAt (F := F) c vD13) (d4 : BufAt (F := F) c vD14) (d5 : BufAt (F := F) c vD15) (d6 : BufAt (F := F) c vD16) (d7 : BufAt (F := F) c vD17), Transfers.Batch (countersEmb (U := UU)) (c : Thread nD τ) (.dma vSem1) () kD00.view.dmaCredit (vDlv1 c (vAt m c) d0 d1 d2 d3 d4 d5 d6 d7) 8 0)
    ∗ kFree0 (F := F) c ∗ vFree0 (F := F) c
    ∗ heldQ c mSc fullShare (part0 m c).1 ∗ heldQ c lSc fullShare (part0 m c).2.1 ∗ heldQ c aSc fullShare (part0 m c).2.2
    ∗ (∃ f, heldQ (F := F) c sBuf fullShare f)
    ∗ barPay (F := F) 0 c ∗ barPay (F := F) 1 c ∗ barPay (F := F) 2 c ∗ semVal (barCell c) 0)

/-- After the last point. -/
def Φ₂ (c : Dev nD) : sProp 𝕄 :=
  iprop(heldQ c kHbm fullShare.left (kAt m c) ∗ heldQ c vHbm fullShare.left (vAt m c)
    ∗ (semVal ((c : Thread nD τ), SemLoc.dma kSem0) 0 ∗ semVal ((c : Thread nD τ), SemLoc.dma kSem1) 0
      ∗ semVal ((c : Thread nD τ), SemLoc.dma vSem0) 0 ∗ semVal ((c : Thread nD τ), SemLoc.dma vSem1) 0
      ∗ semVal (sendCell 0 c) 0 ∗ semVal (sendCell 1 c) 0 ∗ semVal (sendCell 2 c) 0
      ∗ semVal (recvCell 0 c) 0 ∗ semVal (recvCell 1 c) 0 ∗ semVal (recvCell 2 c) 0)
    ∗ semVal (barCell c) 0
    ∗ (∃ f, heldQ (F := F) c mSc fullShare f) ∗ (∃ f, heldQ (F := F) c lSc fullShare f) ∗ (∃ f, heldQ (F := F) c aSc fullShare f)
    ∗ kFree0 (F := F) c ∗ kFree1 (F := F) c ∗ vFree0 (F := F) c ∗ vFree1 (F := F) c
    ∗ (∃ f, heldQ (F := F) c sBuf fullShare f)
    ∗ (∃ f, heldQ (F := F) c rW0 fullShare f) ∗ (∃ f, heldQ (F := F) c rW1 fullShare f) ∗ (∃ f, heldQ (F := F) c rW2 fullShare f))

def dats (_ : Fin 1) (c : Dev nD) : Dat τ (Elt F) Unit ℕ UU ℕ cfg0 c where
  A w := m ((cfg0.win w).arr.view.loc (c : Thread nD τ))
  after w _ := match w with
    | ⟨0, _⟩ => qAt m c
    | ⟨1, _⟩ => btAt m c
    | ⟨2, _⟩ => lnAt m c
    | ⟨3, _⟩ => outAt m c
  Φ t := match t with
    | ⟨0, _⟩ => Φ₀ m c
    | ⟨1, _⟩ => Φ₁ m c
    | ⟨_ + 2, _⟩ => Φ₂ m c
  q _ := fullShare
  owed t := match t with
    | ⟨0, _⟩ => O₀ c
    | ⟨1, _⟩ => O₁ c
    | ⟨_ + 2, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-! ## The two points -/

theorem runC0 (c : Dev nD) (a1 : Memref sig .tc .vmem S8x1024 .f32) (ha1 : a1.IsWhole) (a4 : Memref sig .tc .vmem S8x512 .i32) (ha4 : a4.IsWhole)
    (a5 : Memref sig .tc .vmem S8x1 .i32) (ha5 : a5.IsWhole) (a6 : Memref sig .tc .vmem S8x8x128 .f32) (ha6 : a6.IsWhole) (w2 w5 w8 : BitVec 32) :
    tailProg (F := F) (grid0.coords t0_0) a1 ha1 kHbm (Memref.isWhole_whole _) vHbm (Memref.isWhole_whole _) a4 ha4 a5 ha5 a6 ha6 mSc (Memref.isWhole_whole _) lSc (Memref.isWhole_whole _) aSc (Memref.isWhole_whole _) kBuf (Memref.isWhole_whole _) vBuf (Memref.isWhole_whole _) sBuf (Memref.isWhole_whole _) rBuf (Memref.isWhole_whole _) cc0_scratch7 cc0_scratch8 cc0_scratch9 cc0_scratch10 c w2 w5 w8 = .ret ⟨⟩ := by
  unfold tailProg
  rw [dif_neg cond4_0]; rfl

end Cert.KernelIdeal.Hand

end
-- ==== Proof.Point.lean ====
module

public import proofs.«01_k».proof.Proof.Data
public import proofs.«01_k».proof.Proof.RunB0
public import proofs.«01_k».proof.Proof.RunB1
public import proofs.«01_k».proof.Proof.Split
public import proofs.«01_k».proof.Proof.Windows
public import Idealize.ShloMosaic.Lib.Pipeline.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A run, its postcondition weakened by what is held beside it. -/
theorem wp_run (c : Dev nD) {α : Type} {P : sProp 𝕄} {p : Prog (TpuEff nD τ sig (Elt F) Λ₀ .tc) α} {Q Q' : α → sProp 𝕄}
    (h : P ⊢ wp frame (wpE (defs₀ (F := F)) Variants.none (c : Thread nD τ) none) Set.univ p Q) :
    P ⊢ iprop((∀ a, Q a -∗ Q' a) -∗ wp frame (wpE (defs₀ (F := F)) Variants.none (c : Thread nD τ) none) Set.univ p Q') :=
  h.trans (wp_wand frame (wpE (defs₀ (F := F)) Variants.none (c : Thread nD τ) none) Set.univ)

theorem waits_O₁ (c : Dev nD) (q : DmaSem sig) (hq : q.val < 11) : (levAts L lv : sProp 𝕄) ⊢ MayWait (c : Thread nD τ) (.dma q) () (O₁ c) :=
  mayWait_of c _ 0 (lv_dma c q hq ()) (above_O₁ (by decide) c)

/-- The first block's result does not depend on what the landing windows held, nor on the wait's record. -/
theorem part0_eq (c : Dev nD) (d0 : BufAt (F := F) c kD00) (d1 : BufAt (F := F) c kD01) (d2 : BufAt (F := F) c kD02) (d3 : BufAt (F := F) c kD03) (d4 : BufAt (F := F) c kD04) (d5 : BufAt (F := F) c kD05) (d6 : BufAt (F := F) c kD06) (d7 : BufAt (F := F) c kD07) (e0 : BufAt (F := F) c vD00) (e1 : BufAt (F := F) c vD01) (e2 : BufAt (F := F) c vD02) (e3 : BufAt (F := F) c vD03) (e4 : BufAt (F := F) c vD04) (e5 : BufAt (F := F) c vD05) (e6 : BufAt (F := F) c vD06) (e7 : BufAt (F := F) c vD07) (w0 w10 : BitVec 32) (W : Waits sig Unit) :
    (runB0 c a1w (Memref.isWhole_whole _) a4w (Memref.isWhole_whole _) a5w (Memref.isWhole_whole _) a6w (Memref.isWhole_whole _) (qAt m c) (btAt m c) (kAt m c) (vAt m c) k0_pay3 k0_pay4 k0_pay5 d0 d1 d2 d3 d4 d5 d6 d7 e0 e1 e2 e3 e4 e5 e6 e7
      w0 w10 (k0_pay39 (grid0.coords t0_0) c) (k0_pay40 (lensOf c a5w (lnAt m c))) (O₁ c) W).1 = part0 m c := rfl

/-- The second block's result does not depend on what the landing windows held, nor on the wait's record. -/
theorem part1_eq (c : Dev nD) (d0 : BufAt (F := F) c kD10) (d1 : BufAt (F := F) c kD11) (d2 : BufAt (F := F) c kD12) (d3 : BufAt (F := F) c kD13) (d4 : BufAt (F := F) c kD14) (d5 : BufAt (F := F) c kD15) (d6 : BufAt (F := F) c kD16) (d7 : BufAt (F := F) c kD17) (e0 : BufAt (F := F) c vD10) (e1 : BufAt (F := F) c vD11) (e2 : BufAt (F := F) c vD12) (e3 : BufAt (F := F) c vD13) (e4 : BufAt (F := F) c vD14) (e5 : BufAt (F := F) c vD15) (e6 : BufAt (F := F) c vD16) (e7 : BufAt (F := F) c vD17) (w0 w10 : BitVec 32) (W : Waits sig Unit) :
    (runB1 c a1w (Memref.isWhole_whole _) a4w (Memref.isWhole_whole _) a5w (Memref.isWhole_whole _) a6w (Memref.isWhole_whole _) (qAt m c) (btAt m c) (kAt m c) (vAt m c) (part0 m c).1 (part0 m c).2.1 (part0 m c).2.2 d0 d1 d2 d3 d4 d5 d6 d7 e0 e1 e2 e3 e4 e5 e6 e7
      w0 w10 (k0_pay39 (grid0.coords t0_1) c) (k0_pay40 (lensOf c a5w (lnAt m c))) (O₁ c) W).1 = part1 m c := rfl

/-- The first grid point: copies started, the barrier passed, the first block accumulated. -/
theorem point0 (c : Dev nD) (W : Waits sig Unit) :
    iprop(Φ₀ m c ∗ owes (c : Thread nD τ) (O₀ c) W ∗ heldQ c a1w fullShare (qAt m c) ∗ heldQ c a4w fullShare (btAt m c) ∗ heldQ c a5w fullShare (lnAt m c))
      ⊢ wp frame (wpE (defs₀ (F := F)) Variants.none (c : Thread nD τ) none) Set.univ (cc0_body (F := F) (grid0.coords t0_0) a1w (Memref.isWhole_whole _) kHbm (Memref.isWhole_whole _) vHbm (Memref.isWhole_whole _) a4w (Memref.isWhole_whole _) a5w (Memref.isWhole_whole _) a6w (Memref.isWhole_whole _) mSc (Memref.isWhole_whole _) lSc (Memref.isWhole_whole _) aSc (Memref.isWhole_whole _) kBuf (Memref.isWhole_whole _) vBuf (Memref.isWhole_whole _) sBuf (Memref.isWhole_whole _) rBuf (Memref.isWhole_whole _) cc0_scratch7 cc0_scratch8 cc0_scratch9 cc0_scratch10)
        (fun _ => iprop(Φ₁ m c ∗ (∃ W', owes (c : Thread nD τ) (O₁ c) W') ∗ heldQ c a1w fullShare (qAt m c) ∗ heldQ c a4w fullShare (btAt m c) ∗ heldQ c a5w fullShare (lnAt m c))) := by
  rw [body_split, wp_bind]
  unfold Φ₀ start
  iintro ⟨⟨⟨⟨%K, #HI⟩, Hbg, Hxg, #Hlev, HkL, HkR, HvL, HvR, Hs0, Hs1, Hs2, Hs3⟩, Hm, Hl, Ha, Hkb, Hvb, Hsb, Hr0, Hr1, Hr2⟩, HO, H1, H4, H5⟩
  iapply (wp_run c (runA0 (T m) K c a1w (Memref.isWhole_whole _) a4w (Memref.isWhole_whole _) a5w (Memref.isWhole_whole _) a6w (Memref.isWhole_whole _) (lnAt m c) (kAt m c) (vAt m c) W)) $$ [H5 Hm Hl Ha Hkb Hvb Hs0 Hs1 Hs2 Hs3 HkR HvR Hr0 Hr1 Hr2 Hbg HO]
  · isplitl [H5]; · iexact H5
    isplitl [Hm]; · iexact Hm
    isplitl [Hl]; · iexact Hl
    isplitl [Ha]; · iexact Ha
    isplitl [Hkb]; · iexact Hkb
    isplitl [Hvb]; · iexact Hvb
    isplitl [Hs0]; · iexact Hs0
    isplitl [Hs1]; · iexact Hs1
    isplitl [Hs2]; · iexact Hs2
    isplitl [Hs3]; · iexact Hs3
    isplitl [HkR]; · iexact HkR
    isplitl [HvR]; · iexact HvR
    isplitl [Hr0]; · iexact Hr0
    isplitl [Hr1]; · iexact Hr1
    isplitl [Hr2]; · iexact Hr2
    isplitr; · iexact HI
    isplitl [Hbg]; · iexact Hbg
    isplitl [HO]; · iexact HO
    iexact Hlev
  iintro %x ⟨%hx, H5, Hm, Hl, Ha, ⟨%d0,%d1,%d2,%d3,%d4,%d5,%d6,%d7, HBk⟩, ⟨%e0,%e1,%e2,%e3,%e4,%e5,%e6,%e7, HBv⟩, HBk1, HBv1, Hp0, Hp1, Hp2, Hb, ⟨%W1, HO⟩⟩
  obtain ⟨w0, w2, w5, w8, w10, rfl⟩ := hx
  rw [wp_bind]
  iapply (wp_run c ((runB0 c a1w (Memref.isWhole_whole _) a4w (Memref.isWhole_whole _) a5w (Memref.isWhole_whole _) a6w (Memref.isWhole_whole _) (qAt m c) (btAt m c) (kAt m c) (vAt m c) k0_pay3 k0_pay4 k0_pay5 d0 d1 d2 d3 d4 d5 d6 d7 e0 e1 e2 e3 e4 e5 e6 e7
      w0 w10 (k0_pay39 (grid0.coords t0_0) c) (k0_pay40 (lensOf c a5w (lnAt m c))) (O₁ c) W1).2 (waits_O₁ c kSem0 (by decide)) (waits_O₁ c vSem0 (by decide)))) $$ [H1 H4 Hm Hl Ha HBk HBv HO]
  · isplitl [H1]; · iexact H1
    isplitl [H4]; · iexact H4
    isplitl [Hm]; · iexact Hm
    isplitl [Hl]; · iexact Hl
    isplitl [Ha]; · iexact Ha
    isplitl [HBk]; · iexact HBk
    isplitl [HBv]; · iexact HBv
    isplitl [HO]; · iexact HO
    iexact Hlev
  rw [part0_eq]
  iintro %x ⟨HO, H1, H4, Hm, Hl, Ha, Hs0, Hs2, Hfk, Hfv⟩
  rw [runC0, wp_ret]; imodintro
  unfold Φ₁
  isplitr [HO H1 H4 H5]
  · isplitr; · iexists K; iexact HI
    isplitl [Hxg]; · iexact Hxg
    isplitr; · iexact Hlev
    isplitl [HkL]; · iexact HkL
    isplitl [HvL]; · iexact HvL
    isplitl [Hs0]; · iexact Hs0
    isplitl [Hs2]; · iexact Hs2
    isplitl [HBk1]; · iexact HBk1
    isplitl [HBv1]; · iexact HBv1
    isplitl [Hfk]; · iexact Hfk
    isplitl [Hfv]; · iexact Hfv
    isplitl [Hm]; · iexact Hm
    isplitl [Hl]; · iexact Hl
    isplitl [Ha]; · iexact Ha
    isplitl [Hsb]; · iexact Hsb
    isplitl [Hp0]; · iexact Hp0
    isplitl [Hp1]; · iexact Hp1
    isplitl [Hp2]; · iexact Hp2
    iexact Hb
  isplitl [HO]; · iexact HO
  isplitl [H1]; · iexact H1
  isplitl [H4]; · iexact H4
  iexact H5

/-- The second grid point: the second block accumulated, the three exchanges, the result. -/
theorem point1 (c : Dev nD) (f6 : BufAt (F := F) c a6w) (W : Waits sig Unit) :
    iprop(Φ₁ m c ∗ owes (c : Thread nD τ) (O₁ c) W ∗ heldQ c a1w fullShare (qAt m c) ∗ heldQ c a4w fullShare (btAt m c) ∗ heldQ c a5w fullShare (lnAt m c)
        ∗ heldQ c a6w fullShare f6)
      ⊢ wp frame (wpE (defs₀ (F := F)) Variants.none (c : Thread nD τ) none) Set.univ (cc0_body (F := F) (grid0.coords t0_1) a1w (Memref.isWhole_whole _) kHbm (Memref.isWhole_whole _) vHbm (Memref.isWhole_whole _) a4w (Memref.isWhole_whole _) a5w (Memref.isWhole_whole _) a6w (Memref.isWhole_whole _) mSc (Memref.isWhole_whole _) lSc (Memref.isWhole_whole _) aSc (Memref.isWhole_whole _) kBuf (Memref.isWhole_whole _) vBuf (Memref.isWhole_whole _) sBuf (Memref.isWhole_whole _) rBuf (Memref.isWhole_whole _) cc0_scratch7 cc0_scratch8 cc0_scratch9 cc0_scratch10)
        (fun _ => iprop(Φ₂ m c ∗ (∃ W', owes (c : Thread nD τ) 0 W') ∗ heldQ c a1w fullShare (qAt m c) ∗ heldQ c a4w fullShare (btAt m c) ∗ heldQ c a5w fullShare (lnAt m c)
          ∗ heldQ c a6w fullShare (outAt m c))) := by
  rw [body_split, wp_bind]
  unfold Φ₁
  iintro ⟨⟨⟨%K, #HI⟩, Hxg, #Hlev, HkL, HvL, Hs0, Hs2, ⟨%d0,%d1,%d2,%d3,%d4,%d5,%d6,%d7, HBk⟩, ⟨%e0,%e1,%e2,%e3,%e4,%e5,%e6,%e7, HBv⟩, Hfk, Hfv, Hm, Hl, Ha, ⟨%fs, Hsb⟩, Hp0, Hp1, Hp2, Hb⟩, HO, H1, H4, H5, H6⟩
  iapply (wp_run c (runA1 c a1w (Memref.isWhole_whole _) a4w (Memref.isWhole_whole _) a5w (Memref.isWhole_whole _) a6w (Memref.isWhole_whole _) (lnAt m c))) $$ H5
  iintro %x ⟨%hx, H5⟩
  obtain ⟨w0, w2, w5, w8, w10, rfl⟩ := hx
  rw [wp_bind]
  iapply (wp_run c ((runB1 c a1w (Memref.isWhole_whole _) a4w (Memref.isWhole_whole _) a5w (Memref.isWhole_whole _) a6w (Memref.isWhole_whole _) (qAt m c) (btAt m c) (kAt m c) (vAt m c) (part0 m c).1 (part0 m c).2.1 (part0 m c).2.2 d0 d1 d2 d3 d4 d5 d6 d7 e0 e1 e2 e3 e4 e5 e6 e7
      w0 w10 (k0_pay39 (grid0.coords t0_1) c) (k0_pay40 (lensOf c a5w (lnAt m c))) (O₁ c) W).2 (waits_O₁ c kSem1 (by decide)) (waits_O₁ c vSem1 (by decide)))) $$ [H1 H4 Hm Hl Ha HBk HBv HO]
  · isplitl [H1]; · iexact H1
    isplitl [H4]; · iexact H4
    isplitl [Hm]; · iexact Hm
    isplitl [Hl]; · iexact Hl
    isplitl [Ha]; · iexact Ha
    isplitl [HBk]; · iexact HBk
    isplitl [HBv]; · iexact HBv
    isplitl [HO]; · iexact HO
    iexact Hlev
  rw [part1_eq]
  iintro %x ⟨⟨%W1, HO⟩, H1, H4, Hm, Hl, Ha, Hs1, Hs3, Hfk1, Hfv1⟩
  iapply (wp_run c (runC (T m) (T_one m) (T_two m) K c a1w (Memref.isWhole_whole _) a4w (Memref.isWhole_whole _) a5w (Memref.isWhole_whole _) a6w (Memref.isWhole_whole _) f6 fs w0 w2 w5 w8 W1)) $$ [H6 Hm Hl Ha Hsb Hp0 Hp1 Hp2 Hxg HO]
  · isplitl [H6]; · iexact H6
    isplitl [Hm]; · iexact Hm
    isplitl [Hl]; · iexact Hl
    isplitl [Ha]; · iexact Ha
    isplitl [Hsb]; · iexact Hsb
    isplitl [Hp0]; · iexact Hp0
    isplitl [Hp1]; · iexact Hp1
    isplitl [Hp2]; · iexact Hp2
    isplitr; · iexact HI
    isplitl [Hxg]; · iexact Hxg
    isplitl [HO]; · iexact HO
    iexact Hlev
  iintro %y ⟨⟨%g6, %hg, H6⟩, Hm, Hl, Ha, Hsb, Hr0, Hr1, Hr2, Hd0, Hd1, Hd2, He0, He1, He2, HO⟩
  have hg' : g6 = outAt m c := hg
  subst hg'
  unfold Φ₂
  isplitr [HO H1 H4 H5 H6]
  · isplitl [HkL]; · iexact HkL
    isplitl [HvL]; · iexact HvL
    isplitl [Hs0 Hs1 Hs2 Hs3 Hd0 Hd1 Hd2 He0 He1 He2]
    · isplitl [Hs0]; · iexact Hs0
      isplitl [Hs1]; · iexact Hs1
      isplitl [Hs2]; · iexact Hs2
      isplitl [Hs3]; · iexact Hs3
      isplitl [Hd0]; · iexact Hd0
      isplitl [Hd1]; · iexact Hd1
      isplitl [Hd2]; · iexact Hd2
      isplitl [He0]; · iexact He0
      isplitl [He1]; · iexact He1
      iexact He2
    isplitl [Hb]; · iexact Hb
    isplitl [Hm]; · iexact Hm
    isplitl [Hl]; · iexact Hl
    isplitl [Ha]; · iexact Ha
    isplitl [Hfk]; · iexact Hfk
    isplitl [Hfk1]; · iexact Hfk1
    isplitl [Hfv]; · iexact Hfv
    isplitl [Hfv1]; · iexact Hfv1
    isplitl [Hsb]; · iexact Hsb
    isplitl [Hr0]; · iexact Hr0
    isplitl [Hr1]; · iexact Hr1
    iexact Hr2
  isplitl [HO]; · iexact HO
  isplitl [H1]; · iexact H1
  isplitl [H4]; · iexact H4
  isplitl [H5]; · iexact H5
  iexact H6

/-! ## The body obligation -/

theorem owns_out (c : Dev nD) (b : Ref sig .tc) (X : b.ty.Contents (Elt F)) :
    (owns (Ix := Unit) (Name := ℕ) (U := UU) (Lvl := ℕ) (c : Thread nD τ) (Memref.whole b) fullShare X : sProp 𝕄) ⊢ heldQ (F := F) c (Memref.whole b) fullShare X := by
  unfold owns
  iintro ⟨%f, %hf, H⟩
  have hf' : f = X := hf
  subst hf'; iexact H
theorem owns_in (c : Dev nD) (b : Ref sig .tc) (X : b.ty.Contents (Elt F)) :
    heldQ (F := F) c (Memref.whole b) fullShare X ⊢ (owns (Ix := Unit) (Name := ℕ) (U := UU) (Lvl := ℕ) (c : Thread nD τ) (Memref.whole b) fullShare X : sProp 𝕄) := by
  unfold owns
  iintro H; iexists X
  isplitr; · ipureintro; rfl
  iexact H

theorem before_in0 (c : Dev nD) (d) : (dats m 0 c).before (0 : Fin 4) t0_0 d = qAt m c := by
  unfold Dat.before; rw [if_pos ((fetch0_0 t0_0).mpr rfl)]; rfl
theorem before_in1 (c : Dev nD) (d) : (dats m 0 c).before (1 : Fin 4) t0_0 d = btAt m c := by
  unfold Dat.before; rw [if_pos ((fetch0_1 t0_0).mpr rfl)]; rfl
theorem before_in2 (c : Dev nD) (d) : (dats m 0 c).before (2 : Fin 4) t0_0 d = lnAt m c := by
  unfold Dat.before; rw [if_pos ((fetch0_2 t0_0).mpr rfl)]; rfl
theorem before_kept0 (c : Dev nD) (d) : (dats m 0 c).before (0 : Fin 4) t0_1 d = qAt m c := by
  unfold Dat.before; rw [if_neg (fun h => absurd ((fetch0_0 t0_1).mp h) (by decide)), if_neg (by decide)]; rfl
theorem before_kept1 (c : Dev nD) (d) : (dats m 0 c).before (1 : Fin 4) t0_1 d = btAt m c := by
  unfold Dat.before; rw [if_neg (fun h => absurd ((fetch0_1 t0_1).mp h) (by decide)), if_neg (by decide)]; rfl
theorem before_kept2 (c : Dev nD) (d) : (dats m 0 c).before (2 : Fin 4) t0_1 d = lnAt m c := by
  unfold Dat.before; rw [if_neg (fun h => absurd ((fetch0_2 t0_1).mp h) (by decide)), if_neg (by decide)]; rfl
theorem idle_0 : cfg0.idle (3 : Fin 4) (cfg0.grid.coords t0_0) = true := by decide +kernel
theorem idle_1 : cfg0.idle (3 : Fin 4) (cfg0.grid.coords t0_1) = false := by decide +kernel
theorem flush_0 : (cfg0.win (3 : Fin 4)).flush t0_0 = false := by
  cases h : (cfg0.win (3 : Fin 4)).flush t0_0 with
  | false => rfl
  | true => exact absurd ((flush0_3 t0_0).mp h) (by decide)

/-- The library's body obligation on core `c`. -/
theorem body_obligation (c : Dev nD) : BodyObligation (dats (F := F) m 0 c) (defs₀ (F := F)) Variants.none () Set.univ := fun t => by
  rcases fin_N0 t with rfl | rfl
  · rw [bigSep_W, bigSep_W]
    simp only [idle_0, flush_0]
    show iprop(Φ₀ m c ∗ (dats m 0 c).owesAt () t0_0.castSucc
        ∗ (∃ d, owns (c : Thread nD τ) a1w fullShare ((dats m 0 c).before (0 : Fin 4) t0_0 d)) ∗ (∃ d, owns (c : Thread nD τ) a4w fullShare ((dats m 0 c).before (1 : Fin 4) t0_0 d))
        ∗ (∃ d, owns (c : Thread nD τ) a5w fullShare ((dats m 0 c).before (2 : Fin 4) t0_0 d)) ∗ (∃ d, owns (c : Thread nD τ) a6w fullShare ((dats m 0 c).before (3 : Fin 4) t0_0 d)))
      ⊢ wp frame (wpE (defs₀ (F := F)) Variants.none (c : Thread nD τ) none) Set.univ (cc0_body (F := F) (grid0.coords t0_0) a1w (Memref.isWhole_whole _) kHbm (Memref.isWhole_whole _) vHbm (Memref.isWhole_whole _) a4w (Memref.isWhole_whole _) a5w (Memref.isWhole_whole _) a6w (Memref.isWhole_whole _) mSc (Memref.isWhole_whole _) lSc (Memref.isWhole_whole _) aSc (Memref.isWhole_whole _) kBuf (Memref.isWhole_whole _) vBuf (Memref.isWhole_whole _) sBuf (Memref.isWhole_whole _) rBuf (Memref.isWhole_whole _) cc0_scratch7 cc0_scratch8 cc0_scratch9 cc0_scratch10)
        (fun _ => iprop(Φ₁ m c ∗ (dats m 0 c).owesAt () t0_0.succ ∗ owns (c : Thread nD τ) a1w fullShare (qAt m c) ∗ owns (c : Thread nD τ) a4w fullShare (btAt m c)
          ∗ owns (c : Thread nD τ) a5w fullShare (lnAt m c) ∗ (∃ d, owns (c : Thread nD τ) a6w fullShare ((dats m 0 c).before (3 : Fin 4) t0_0 d))))
    simp only [before_in0, before_in1, before_in2]
    unfold Dat.owesAt Pipeline.owesWithin
    rw [show (dats m 0 c).owed t0_0.castSucc = O₀ c from rfl, show (dats m 0 c).owed t0_0.succ = O₁ c from rfl]
    iintro ⟨HΦ, ⟨%W, %hW, HO⟩, ⟨%d0, H1⟩, ⟨%d1, H4⟩, ⟨%d2, H5⟩, H6⟩
    ihave H1 := (owns_out c cc0_stg0_0 (qAt m c)) $$ H1
    ihave H4 := (owns_out c cc0_stg1_0 (btAt m c)) $$ H4
    ihave H5 := (owns_out c cc0_stg2_0 (lnAt m c)) $$ H5
    iapply (wp_run c (point0 m c W)) $$ [HΦ HO H1 H4 H5]
    · isplitl [HΦ]; · iexact HΦ
      isplitl [HO]; · iexact HO
      isplitl [H1]; · iexact H1
      isplitl [H4]; · iexact H4
      iexact H5
    iintro %x ⟨HΦ, ⟨%W', HO⟩, H1, H4, H5⟩
    isplitl [HΦ]; · iexact HΦ
    isplitl [HO]
    · iexists W'; isplitr; · ipureintro; exact fun _ _ => Or.inl trivial
      iexact HO
    isplitl [H1]; · iapply (owns_in c cc0_stg0_0 (qAt m c)); iexact H1
    isplitl [H4]; · iapply (owns_in c cc0_stg1_0 (btAt m c)); iexact H4
    isplitl [H5]; · iapply (owns_in c cc0_stg2_0 (lnAt m c)); iexact H5
    iexact H6
  · rw [bigSep_W, bigSep_W]
    simp only [idle_1]
    show iprop(Φ₁ m c ∗ (dats m 0 c).owesAt () t0_1.castSucc
        ∗ (∃ d, owns (c : Thread nD τ) a1w fullShare ((dats m 0 c).before (0 : Fin 4) t0_1 d)) ∗ (∃ d, owns (c : Thread nD τ) a4w fullShare ((dats m 0 c).before (1 : Fin 4) t0_1 d))
        ∗ (∃ d, owns (c : Thread nD τ) a5w fullShare ((dats m 0 c).before (2 : Fin 4) t0_1 d)) ∗ (∃ d, owns (c : Thread nD τ) a6w fullShare ((dats m 0 c).before (3 : Fin 4) t0_1 d)))
      ⊢ wp frame (wpE (defs₀ (F := F)) Variants.none (c : Thread nD τ) none) Set.univ (cc0_body (F := F) (grid0.coords t0_1) a1w (Memref.isWhole_whole _) kHbm (Memref.isWhole_whole _) vHbm (Memref.isWhole_whole _) a4w (Memref.isWhole_whole _) a5w (Memref.isWhole_whole _) a6w (Memref.isWhole_whole _) mSc (Memref.isWhole_whole _) lSc (Memref.isWhole_whole _) aSc (Memref.isWhole_whole _) kBuf (Memref.isWhole_whole _) vBuf (Memref.isWhole_whole _) sBuf (Memref.isWhole_whole _) rBuf (Memref.isWhole_whole _) cc0_scratch7 cc0_scratch8 cc0_scratch9 cc0_scratch10)
        (fun _ => iprop(Φ₂ m c ∗ (dats m 0 c).owesAt () t0_1.succ ∗ owns (c : Thread nD τ) a1w fullShare (qAt m c) ∗ owns (c : Thread nD τ) a4w fullShare (btAt m c)
          ∗ owns (c : Thread nD τ) a5w fullShare (lnAt m c) ∗ owns (c : Thread nD τ) a6w fullShare (outAt m c)))
    simp only [before_kept0, before_kept1, before_kept2]
    unfold Dat.owesAt Pipeline.owesWithin
    rw [show (dats m 0 c).owed t0_1.castSucc = O₁ c from rfl, show (dats m 0 c).owed t0_1.succ = 0 from rfl]
    iintro ⟨HΦ, ⟨%W, %hW, HO⟩, ⟨%d0, H1⟩, ⟨%d1, H4⟩, ⟨%d2, H5⟩, ⟨%d3, H6⟩⟩
    ihave H1 := (owns_out c cc0_stg0_0 (qAt m c)) $$ H1
    ihave H4 := (owns_out c cc0_stg1_0 (btAt m c)) $$ H4
    ihave H5 := (owns_out c cc0_stg2_0 (lnAt m c)) $$ H5
    ihave H6 := (owns_out c cc0_stg3_0 _) $$ H6
    iapply (wp_run c (point1 m c _ W)) $$ [HΦ HO H1 H4 H5 H6]
    · isplitl [HΦ]; · iexact HΦ
      isplitl [HO]; · iexact HO
      isplitl [H1]; · iexact H1
      isplitl [H4]; · iexact H4
      isplitl [H5]; · iexact H5
      iexact H6
    iintro %x ⟨HΦ, ⟨%W', HO⟩, H1, H4, H5, H6⟩
    isplitl [HΦ]; · iexact HΦ
    isplitl [HO]
    · iexists W'; isplitr; · ipureintro; exact fun _ _ => Or.inl trivial
      iexact HO
    isplitl [H1]; · iapply (owns_in c cc0_stg0_0 (qAt m c)); iexact H1
    isplitl [H4]; · iapply (owns_in c cc0_stg1_0 (btAt m c)); iexact H4
    isplitl [H5]; · iapply (owns_in c cc0_stg2_0 (lnAt m c)); iexact H5
    iapply (owns_in c cc0_stg3_0 (outAt m c)); iexact H6

end Cert.KernelIdeal.Hand

end
-- ==== Proof.Launch.lean ====
module

public import proofs.«01_k».proof.Proof.Point
public import Idealize.ShloMosaic.Lib.Pipeline.Launch
public import Idealize.ShloMosaic.Lib.Pipeline.CollectiveSegs
public import proofs.«01_k».proof.Proof.RunB0
public import proofs.«01_k».proof.Proof.RunB1
public import proofs.«01_k».proof.Proof.Split
public import proofs.«01_k».proof.Proof.Windows
public import Idealize.ShloMosaic.Lib.Pipeline.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of the launch -/

/-- The body's own semaphores: the local copies', then the exchanges'. -/
abbrev osem : Fin 10 → SemLoc sig := fun
  | 0 => .dma kSem0 | 1 => .dma kSem1 | 2 => .dma vSem0 | 3 => .dma vSem1
  | 4 => .dma sendS0 | 5 => .dma sendS1 | 6 => .dma sendS2 | 7 => .dma recvS0 | 8 => .dma recvS1 | 9 => .dma recvS2
theorem ownSemFacts : Pipeline.OwnSemFacts cfg0.spec osem := by decide

theorem share_eq (c : Dev nD) (w : Fin cfg0.W) : (dats m 0 c).share w = fullShare := by unfold Dat.share; split <;> rfl

/-- A device's seven protocol cells: barrier, sends, receives. -/
abbrev csem : Fin 7 → SemLoc sig := fun
  | 0 => .reg barS | 1 => .dma sendS0 | 2 => .dma sendS1 | 3 => .dma sendS2 | 4 => .dma recvS0 | 5 => .dma recvS1 | 6 => .dma recvS2
abbrev kcell (ck : Dev nD × Fin 7) : GSem nD τ sig := ((ck.1 : Thread nD τ), csem ck.2)

theorem csem_inj : Function.Injective csem := by decide
theorem kcell_injective : Function.Injective (kcell : Dev nD × Fin 7 → GSem nD τ sig) := by
  rintro ⟨c, k⟩ ⟨c', k'⟩ h
  have h1 : c = c' := congrArg (fun g : GSem nD τ sig => g.1.1) h
  subst h1
  exact congrArg (Prod.mk c) (csem_inj (congrArg Prod.snd h))
def protoCells : Finset (GSem nD τ sig) := Finset.univ.map ⟨kcell, kcell_injective⟩

/-- A device's own cells' duties: three at the barrier, one at every other cell. -/
abbrev dutyOf : Fin 9 → Fin 7 × Duty := fun
  | 0 => (0, 0) | 1 => (0, 1) | 2 => (0, 2) | 3 => (1, 0) | 4 => (2, 0) | 5 => (3, 0) | 6 => (4, 0) | 7 => (5, 0) | 8 => (6, 0)
theorem dutyOf_inj : Function.Injective dutyOf := by decide
abbrev tokOf (cj : Dev nD × Fin 9) : GSem nD τ sig × ℕ × Duty := (kcell (cj.1, (dutyOf cj.2).1), 0, (dutyOf cj.2).2)
theorem tokOf_injective : Function.Injective (tokOf : Dev nD × Fin 9 → GSem nD τ sig × ℕ × Duty) := by
  rintro ⟨c, j⟩ ⟨c', j'⟩ h
  have h1 := kcell_injective (congrArg (fun x : GSem nD τ sig × ℕ × Duty => x.1) h)
  have hc : c = c' := congrArg Prod.fst h1
  subst hc
  exact congrArg (Prod.mk c) (dutyOf_inj (Prod.ext (congrArg Prod.snd h1) (congrArg (fun x : GSem nD τ sig × ℕ × Duty => x.2.2) h)))
def protoToks : Finset (GSem nD τ sig × ℕ × Duty) := Finset.univ.map ⟨tokOf, tokOf_injective⟩

def u₀ : UU :=
  (initOf (Pipeline.cells cfgs cellOf_inj) (Pipeline.launchToks cfgs cellOf_inj), (initOf protoCells protoToks, 1))

/-- The duty tokens of device `c`'s own cells. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell 0 c) 0 (0 : Fin 3) ∗ dutyTok ER (sendCell 1 c) 0 (0 : Fin 3) ∗ dutyTok ER (sendCell 2 c) 0 (0 : Fin 3)
    ∗ dutyTok ER (recvCell 0 c) 0 (0 : Fin 3) ∗ dutyTok ER (recvCell 1 c) 0 (0 : Fin 3) ∗ dutyTok ER (recvCell 2 c) 0 (0 : Fin 3))

def G (c : Dev nD) : sProp 𝕄 :=
  iprop((bigSep Finset.univ fun k : Fin 7 => roundState ER (Rd (T m)) (kcell (c, k)) 0)
    ∗ (bigSep Finset.univ fun k : Fin 7 => iprop(atPos ER (kcell (c, k)) 0 ∅ 0 ∗ reached ER (kcell (c, k)) 0)) ∗ toks c)

/-- The local copies' semaphores. -/
def locals (c : Dev nD) : sProp 𝕄 :=
  iprop(semVal ((c : Thread nD τ), SemLoc.dma kSem0) 0 ∗ semVal ((c : Thread nD τ), SemLoc.dma kSem1) 0
    ∗ semVal ((c : Thread nD τ), SemLoc.dma vSem0) 0 ∗ semVal ((c : Thread nD τ), SemLoc.dma vSem1) 0)

/-- What the exchanges take apart from the credits. -/
def xferPos (c : Dev nD) : sProp 𝕄 :=
  iprop(atPos ER (barCell c) 0 ∅ 0 ∗ atPos ER (sendCell 0 c) 0 ∅ 0 ∗ atPos ER (sendCell 1 c) 0 ∅ 0 ∗ atPos ER (sendCell 2 c) 0 ∅ 0
    ∗ atPos ER (recvCell 0 c) 0 ∅ 0 ∗ atPos ER (recvCell 1 c) 0 ∅ 0 ∗ atPos ER (recvCell 2 c) 0 ∅ 0)
/-- The tokens of the duties that `c` pays. -/
def payToks (c : Dev nD) : sProp 𝕄 :=
  iprop(dutyTok ER (barCell (peer 0 c)) 0 (0 : Fin 3) ∗ dutyTok ER (barCell (peer 1 c)) 0 (1 : Fin 3) ∗ dutyTok ER (barCell (peer 2 c)) 0 (2 : Fin 3)
    ∗ dutyTok ER (sendCell 0 c) 0 (0 : Fin 3) ∗ dutyTok ER (sendCell 1 c) 0 (0 : Fin 3) ∗ dutyTok ER (sendCell 2 c) 0 (0 : Fin 3)
    ∗ dutyTok ER (recvCell 0 (peer 0 c)) 0 (0 : Fin 3) ∗ dutyTok ER (recvCell 1 (peer 1 c)) 0 (0 : Fin 3) ∗ dutyTok ER (recvCell 2 (peer 2 c)) 0 (0 : Fin 3))
/-- The rounds that `c` knows reached. -/
def known (c : Dev nD) : sProp 𝕄 :=
  iprop(reached ER (barCell (peer 0 c)) 0 ∗ reached ER (barCell (peer 1 c)) 0 ∗ reached ER (barCell (peer 2 c)) 0
    ∗ reached ER (recvCell 0 c) 0 ∗ reached ER (recvCell 1 c) 0 ∗ reached ER (recvCell 2 c) 0
    ∗ reached ER (sendCell 0 c) 0 ∗ reached ER (sendCell 1 c) 0 ∗ reached ER (sendCell 2 c) 0)

def G' (c : Dev nD) : sProp 𝕄 := iprop((∃ K, invs (T m) K c) ∗ known (F := F) c ∗ xferPos (F := F) c ∗ payToks (F := F) c ∗ locals (F := F) c)

theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The protocol's launch element, dealt to the devices. -/
theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 7 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_nine]; rfl
  iintro HX
  imod (Rounds.fund ER (Rd (T m)) protoCells protoToks) $$ HX with ⟨Hst, Hr, Hat, Htok⟩
  imodintro
  ihave Hst' := (Entails.of_eq (hX fun g => roundState ER (Rd (T m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma kSem0) 0 ∗ semVal ((c : Thread nD τ), SemLoc.dma kSem1) 0
      ∗ semVal ((c : Thread nD τ), SemLoc.dma vSem0) 0 ∗ semVal ((c : Thread nD τ), SemLoc.dma vSem1) 0
      ∗ semVal (sendCell 0 c) 0 ∗ semVal (sendCell 1 c) 0 ∗ semVal (sendCell 2 c) 0
      ∗ semVal (recvCell 0 c) 0 ∗ semVal (recvCell 1 c) 0 ∗ semVal (recvCell 2 c) 0) := by
  rw [Pipeline.ownSems0_eq_of_list c osem [0, 1, 2, 3, 4, 5, 6, 7, 8, 9] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ iprop(locals (F := F) c ∗ bigSep Finset.univ fun k : Fin 7 => semVal (kcell (c, k)) 0 : sProp 𝕄) := by
  rw [ownSems0_eq, unscopedSems0_eq, bigSep_seven]
  unfold locals
  iintro ⟨⟨H0, H1, H2, H3, HS0, HS1, HS2, HV0, HV1, HV2⟩, HB⟩
  isplitl [H0 H1 H2 H3]
  · isplitl [H0]; · iexact H0
    isplitl [H1]; · iexact H1
    isplitl [H2]; · iexact H2
    iexact H3
  isplitl [HB]; · iexact HB
  isplitl [HS0]; · iexact HS0
  isplitl [HS1]; · iexact HS1
  isplitl [HS2]; · iexact HS2
  isplitl [HV0]; · iexact HV0
  isplitl [HV1]; · iexact HV1
  iexact HV2

/-- The invariants of one device's cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (T m)) κ (kcell (c, k))))
          ∗ (bigSep Finset.univ fun k => iprop(atPos ER (kcell (c, k)) 0 ∅ 0 ∗ reached ER (kcell (c, k)) 0)) ∗ toks c ∗ locals (F := F) c) := by
  unfold G
  iintro ⟨Hos, Hus, Hst, Hat, Htok⟩
  ihave Hv := (sems0_eq (F := F) c) $$ [Hos Hus]
  · isplitl [Hos] <;> iassumption
  icases Hv with ⟨Hloc, Hv⟩
  imod (show iprop((bigSep Finset.univ fun k : Fin 7 => semVal (kcell (c, k)) 0) ∗ bigSep Finset.univ fun k : Fin 7 => roundState ER (Rd (T m)) (kcell (c, k)) 0)
      ⊢ (|={Set.univ}=> bigSep Finset.univ fun k => iprop(∃ κ : ℕ, cellInv ER (Rd (T m)) κ (kcell (c, k))) : sProp 𝕄) from by
        rw [← bigSep_sep']
        exact (bigSep_mono fun k _ => (Rounds.body_intro ER (Rd (T m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- Every cell's invariant and first round. -/
def records (K : Dev nD × Fin 7 → ℕ) : sProp 𝕄 :=
  iprop((bigSep Finset.univ fun ck : Dev nD × Fin 7 => cellInv ER (Rd (T m)) (K ck) (kcell ck))
    ∗ bigSep Finset.univ fun ck : Dev nD × Fin 7 => reached ER (kcell ck) 0)
instance records_persistent (K : Dev nD × Fin 7 → ℕ) : BI.Persistent (records m K) := by unfold records; infer_instance

theorem inv_at (K : Dev nD × Fin 7 → ℕ) (ck : Dev nD × Fin 7) : records m K ⊢ cellInv ER (Rd (T m)) (K ck) (kcell ck) := by
  unfold records; iintro ⟨H, -⟩; iapply (show (bigSep Finset.univ fun ck : Dev nD × Fin 7 => cellInv ER (Rd (T m)) (K ck) (kcell ck) : sProp 𝕄) ⊢ cellInv ER (Rd (T m)) (K ck) (kcell ck) from bigSep_elim (Finset.mem_univ ck)); iexact H
theorem reached_at (K : Dev nD × Fin 7 → ℕ) (ck : Dev nD × Fin 7) : records m K ⊢ (reached ER (kcell ck) 0 : sProp 𝕄) := by
  unfold records; iintro ⟨-, H⟩; iapply (show (bigSep Finset.univ fun ck : Dev nD × Fin 7 => reached ER (kcell ck) 0 : sProp 𝕄) ⊢ reached ER (kcell ck) 0 from bigSep_elim (Finset.mem_univ ck)); iexact H

theorem ghost_intro (K : Dev nD × Fin 7 → ℕ) (c : Dev nD) :
    iprop(records m K ∗ xferPos (F := F) c ∗ payToks (F := F) c ∗ locals (F := F) c) ⊢ G' m c := by
  unfold G' invs known
  iintro ⟨#HR, H1, H2, H3⟩
  isplitr
  · iexists K
    isplitr; · iapply (inv_at m K (c, 0)); iexact HR
    isplitr; · iapply (inv_at m K (c, 1)); iexact HR
    isplitr; · iapply (inv_at m K (c, 2)); iexact HR
    isplitr; · iapply (inv_at m K (c, 3)); iexact HR
    isplitr; · iapply (inv_at m K (c, 4)); iexact HR
    isplitr; · iapply (inv_at m K (c, 5)); iexact HR
    isplitr; · iapply (inv_at m K (c, 6)); iexact HR
    isplitr; · iapply (inv_at m K (peer 0 c, 0)); iexact HR
    isplitr; · iapply (inv_at m K (peer 1 c, 0)); iexact HR
    isplitr; · iapply (inv_at m K (peer 2 c, 0)); iexact HR
    isplitr; · iapply (inv_at m K (peer 0 c, 4)); iexact HR
    isplitr; · iapply (inv_at m K (peer 1 c, 5)); iexact HR
    iapply (inv_at m K (peer 2 c, 6)); iexact HR
  isplitr
  · isplitr; · iapply (reached_at m K (peer 0 c, 0)); iexact HR
    isplitr; · iapply (reached_at m K (peer 1 c, 0)); iexact HR
    isplitr; · iapply (reached_at m K (peer 2 c, 0)); iexact HR
    isplitr; · iapply (reached_at m K (c, 4)); iexact HR
    isplitr; · iapply (reached_at m K (c, 5)); iexact HR
    isplitr; · iapply (reached_at m K (c, 6)); iexact HR
    isplitr; · iapply (reached_at m K (c, 1)); iexact HR
    isplitr; · iapply (reached_at m K (c, 2)); iexact HR
    iapply (reached_at m K (c, 3)); iexact HR
  isplitl [H1]; · iexact H1
  isplitl [H2]; · iexact H2
  iexact H3

/-- The tokens dealt to the devices that pay the duties: a barrier's and a receive cell's to the stage's partner. -/
theorem toks_around : (bigSep Finset.univ fun c : Dev nD => (toks c : sProp 𝕄)) ⊢ bigSep Finset.univ fun c : Dev nD => payToks c := by
  have e (s : Fin 3) (Φ : Dev nD → sProp 𝕄) : bigSep Finset.univ Φ = bigSep Finset.univ fun c => Φ (peer s c) := bigSep_univ_equiv (peerE s) Φ
  unfold toks payToks
  simp only [bigSep_sep']
  rw [e 0 (fun c : Dev nD => (dutyTok ER (barCell c) 0 (0 : Fin 3) : sProp 𝕄)), e 1 (fun c : Dev nD => (dutyTok ER (barCell c) 0 (1 : Fin 3) : sProp 𝕄)),
    e 2 (fun c : Dev nD => (dutyTok ER (barCell c) 0 (2 : Fin 3) : sProp 𝕄)), e 0 (fun c : Dev nD => (dutyTok ER (recvCell 0 c) 0 (0 : Fin 3) : sProp 𝕄)),
    e 1 (fun c : Dev nD => (dutyTok ER (recvCell 1 c) 0 (0 : Fin 3) : sProp 𝕄)), e 2 (fun c : Dev nD => (dutyTok ER (recvCell 2 c) 0 (0 : Fin 3) : sProp 𝕄))]

/-- A persistent fact used at every index. -/
theorem at_every {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (T m)) κ (kcell (c, k))))
          ∗ (bigSep Finset.univ fun k => iprop(atPos ER (kcell (c, k)) 0 ∅ 0 ∗ reached ER (kcell (c, k)) 0)) ∗ toks c ∗ locals (F := F) c) : sProp 𝕄)
      ⊢ bigSep Finset.univ (G' m) := by
  rw [bigSep_sep', bigSep_sep', bigSep_sep', ← bigSep_univ_prod (fun ck : Dev nD × Fin 7 => iprop(∃ κ : ℕ, cellInv ER (Rd (T m)) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hloc⟩
  ihave HK := (BI.bigSep_exists_pi Finset.univ (fun (ck : Dev nD × Fin 7) (κ : ℕ) => (cellInv ER (Rd (T m)) κ (kcell ck) : sProp 𝕄))) $$ HI
  icases HK with ⟨%K, #HI⟩
  ihave Htk := (toks_around (F := F)) $$ Htok
  iapply (at_every (R := records m K) fun c _ => ghost_intro m K c)
  isplitr
  · unfold records; isplitl; · iexact HI
    iexact HR
  · rw [bigSep_sep', bigSep_sep']
    isplitl [Hat]
    · iapply (show (bigSep Finset.univ fun c : Dev nD => bigSep Finset.univ (fun k : Fin 7 => (atPos ER (kcell (c, k)) 0 ∅ 0 : sProp 𝕄))) ⊢ bigSep Finset.univ fun c : Dev nD => xferPos (F := F) c from
        bigSep_mono fun c _ => show bigSep Finset.univ (fun k : Fin 7 => (atPos ER (kcell (c, k)) 0 ∅ 0 : sProp 𝕄)) ⊢ xferPos (F := F) c from Entails.of_eq (by unfold xferPos; rw [bigSep_seven]))
      iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => congrArg (fun g : GSem nD τ sig => g.1.1) h, fun h => h ▸ rfl⟩
theorem recv_eq_iff {s : Fin 3} {a b : Dev nD} : Iff (recvCell s a = recvCell s b) (a = b) :=
  ⟨fun h => congrArg (fun g : GSem nD τ sig => g.1.1) h, fun h => h ▸ rfl⟩
theorem peer_swap {s : Fin 3} {c d : Dev nD} : Iff (c = peer s d) (d = peer s c) :=
  ⟨fun h => by rw [h, peer_peer], fun h => by rw [h, peer_peer]⟩

/-- What one tally owes a cell. -/
theorem owB_at (s : Fin 3) (d c : Dev nD) : owB s d (barCell c) () = if d = peer s c then 1 else 0 := by
  unfold owB; rw [tallyAt_apply]
  by_cases h : d = peer s c
  · rw [if_pos ⟨bar_eq_iff.mpr (peer_swap.mpr h), rfl⟩, if_pos h]
  · rw [if_neg (fun h' => h (peer_swap.mp (bar_eq_iff.mp h'.1))), if_neg h]
theorem owR_bar (s : Fin 3) (d c : Dev nD) : owR s d (barCell c) () = 0 := by
  unfold owR; rw [tallyAt_ne_cell (fun h => dma_ne_bar (congrArg Prod.snd h).symm)]; rfl
theorem owB_recv (s s' : Fin 3) (d c : Dev nD) : owB s d (recvCell s' c) () = 0 := by
  unfold owB; rw [tallyAt_ne_cell (fun h => dma_ne_bar (congrArg Prod.snd h))]; rfl
theorem owR_self (s : Fin 3) (d c : Dev nD) : owR s d (recvCell s c) () = if d = peer s c then N else 0 := by
  unfold owR; rw [tallyAt_apply]
  by_cases h : d = peer s c
  · rw [if_pos ⟨recv_eq_iff.mpr (peer_swap.mpr h), rfl⟩, if_pos h]
  · rw [if_neg (fun h' => h (peer_swap.mp (recv_eq_iff.mp h'.1))), if_neg h]
theorem owR_other {s s' : Fin 3} (hs : s ≠ s') (d c : Dev nD) : owR s d (recvCell s' c) () = 0 := by
  unfold owR; rw [tallyAt_ne_cell (fun h => hs (recv_inj (congrArg Prod.snd h)).symm)]; rfl

theorem owed_split (d : Dev nD) (g : GSem nD τ sig) :
    O₀ d g () = owR 2 d g () + owR 1 d g () + owR 0 d g () + owB 2 d g () + owB 1 d g () + owB 0 d g () := rfl
theorem owed_bar (d c : Dev nD) : O₀ d (barCell c) () = (if d = peer 2 c then 1 else 0) + (if d = peer 1 c then 1 else 0) + (if d = peer 0 c then 1 else 0) := by
  rw [owed_split, owR_bar, owR_bar, owR_bar, owB_at, owB_at, owB_at]; simp only [Nat.zero_add, Nat.add_zero]
theorem owed_recv (s : Fin 3) (d c : Dev nD) : O₀ d (recvCell s c) () = if d = peer s c then N else 0 := by
  rw [owed_split, owB_recv, owB_recv, owB_recv]
  fin_cases s
  · show owR 2 d (recvCell 0 c) () + owR 1 d (recvCell 0 c) () + owR 0 d (recvCell 0 c) () + 0 + 0 + 0 = _
    rw [owR_other (by decide), owR_other (by decide), owR_self]; simp only [Nat.zero_add, Nat.add_zero]; rfl
  · show owR 2 d (recvCell 1 c) () + owR 1 d (recvCell 1 c) () + owR 0 d (recvCell 1 c) () + 0 + 0 + 0 = _
    rw [owR_other (s := 2) (by decide), owR_other (s := 0) (by decide), owR_self]; simp only [Nat.zero_add, Nat.add_zero]; rfl
  · show owR 2 d (recvCell 2 c) () + owR 1 d (recvCell 2 c) () + owR 0 d (recvCell 2 c) () + 0 + 0 + 0 = _
    rw [owR_other (s := 1) (by decide), owR_other (s := 0) (by decide), owR_self]; simp only [Nat.zero_add, Nat.add_zero]; rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]
theorem launch_recv (s : Fin 3) (c : Dev nD) :
    tallyOn (recvCell s c) (launchCredit (Pipeline.owing O₀) 0 (recvCell s c)) = (tallyAt (recvCell s c) () N : CellTallies nD τ sig Unit) := by
  unfold tallyAt; refine congrArg _ (Finsupp.ext fun u => ?_); cases u
  rw [Pipeline.launchCredit_owing, Finsupp.single_eq_same, Finset.sum_congr rfl fun d _ => owed_recv s d c, Finset.sum_ite_eq' Finset.univ (peer s c) fun _ => N,
    if_pos (Finset.mem_univ _)]

theorem creds (c : Dev nD) :
    (Pipeline.launchCred O₀ c : sProp 𝕄) ⊢ iprop(cred (tallyAt (barCell c) () 3) ∗ cred (tallyAt (recvCell 0 c) () N) ∗ cred (tallyAt (recvCell 1 c) () N) ∗ cred (tallyAt (recvCell 2 c) () N)) := by
  unfold Pipeline.launchCred
  rw [bigSep_univ_at _ (SemLoc.reg barS), launch_bar]
  refine sep_mono_right ?_
  rw [← launch_recv, ← launch_recv, ← launch_recv]
  refine (BI.bigSep_subset (show ({SemLoc.dma (recvS 0), SemLoc.dma (recvS 1), SemLoc.dma (recvS 2)} : Finset (SemLoc sig)) ⊆ _ from by decide)).trans ?_
  rw [bigSep_eq_bigSepL_of_eq [SemLoc.dma (recvS 0), SemLoc.dma (recvS 1), SemLoc.dma (recvS 2)] (by decide) (by decide)]
  exact (show ∀ P : sProp 𝕄, P ⊢ P from fun _ => BIBase.Entails.rfl) _

/-! ### The launch's side conditions -/

theorem halves (c : Dev nD) (b : Ref sig .tc) (f : Buf (Elt F) ((c : Thread nD τ).loc b)) :
    ((((c : Thread nD τ).loc b) ↦{fullShare} f) : sProp 𝕄) ⊢ iprop(heldQ c (Memref.whole b) fullShare.left f ∗ heldQ c (Memref.whole b) fullShare.right f) := by
  unfold heldQ
  rw [show (Memref.whole b : Memref sig .tc _ _ _).view.set = Finset.univ from View.set_whole _]
  exact (pointsTo_share (PosShare.mem_left_op_right fullShare)).1

theorem halves_k (c : Dev nD) :
    ((((c : Thread nD τ).loc main_arg1) ↦{fullShare} m ((c : Thread nD τ).loc main_arg1)) : sProp 𝕄)
      ⊢ iprop(heldQ c kHbm fullShare.left (kAt m c) ∗ heldQ c kHbm fullShare.right (kAt m c)) := halves c main_arg1 (kAt m c)
theorem halves_v (c : Dev nD) :
    ((((c : Thread nD τ).loc main_arg2) ↦{fullShare} m ((c : Thread nD τ).loc main_arg2)) : sProp 𝕄)
      ⊢ iprop(heldQ c vHbm fullShare.left (vAt m c) ∗ heldQ c vHbm fullShare.right (vAt m c)) := halves c main_arg2 (vAt m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hu, #Hlev, Hcr, -, HG⟩
  ihave Hc := (creds (F := F) c) $$ Hcr
  icases Hc with ⟨Hc, Hc0, Hc1, Hc2⟩
  ihave Hu' := (Entails.of_eq ((show Pipeline.unscopedRestP Pipeline.Prefetch.none cfg0.spec c (fun b => m ((c : Thread nD τ).loc b)) = (Pipeline.unscopedRest spec0 c (fun b => m ((c : Thread nD τ).loc b)) : sProp 𝕄) from Pipeline.unscopedRestP_none _ _ _).trans (unscopedRest0_eq c _))) $$ Hu
  icases Hu' with ⟨Hk, Hv⟩
  ihave Hk' := (halves_k m c) $$ Hk
  ihave Hv' := (halves_v m c) $$ Hv
  icases Hk' with ⟨HkL, HkR⟩
  icases Hv' with ⟨HvL, HvR⟩
  unfold G' known xferPos payToks locals
  icases HG with ⟨HI, ⟨HrB0, HrB1, HrB2, HrV0, HrV1, HrV2, HrS0, HrS1, HrS2⟩, ⟨HaB, HaS0, HaS1, HaS2, HaV0, HaV1, HaV2⟩,
    ⟨HtB0, HtB1, HtB2, HtS0, HtS1, HtS2, HtV0, HtV1, HtV2⟩, ⟨Hs0, Hs1, Hs2, Hs3⟩⟩
  imodintro
  unfold start barGhost xferGhost
  isplitl
  · isplitl [HI]; · iexact HI
    isplitl [HaB Hc HtB0 HtB1 HtB2 HrB0 HrB1 HrB2 HrV0 HrV1 HrV2]
    · isplitl [HaB]; · iexact HaB
      isplitl [Hc]; · iexact Hc
      isplitl [HtB0]; · iexact HtB0
      isplitl [HtB1]; · iexact HtB1
      isplitl [HtB2]; · iexact HtB2
      isplitl [HrB0]; · iexact HrB0
      isplitl [HrB1]; · iexact HrB1
      isplitl [HrB2]; · iexact HrB2
      isplitl [HrV0]; · iexact HrV0
      isplitl [HrV1]; · iexact HrV1
      iexact HrV2
    isplitl [HaS0 HaV0 HrS0 HtS0 HtV0 Hc0 HaS1 HaV1 HrS1 HtS1 HtV1 Hc1 HaS2 HaV2 HrS2 HtS2 HtV2 Hc2]
    · isplitl [HaS0]; · iexact HaS0
      isplitl [HaV0]; · iexact HaV0
      isplitl [HrS0]; · iexact HrS0
      isplitl [HtS0]; · iexact HtS0
      isplitl [HtV0]; · iexact HtV0
      isplitl [Hc0]; · iexact Hc0
      isplitl [HaS1]; · iexact HaS1
      isplitl [HaV1]; · iexact HaV1
      isplitl [HrS1]; · iexact HrS1
      isplitl [HtS1]; · iexact HtS1
      isplitl [HtV1]; · iexact HtV1
      isplitl [Hc1]; · iexact Hc1
      isplitl [HaS2]; · iexact HaS2
      isplitl [HaV2]; · iexact HaV2
      isplitl [HrS2]; · iexact HrS2
      isplitl [HtS2]; · iexact HtS2
      isplitl [HtV2]; · iexact HtV2
      iexact Hc2
    isplitr; · iexact Hlev
    isplitl [HkL]; · iexact HkL
    isplitl [HkR]; · iexact HkR
    isplitl [HvL]; · iexact HvL
    isplitl [HvR]; · iexact HvR
    isplitl [Hs0]; · iexact Hs0
    isplitl [Hs1]; · iexact Hs1
    isplitl [Hs2]; · iexact Hs2
    iexact Hs3
  · iempintro

theorem whole_held (c : Dev nD) (b : Ref sig .tc) (f : Buf (Elt F) ((c : Thread nD τ).loc b)) :
    ((((c : Thread nD τ).loc b) ↦{fullShare} f) : sProp 𝕄) = heldQ c (Memref.whole b) fullShare f := by
  unfold heldQ
  rw [show (Memref.whole b : Memref sig .tc _ _ _).view.set = Finset.univ from View.set_whole _]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f0, H0⟩, ⟨%f1, H1⟩, ⟨%f2, H2⟩, H3, H4, ⟨%f5, H5⟩, ⟨%f6, H6⟩⟩
  ihave H6 := (r_split c f6) $$ H6
  icases H6 with ⟨Hr0, Hr1, Hr2⟩
  isplitl [Hs]; · iexact Hs
  isplitl [H0]; · iexists f0; rw [← whole_held]; iexact H0
  isplitl [H1]; · iexists f1; rw [← whole_held]; iexact H1
  isplitl [H2]; · iexists f2; rw [← whole_held]; iexact H2
  isplitl [H3]; · iexact H3
  isplitl [H4]; · iexact H4
  isplitl [H5]; · iexists f5; rw [← whole_held]; iexact H5
  isplitl [Hr0]; · iexact Hr0
  isplitl [Hr1]; · iexact Hr1
  iexact Hr2

/-- What the last point leaves to be read: the barrier cell at zero, the caches. -/
def leftover (c : Dev nD) : sProp 𝕄 :=
  iprop(unscopedSems0 c ∗ heldQ c kHbm fullShare.left (kAt m c) ∗ heldQ c vHbm fullShare.left (vAt m c))

theorem phi2_exit (c : Dev nD) :
    (dats m 0 c).Φ (Fin.last cfg0.N) ⊢ iprop(leftover m c ∗ Pipeline.ownSems0 osem c ∗ Pipeline.scopedRest cfg0.spec c) := by
  rw [show (dats m 0 c).Φ (Fin.last cfg0.N) = Φ₂ m c from rfl, scopedRest0_eq, ownSems0_eq]
  unfold Φ₂ leftover
  rw [unscopedSems0_eq]
  iintro ⟨HkL, HvL, Hs, Hb, ⟨%f0, H0⟩, ⟨%f1, H1⟩, ⟨%f2, H2⟩, Hk0, Hk1, Hv0, Hv1, ⟨%f5, H5⟩, Hr0, Hr1, Hr2⟩
  isplitl [Hb HkL HvL]
  · isplitl [Hb]; · iexact Hb
    isplitl [HkL] <;> iassumption
  isplitl [Hs]; · iexact Hs
  isplitl [H0]; · iexists f0; rw [whole_held]; iexact H0
  isplitl [H1]; · iexists f1; rw [whole_held]; iexact H1
  isplitl [H2]; · iexists f2; rw [whole_held]; iexact H2
  isplitl [Hk0 Hk1]
  · iapply (k_join c); isplitl [Hk0] <;> iassumption
  isplitl [Hv0 Hv1]
  · iapply (v_join c); isplitl [Hv0] <;> iassumption
  isplitl [H5]; · iexists f5; rw [whole_held]; iexact H5
  iapply (r_join c)
  isplitl [Hr0]; · iexact Hr0
  isplitl [Hr1] <;> iassumption

theorem owed_cases (c : Dev nD) (t : Fin (cfg0.N + 1)) : Above 0 ((dats m 0 c).owed t) := by
  rcases t with ⟨_ | _ | _, ht⟩
  · exact above_O₀ c
  · exact above_O₁ (by decide) c
  · exact Above.zero 0

theorem waits (c : Dev nD) : (levAts L lv : sProp 𝕄) ⊢ Pipeline.cellsWaits cfgs (dats m) () 0 c :=
  Pipeline.cellsWaits_intro cfgs (dats m) () 0 c fun w s t =>
    mayWait_of c _ 0 (lv_dma c _ (by fin_cases w <;> fin_cases s <;> decide) ()) (owed_cases m c _)

/-! ### The run -/

def finalA (c : Dev nD) (w : Fin cfg0.W) : Buf (Elt F) ((cfg0.win w).arr.view.loc (c : Thread nD τ)) := (dats m 0 c).arrAt w cfg0.N

/-- After the run: every windowed array at its computed contents, the caches as they were. -/
def Final : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1) ∧ r.2.mem ((c : Thread nD τ).loc main_arg2) = m ((c : Thread nD τ).loc main_arg2)

/-- The state that the leftover resources tell of. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1) ∧ s.mem ((c : Thread nD τ).loc main_arg2) = m ((c : Thread nD τ).loc main_arg2)

theorem whole_eq (c : Dev nD) (b : Ref sig .tc) {g f : Buf (Elt F) ((c : Thread nD τ).loc b)}
    (h : ∀ i ∈ (Memref.whole b : Memref sig .tc _ _ _).view.set, g i = f i) : g = f := by
  rw [show (Memref.whole b : Memref sig .tc _ _ _).view.set = Finset.univ from View.set_whole _] at h
  exact Buf.eq_of_forall_mem_univ h

theorem leftover_read (c : Dev nD) (s' : Phys nD τ sig (Elt F)) :
    iprop(leftover m c ∗ emp ∗ SI s') ⊢ |={Set.univ}=> iprop(⌜QY m c s'.mem⌝ ∗ SI s') := by
  unfold leftover
  iintro ⟨⟨Hu, Hk, Hv⟩, -, HSI⟩
  icombine HSI Hk gives %hk
  icombine HSI Hv gives %hv
  imod (Pipeline.unscopedSems0_read (X := unscopedSems0 c) (c := c) fupd_intro s') $$ [Hu HSI] with ⟨%hu, HSI⟩
  · isplitl [Hu] <;> iassumption
  imodintro
  isplitr
  · ipureintro
    exact ⟨hu, whole_eq c main_arg1 hk, whole_eq c main_arg2 hv⟩
  iexact HSI

set_option maxRecDepth 8000 in
/-- At the compiled mesh of eight devices, for any float values, from any memory with zero counters: every weakly fair
    execution of @main terminates, and every final state has each device's result at the computed contents, the
    arguments unchanged and every semaphore counter at zero. -/
theorem run_main : θ_run defs (onTc (τ := τ) (main (F := F))) (s₀ m ρ) (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) embL defs₀ Variants.none m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb embR _ _) $$ HX
      icases HX' with ⟨HX, -⟩
      imod (fund_proto m) $$ HX with HG
      imodintro
      isplitl [HP] <;> iassumption)
    (hglob := glob m)
    (hA := fun _ _ => rfl) (hpf := fun _ k => k.elim0)
    (X := start m) (Y := leftover m) (Z := fun _ => iprop(emp))
    (hX := start_intro m ρ) (hin := phi0_intro m) (hout := phi2_exit m)
    (QY := QY m) (hY := leftover_read m)
    (hQ := fun _ h hs => ⟨fun c => ⟨(h c).1, (h c).2.2.2⟩, sem_eq_zero hs fun c => (h c).2.2.1⟩)

end Cert.KernelIdeal.Hand

end
-- ==== Proof.Frames.lean ====
module

public import proofs.«01_k».proof.Defs
public import proofs.«01_k».proof.Proof.Gen.Kernel
public import proofs.«01_k».proof.Proof.Launch
public import proofs.«01_k».proof.Proof.Gen.ReferenceIdeal.Run
public import Idealize.ShloMosaic.Adequacy
public import Idealize.ShloMosaic.Init

@[expose] public section

set_option maxRecDepth 16384

noncomputable section

namespace Cert.KernelIdeal.Hand

open Cert.KernelIdeal Cert.KernelIdeal.Gen
open Idealize.ShloMosaic Idealize.ShloMosaic.TcCoe Idealize.SL.Sem

/-! ## What the run says of the arguments and of the result -/

variable {F : FTy → Type} [FloatOps F] (m : (ℓ : Loc nD τ sig) → Buf (Elt F) ℓ) (ρ : Dev nD → PrngReg)

/-- The arguments at the end of a run. -/
theorem args_kept {r : PUnit × MemSt nD τ sig (Elt F)} (h : Final m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  obtain ⟨hw, h1, h2⟩ := h c
  exact ⟨(hw 0).trans ((dats m 0 c).arrAt_in 0 rfl _), h1, h2, (hw 1).trans ((dats m 0 c).arrAt_in 1 rfl _), (hw 2).trans ((dats m 0 c).arrAt_in 2 rfl _)⟩

/-- The frame, for any float values. -/
theorem frame_any : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m h.1, h.2⟩) (run_main m ρ)

end Cert.KernelIdeal.Hand

namespace Cert.Proof

open Idealize.ShloMosaic Idealize.SL.Sem

/-- The two printed programs have one body. -/
theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  rcases l with ⟨_ | k, h⟩
  · rcases a with ⟨t, s⟩
    rfl
  · exact absurd h (Nat.not_lt.2 (Nat.le_add_left _ _))
theorem defs_same : Cert.Kernel.defs (F := Bits) = Cert.KernelIdeal.defs (F := Bits) := by
  unfold Cert.Kernel.defs Cert.KernelIdeal.defs
  rw [defs₀_same]; rfl

/-- The compiled program runs on the eight devices, keeps its arguments and returns every semaphore to zero. -/
theorem frame_kernel : Cert.quiescent_Kernel := fun m ρ _ => by
  rw [defs_same]
  exact Cert.KernelIdeal.Hand.frame_any (F := Bits) m ρ
/-- So does its reading in exact arithmetic. -/
theorem frame_kernelIdeal : Cert.quiescent_KernelIdeal := fun m ρ _ => Cert.KernelIdeal.Hand.frame_any (F := Ideal) m ρ
/-- The reference is a straight line of host operations and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem preserves_kernel : Cert.preserves_Kernel_KernelIdeal := trivial

end Cert.Proof

end
-- ==== Proof.Head.lean ====
module

public import proofs.«01_k».proof.Proof.Data

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## One head's step over one block of keys -/

/-- The new running maximum of one head. -/
def hM (cp : IVec S8x1024 1) (q : Vec F S8x128 .f32) (k : Vec F S1x1x1024x128 .f32) (mo : Vec F S1x8x1 .f32) : FVec F S1x8x1 .f32 :=
  k0_pay52 (k0_pay45 mo) (k0_pay46 cp q k)
/-- The new running sum of one head. -/
def hL (cr : FVec F S8x1024 .f32) (cp : IVec S8x1024 1) (q : Vec F S8x128 .f32) (k : Vec F S1x1x1024x128 .f32) (mo lo : Vec F S1x8x1 .f32) : FVec F S1x8x1 .f32 :=
  k0_pay50 cr (k0_pay44 cp q k) (k0_pay45 mo) (k0_pay46 cp q k) lo
/-- The new running weighted sum of one head. -/
def hA (cr : FVec F S8x1024 .f32) (cp : IVec S8x1024 1) (q : Vec F S8x128 .f32) (k v : Vec F S1x1x1024x128 .f32) (mo : Vec F S1x8x1 .f32) (ao : Vec F S1x8x128 .f32) :
    FVec F S1x8x128 .f32 :=
  k0_pay51 cr (k0_pay43 v) (k0_pay44 cp q k) (k0_pay45 mo) (k0_pay46 cp q k) ao

variable (m : (ℓ : Loc nD τ sig) → Buf (Elt F) ℓ)

/-- The block table of device `c` as the body loads it. -/
abbrev btLd (c : Dev nD) : Vec F S8x512 .i32 := View.readAt (Elt F) a4w.view (Rect.unit (s := S8x512) ![0, 0] S8x512.size inb_S8x512_S8x512_0_0).toLoadRect (btAt m c)
/-- The multiplicity of each row of block 0 and of block 1, and where it is positive. -/
abbrev cr0 (c : Dev nD) : FVec F S8x1024 .f32 := k0_pay41 (k0_pay39 (grid0.coords t0_0) c) (k0_pay40 (lensOf c a5w (lnAt m c))) (btLd m c)
abbrev cp0 (c : Dev nD) : IVec S8x1024 1 := k0_pay42 (k0_pay39 (grid0.coords t0_0) c) (k0_pay40 (lensOf c a5w (lnAt m c))) (btLd m c)
abbrev cr1 (c : Dev nD) : FVec F S8x1024 .f32 := k0_pay41 (k0_pay39 (grid0.coords t0_1) c) (k0_pay40 (lensOf c a5w (lnAt m c))) (btLd m c)
abbrev cp1 (c : Dev nD) : IVec S8x1024 1 := k0_pay42 (k0_pay39 (grid0.coords t0_1) c) (k0_pay40 (lensOf c a5w (lnAt m c))) (btLd m c)

/-- One head's columns of the queries. -/
abbrev qLd (c : Dev nD) (o : ℕ) (h : ∀ a, (![0, o] : Fin 2 → ℕ) a + S8x128.size a ≤ S8x1024.size a) : Vec F S8x128 .f32 :=
  View.readAt (Elt F) a1w.view (Rect.unit (s := S8x1024) ![0, o] S8x128.size h).toLoadRect (qAt m c)
/-- One head of the running maximum, sum and weighted sum. -/
abbrev mLd (c : Dev nD) (f : BufAt (F := F) c mSc) (o : ℕ) (h : ∀ a, (![o, 0, 0] : Fin 3 → ℕ) a + S1x8x1.size a ≤ S8x8x1.size a) : Vec F S1x8x1 .f32 :=
  View.readAt (Elt F) mSc.view (Rect.unit (s := S8x8x1) ![o, 0, 0] S1x8x1.size h).toLoadRect f
abbrev lLd (c : Dev nD) (f : BufAt (F := F) c lSc) (o : ℕ) (h : ∀ a, (![o, 0, 0] : Fin 3 → ℕ) a + S1x8x1.size a ≤ S8x8x1.size a) : Vec F S1x8x1 .f32 :=
  View.readAt (Elt F) lSc.view (Rect.unit (s := S8x8x1) ![o, 0, 0] S1x8x1.size h).toLoadRect f
abbrev aLd (c : Dev nD) (f : BufAt (F := F) c aSc) (o : ℕ) (h : ∀ a, (![o, 0, 0] : Fin 3 → ℕ) a + S1x8x128.size a ≤ S8x8x128.size a) : Vec F S1x8x128 .f32 :=
  View.readAt (Elt F) aSc.view (Rect.unit (s := S8x8x128) ![o, 0, 0] S1x8x128.size h).toLoadRect f

/-- Device `c`'s running maximum after block 0, head by head. -/
theorem part0_m (c : Dev nD) : (part0 m c).1 = (View.whole cc0_scratch0).writes (Elt F) k0_pay3 [
      ⟨Rect.unit ![7, 0, 0] S1x8x1.size inb_S8x8x1_S1x8x1_7_0_0, hM (cp0 m c) (qLd m c 896 inb_S8x1024_S8x128_0_896) (runB0.sl.v505 c (kAt m c)) (mLd c k0_pay3 7 inb_S8x8x1_S1x8x1_7_0_0)⟩,
      ⟨Rect.unit ![6, 0, 0] S1x8x1.size inb_S8x8x1_S1x8x1_6_0_0, hM (cp0 m c) (qLd m c 768 inb_S8x1024_S8x128_0_768) (runB0.sl.v460 c (kAt m c)) (mLd c k0_pay3 6 inb_S8x8x1_S1x8x1_6_0_0)⟩,
      ⟨Rect.unit ![5, 0, 0] S1x8x1.size inb_S8x8x1_S1x8x1_5_0_0, hM (cp0 m c) (qLd m c 640 inb_S8x1024_S8x128_0_640) (runB0.sl.v415 c (kAt m c)) (mLd c k0_pay3 5 inb_S8x8x1_S1x8x1_5_0_0)⟩,
      ⟨Rect.unit ![4, 0, 0] S1x8x1.size inb_S8x8x1_S1x8x1_4_0_0, hM (cp0 m c) (qLd m c 512 inb_S8x1024_S8x128_0_512) (runB0.sl.v370 c (kAt m c)) (mLd c k0_pay3 4 inb_S8x8x1_S1x8x1_4_0_0)⟩,
      ⟨Rect.unit ![3, 0, 0] S1x8x1.size inb_S8x8x1_S1x8x1_3_0_0, hM (cp0 m c) (qLd m c 384 inb_S8x1024_S8x128_0_384) (runB0.sl.v325 c (kAt m c)) (mLd c k0_pay3 3 inb_S8x8x1_S1x8x1_3_0_0)⟩,
      ⟨Rect.unit ![2, 0, 0] S1x8x1.size inb_S8x8x1_S1x8x1_2_0_0, hM (cp0 m c) (qLd m c 256 inb_S8x1024_S8x128_0_256) (runB0.sl.v280 c (kAt m c)) (mLd c k0_pay3 2 inb_S8x8x1_S1x8x1_2_0_0)⟩,
      ⟨Rect.unit ![1, 0, 0] S1x8x1.size inb_S8x8x1_S1x8x1_1_0_0, hM (cp0 m c) (qLd m c 128 inb_S8x1024_S8x128_0_128) (runB0.sl.v235 c (kAt m c)) (mLd c k0_pay3 1 inb_S8x8x1_S1x8x1_1_0_0)⟩,
      ⟨Rect.unit ![0, 0, 0] S1x8x1.size inb_S8x8x1_S1x8x1_0_0_0, hM (cp0 m c) (qLd m c 0 inb_S8x1024_S8x128_0_0) (runB0.sl.v190 c (kAt m c)) (mLd c k0_pay3 0 inb_S8x8x1_S1x8x1_0_0_0)⟩] := by
  unfold part0 runB0
  rfl

/-- Device `c`'s running sum after block 0, head by head. -/
theorem part0_l (c : Dev nD) : (part0 m c).2.1 = (View.whole cc0_scratch1).writes (Elt F) k0_pay4 [
      ⟨Rect.unit ![7, 0, 0] S1x8x1.size inb_S8x8x1_S1x8x1_7_0_0, hL (cr0 m c) (cp0 m c) (qLd m c 896 inb_S8x1024_S8x128_0_896) (runB0.sl.v505 c (kAt m c)) (mLd c k0_pay3 7 inb_S8x8x1_S1x8x1_7_0_0) (lLd c k0_pay4 7 inb_S8x8x1_S1x8x1_7_0_0)⟩,
      ⟨Rect.unit ![6, 0, 0] S1x8x1.size inb_S8x8x1_S1x8x1_6_0_0, hL (cr0 m c) (cp0 m c) (qLd m c 768 inb_S8x1024_S8x128_0_768) (runB0.sl.v460 c (kAt m c)) (mLd c k0_pay3 6 inb_S8x8x1_S1x8x1_6_0_0) (lLd c k0_pay4 6 inb_S8x8x1_S1x8x1_6_0_0)⟩,
      ⟨Rect.unit ![5, 0, 0] S1x8x1.size inb_S8x8x1_S1x8x1_5_0_0, hL (cr0 m c) (cp0 m c) (qLd m c 640 inb_S8x1024_S8x128_0_640) (runB0.sl.v415 c (kAt m c)) (mLd c k0_pay3 5 inb_S8x8x1_S1x8x1_5_0_0) (lLd c k0_pay4 5 inb_S8x8x1_S1x8x1_5_0_0)⟩,
      ⟨Rect.unit ![4, 0, 0] S1x8x1.size inb_S8x8x1_S1x8x1_4_0_0, hL (cr0 m c) (cp0 m c) (qLd m c 512 inb_S8x1024_S8x128_0_512) (runB0.sl.v370 c (kAt m c)) (mLd c k0_pay3 4 inb_S8x8x1_S1x8x1_4_0_0) (lLd c k0_pay4 4 inb_S8x8x1_S1x8x1_4_0_0)⟩,
      ⟨Rect.unit ![3, 0, 0] S1x8x1.size inb_S8x8x1_S1x8x1_3_0_0, hL (cr0 m c) (cp0 m c) (qLd m c 384 inb_S8x1024_S8x128_0_384) (runB0.sl.v325 c (kAt m c)) (mLd c k0_pay3 3 inb_S8x8x1_S1x8x1_3_0_0) (lLd c k0_pay4 3 inb_S8x8x1_S1x8x1_3_0_0)⟩,
      ⟨Rect.unit ![2, 0, 0] S1x8x1.size inb_S8x8x1_S1x8x1_2_0_0, hL (cr0 m c) (cp0 m c) (qLd m c 256 inb_S8x1024_S8x128_0_256) (runB0.sl.v280 c (kAt m c)) (mLd c k0_pay3 2 inb_S8x8x1_S1x8x1_2_0_0) (lLd c k0_pay4 2 inb_S8x8x1_S1x8x1_2_0_0)⟩,
      ⟨Rect.unit ![1, 0, 0] S1x8x1.size inb_S8x8x1_S1x8x1_1_0_0, hL (cr0 m c) (cp0 m c) (qLd m c 128 inb_S8x1024_S8x128_0_128) (runB0.sl.v235 c (kAt m c)) (mLd c k0_pay3 1 inb_S8x8x1_S1x8x1_1_0_0) (lLd c k0_pay4 1 inb_S8x8x1_S1x8x1_1_0_0)⟩,
      ⟨Rect.unit ![0, 0, 0] S1x8x1.size inb_S8x8x1_S1x8x1_0_0_0, hL (cr0 m c) (cp0 m c) (qLd m c 0 inb_S8x1024_S8x128_0_0) (runB0.sl.v190 c (kAt m c)) (mLd c k0_pay3 0 inb_S8x8x1_S1x8x1_0_0_0) (lLd c k0_pay4 0 inb_S8x8x1_S1x8x1_0_0_0)⟩] := by
  unfold part0 runB0
  rfl

/-- Device `c`'s running weighted sum after block 0, head by head. -/
theorem part0_a (c : Dev nD) : (part0 m c).2.2 = (View.whole cc0_scratch2).writes (Elt F) k0_pay5 [
      ⟨Rect.unit ![7, 0, 0] S1x8x128.size inb_S8x8x128_S1x8x128_7_0_0, hA (cr0 m c) (cp0 m c) (qLd m c 896 inb_S8x1024_S8x128_0_896) (runB0.sl.v505 c (kAt m c)) (runB0.sl.v508 c (vAt m c)) (mLd c k0_pay3 7 inb_S8x8x1_S1x8x1_7_0_0) (aLd c k0_pay5 7 inb_S8x8x128_S1x8x128_7_0_0)⟩,
      ⟨Rect.unit ![6, 0, 0] S1x8x128.size inb_S8x8x128_S1x8x128_6_0_0, hA (cr0 m c) (cp0 m c) (qLd m c 768 inb_S8x1024_S8x128_0_768) (runB0.sl.v460 c (kAt m c)) (runB0.sl.v463 c (vAt m c)) (mLd c k0_pay3 6 inb_S8x8x1_S1x8x1_6_0_0) (aLd c k0_pay5 6 inb_S8x8x128_S1x8x128_6_0_0)⟩,
      ⟨Rect.unit ![5, 0, 0] S1x8x128.size inb_S8x8x128_S1x8x128_5_0_0, hA (cr0 m c) (cp0 m c) (qLd m c 640 inb_S8x1024_S8x128_0_640) (runB0.sl.v415 c (kAt m c)) (runB0.sl.v418 c (vAt m c)) (mLd c k0_pay3 5 inb_S8x8x1_S1x8x1_5_0_0) (aLd c k0_pay5 5 inb_S8x8x128_S1x8x128_5_0_0)⟩,
      ⟨Rect.unit ![4, 0, 0] S1x8x128.size inb_S8x8x128_S1x8x128_4_0_0, hA (cr0 m c) (cp0 m c) (qLd m c 512 inb_S8x1024_S8x128_0_512) (runB0.sl.v370 c (kAt m c)) (runB0.sl.v373 c (vAt m c)) (mLd c k0_pay3 4 inb_S8x8x1_S1x8x1_4_0_0) (aLd c k0_pay5 4 inb_S8x8x128_S1x8x128_4_0_0)⟩,
      ⟨Rect.unit ![3, 0, 0] S1x8x128.size inb_S8x8x128_S1x8x128_3_0_0, hA (cr0 m c) (cp0 m c) (qLd m c 384 inb_S8x1024_S8x128_0_384) (runB0.sl.v325 c (kAt m c)) (runB0.sl.v328 c (vAt m c)) (mLd c k0_pay3 3 inb_S8x8x1_S1x8x1_3_0_0) (aLd c k0_pay5 3 inb_S8x8x128_S1x8x128_3_0_0)⟩,
      ⟨Rect.unit ![2, 0, 0] S1x8x128.size inb_S8x8x128_S1x8x128_2_0_0, hA (cr0 m c) (cp0 m c) (qLd m c 256 inb_S8x1024_S8x128_0_256) (runB0.sl.v280 c (kAt m c)) (runB0.sl.v283 c (vAt m c)) (mLd c k0_pay3 2 inb_S8x8x1_S1x8x1_2_0_0) (aLd c k0_pay5 2 inb_S8x8x128_S1x8x128_2_0_0)⟩,
      ⟨Rect.unit ![1, 0, 0] S1x8x128.size inb_S8x8x128_S1x8x128_1_0_0, hA (cr0 m c) (cp0 m c) (qLd m c 128 inb_S8x1024_S8x128_0_128) (runB0.sl.v235 c (kAt m c)) (runB0.sl.v238 c (vAt m c)) (mLd c k0_pay3 1 inb_S8x8x1_S1x8x1_1_0_0) (aLd c k0_pay5 1 inb_S8x8x128_S1x8x128_1_0_0)⟩,
      ⟨Rect.unit ![0, 0, 0] S1x8x128.size inb_S8x8x128_S1x8x128_0_0_0, hA (cr0 m c) (cp0 m c) (qLd m c 0 inb_S8x1024_S8x128_0_0) (runB0.sl.v190 c (kAt m c)) (runB0.sl.v193 c (vAt m c)) (mLd c k0_pay3 0 inb_S8x8x1_S1x8x1_0_0_0) (aLd c k0_pay5 0 inb_S8x8x128_S1x8x128_0_0_0)⟩] := by
  unfold part0 runB0
  rfl

/-- Device `c`'s running maximum after block 1, head by head. -/
theorem part1_m (c : Dev nD) : (part1 m c).1 = (View.whole cc0_scratch0).writes (Elt F) (part0 m c).1 [
      ⟨Rect.unit ![7, 0, 0] S1x8x1.size inb_S8x8x1_S1x8x1_7_0_0, hM (cp1 m c) (qLd m c 896 inb_S8x1024_S8x128_0_896) (runB1.sl.v505 c (kAt m c)) (mLd c (part0 m c).1 7 inb_S8x8x1_S1x8x1_7_0_0)⟩,
      ⟨Rect.unit ![6, 0, 0] S1x8x1.size inb_S8x8x1_S1x8x1_6_0_0, hM (cp1 m c) (qLd m c 768 inb_S8x1024_S8x128_0_768) (runB1.sl.v460 c (kAt m c)) (mLd c (part0 m c).1 6 inb_S8x8x1_S1x8x1_6_0_0)⟩,
      ⟨Rect.unit ![5, 0, 0] S1x8x1.size inb_S8x8x1_S1x8x1_5_0_0, hM (cp1 m c) (qLd m c 640 inb_S8x1024_S8x128_0_640) (runB1.sl.v415 c (kAt m c)) (mLd c (part0 m c).1 5 inb_S8x8x1_S1x8x1_5_0_0)⟩,
      ⟨Rect.unit ![4, 0, 0] S1x8x1.size inb_S8x8x1_S1x8x1_4_0_0, hM (cp1 m c) (qLd m c 512 inb_S8x1024_S8x128_0_512) (runB1.sl.v370 c (kAt m c)) (mLd c (part0 m c).1 4 inb_S8x8x1_S1x8x1_4_0_0)⟩,
      ⟨Rect.unit ![3, 0, 0] S1x8x1.size inb_S8x8x1_S1x8x1_3_0_0, hM (cp1 m c) (qLd m c 384 inb_S8x1024_S8x128_0_384) (runB1.sl.v325 c (kAt m c)) (mLd c (part0 m c).1 3 inb_S8x8x1_S1x8x1_3_0_0)⟩,
      ⟨Rect.unit ![2, 0, 0] S1x8x1.size inb_S8x8x1_S1x8x1_2_0_0, hM (cp1 m c) (qLd m c 256 inb_S8x1024_S8x128_0_256) (runB1.sl.v280 c (kAt m c)) (mLd c (part0 m c).1 2 inb_S8x8x1_S1x8x1_2_0_0)⟩,
      ⟨Rect.unit ![1, 0, 0] S1x8x1.size inb_S8x8x1_S1x8x1_1_0_0, hM (cp1 m c) (qLd m c 128 inb_S8x1024_S8x128_0_128) (runB1.sl.v235 c (kAt m c)) (mLd c (part0 m c).1 1 inb_S8x8x1_S1x8x1_1_0_0)⟩,
      ⟨Rect.unit ![0, 0, 0] S1x8x1.size inb_S8x8x1_S1x8x1_0_0_0, hM (cp1 m c) (qLd m c 0 inb_S8x1024_S8x128_0_0) (runB1.sl.v190 c (kAt m c)) (mLd c (part0 m c).1 0 inb_S8x8x1_S1x8x1_0_0_0)⟩] := by
  unfold part1 runB1
  rfl

/-- Device `c`'s running sum after block 1, head by head. -/
theorem part1_l (c : Dev nD) : (part1 m c).2.1 = (View.whole cc0_scratch1).writes (Elt F) (part0 m c).2.1 [
      ⟨Rect.unit ![7, 0, 0] S1x8x1.size inb_S8x8x1_S1x8x1_7_0_0, hL (cr1 m c) (cp1 m c) (qLd m c 896 inb_S8x1024_S8x128_0_896) (runB1.sl.v505 c (kAt m c)) (mLd c (part0 m c).1 7 inb_S8x8x1_S1x8x1_7_0_0) (lLd c (part0 m c).2.1 7 inb_S8x8x1_S1x8x1_7_0_0)⟩,
      ⟨Rect.unit ![6, 0, 0] S1x8x1.size inb_S8x8x1_S1x8x1_6_0_0, hL (cr1 m c) (cp1 m c) (qLd m c 768 inb_S8x1024_S8x128_0_768) (runB1.sl.v460 c (kAt m c)) (mLd c (part0 m c).1 6 inb_S8x8x1_S1x8x1_6_0_0) (lLd c (part0 m c).2.1 6 inb_S8x8x1_S1x8x1_6_0_0)⟩,
      ⟨Rect.unit ![5, 0, 0] S1x8x1.size inb_S8x8x1_S1x8x1_5_0_0, hL (cr1 m c) (cp1 m c) (qLd m c 640 inb_S8x1024_S8x128_0_640) (runB1.sl.v415 c (kAt m c)) (mLd c (part0 m c).1 5 inb_S8x8x1_S1x8x1_5_0_0) (lLd c (part0 m c).2.1 5 inb_S8x8x1_S1x8x1_5_0_0)⟩,
      ⟨Rect.unit ![4, 0, 0] S1x8x1.size inb_S8x8x1_S1x8x1_4_0_0, hL (cr1 m c) (cp1 m c) (qLd m c 512 inb_S8x1024_S8x128_0_512) (runB1.sl.v370 c (kAt m c)) (mLd c (part0 m c).1 4 inb_S8x8x1_S1x8x1_4_0_0) (lLd c (part0 m c).2.1 4 inb_S8x8x1_S1x8x1_4_0_0)⟩,
      ⟨Rect.unit ![3, 0, 0] S1x8x1.size inb_S8x8x1_S1x8x1_3_0_0, hL (cr1 m c) (cp1 m c) (qLd m c 384 inb_S8x1024_S8x128_0_384) (runB1.sl.v325 c (kAt m c)) (mLd c (part0 m c).1 3 inb_S8x8x1_S1x8x1_3_0_0) (lLd c (part0 m c).2.1 3 inb_S8x8x1_S1x8x1_3_0_0)⟩,
      ⟨Rect.unit ![2, 0, 0] S1x8x1.size inb_S8x8x1_S1x8x1_2_0_0, hL (cr1 m c) (cp1 m c) (qLd m c 256 inb_S8x1024_S8x128_0_256) (runB1.sl.v280 c (kAt m c)) (mLd c (part0 m c).1 2 inb_S8x8x1_S1x8x1_2_0_0) (lLd c (part0 m c).2.1 2 inb_S8x8x1_S1x8x1_2_0_0)⟩,
      ⟨Rect.unit ![1, 0, 0] S1x8x1.size inb_S8x8x1_S1x8x1_1_0_0, hL (cr1 m c) (cp1 m c) (qLd m c 128 inb_S8x1024_S8x128_0_128) (runB1.sl.v235 c (kAt m c)) (mLd c (part0 m c).1 1 inb_S8x8x1_S1x8x1_1_0_0) (lLd c (part0 m c).2.1 1 inb_S8x8x1_S1x8x1_1_0_0)⟩,
      ⟨Rect.unit ![0, 0, 0] S1x8x1.size inb_S8x8x1_S1x8x1_0_0_0, hL (cr1 m c) (cp1 m c) (qLd m c 0 inb_S8x1024_S8x128_0_0) (runB1.sl.v190 c (kAt m c)) (mLd c (part0 m c).1 0 inb_S8x8x1_S1x8x1_0_0_0) (lLd c (part0 m c).2.1 0 inb_S8x8x1_S1x8x1_0_0_0)⟩] := by
  unfold part1 runB1
  rfl

/-- Device `c`'s running weighted sum after block 1, head by head. -/
theorem part1_a (c : Dev nD) : (part1 m c).2.2 = (View.whole cc0_scratch2).writes (Elt F) (part0 m c).2.2 [
      ⟨Rect.unit ![7, 0, 0] S1x8x128.size inb_S8x8x128_S1x8x128_7_0_0, hA (cr1 m c) (cp1 m c) (qLd m c 896 inb_S8x1024_S8x128_0_896) (runB1.sl.v505 c (kAt m c)) (runB1.sl.v508 c (vAt m c)) (mLd c (part0 m c).1 7 inb_S8x8x1_S1x8x1_7_0_0) (aLd c (part0 m c).2.2 7 inb_S8x8x128_S1x8x128_7_0_0)⟩,
      ⟨Rect.unit ![6, 0, 0] S1x8x128.size inb_S8x8x128_S1x8x128_6_0_0, hA (cr1 m c) (cp1 m c) (qLd m c 768 inb_S8x1024_S8x128_0_768) (runB1.sl.v460 c (kAt m c)) (runB1.sl.v463 c (vAt m c)) (mLd c (part0 m c).1 6 inb_S8x8x1_S1x8x1_6_0_0) (aLd c (part0 m c).2.2 6 inb_S8x8x128_S1x8x128_6_0_0)⟩,
      ⟨Rect.unit ![5, 0, 0] S1x8x128.size inb_S8x8x128_S1x8x128_5_0_0, hA (cr1 m c) (cp1 m c) (qLd m c 640 inb_S8x1024_S8x128_0_640) (runB1.sl.v415 c (kAt m c)) (runB1.sl.v418 c (vAt m c)) (mLd c (part0 m c).1 5 inb_S8x8x1_S1x8x1_5_0_0) (aLd c (part0 m c).2.2 5 inb_S8x8x128_S1x8x128_5_0_0)⟩,
      ⟨Rect.unit ![4, 0, 0] S1x8x128.size inb_S8x8x128_S1x8x128_4_0_0, hA (cr1 m c) (cp1 m c) (qLd m c 512 inb_S8x1024_S8x128_0_512) (runB1.sl.v370 c (kAt m c)) (runB1.sl.v373 c (vAt m c)) (mLd c (part0 m c).1 4 inb_S8x8x1_S1x8x1_4_0_0) (aLd c (part0 m c).2.2 4 inb_S8x8x128_S1x8x128_4_0_0)⟩,
      ⟨Rect.unit ![3, 0, 0] S1x8x128.size inb_S8x8x128_S1x8x128_3_0_0, hA (cr1 m c) (cp1 m c) (qLd m c 384 inb_S8x1024_S8x128_0_384) (runB1.sl.v325 c (kAt m c)) (runB1.sl.v328 c (vAt m c)) (mLd c (part0 m c).1 3 inb_S8x8x1_S1x8x1_3_0_0) (aLd c (part0 m c).2.2 3 inb_S8x8x128_S1x8x128_3_0_0)⟩,
      ⟨Rect.unit ![2, 0, 0] S1x8x128.size inb_S8x8x128_S1x8x128_2_0_0, hA (cr1 m c) (cp1 m c) (qLd m c 256 inb_S8x1024_S8x128_0_256) (runB1.sl.v280 c (kAt m c)) (runB1.sl.v283 c (vAt m c)) (mLd c (part0 m c).1 2 inb_S8x8x1_S1x8x1_2_0_0) (aLd c (part0 m c).2.2 2 inb_S8x8x128_S1x8x128_2_0_0)⟩,
      ⟨Rect.unit ![1, 0, 0] S1x8x128.size inb_S8x8x128_S1x8x128_1_0_0, hA (cr1 m c) (cp1 m c) (qLd m c 128 inb_S8x1024_S8x128_0_128) (runB1.sl.v235 c (kAt m c)) (runB1.sl.v238 c (vAt m c)) (mLd c (part0 m c).1 1 inb_S8x8x1_S1x8x1_1_0_0) (aLd c (part0 m c).2.2 1 inb_S8x8x128_S1x8x128_1_0_0)⟩,
      ⟨Rect.unit ![0, 0, 0] S1x8x128.size inb_S8x8x128_S1x8x128_0_0_0, hA (cr1 m c) (cp1 m c) (qLd m c 0 inb_S8x1024_S8x128_0_0) (runB1.sl.v190 c (kAt m c)) (runB1.sl.v193 c (vAt m c)) (mLd c (part0 m c).1 0 inb_S8x8x1_S1x8x1_0_0_0) (aLd c (part0 m c).2.2 0 inb_S8x8x128_S1x8x128_0_0_0)⟩] := by
  unfold part1 runB1
  rfl

end Cert.KernelIdeal.Hand

end
-- ==== Proof.Loads.lean ====
module

public import proofs.«01_k».proof.Proof.Head
public import Idealize.ShloMosaic.Lib.Pointwise
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem drop_front (k : Fin 1024) (d : Fin 128) (h : S1x1x1024x128.numel = S1024x128.numel) : Shape.reshapeEquiv h.symm (ix2 k d) = (ix4 0 0 k d : S1x1x1024x128.Idx) := by
  have e : shapeCast S1024x128 (fun j : S1x1x1024x128.Idx => j) h (ix2 k d) = ix4 0 0 k d := by pointwise
  exact e

theorem drop_mid (k : Fin 1024) (d : Fin 128) (h : S1024x1x128.numel = S1024x128.numel) : Shape.reshapeEquiv h.symm (ix2 k d) = (ix3 k 0 d : S1024x1x128.Idx) := by
  have e : shapeCast S1024x128 (fun j : S1024x1x128.Idx => j) h (ix2 k d) = ix3 k 0 d := by pointwise
  exact e

omit [FloatOps F] in
/-- The rows landed in one head of one slot, loaded back. -/
theorem landed (M : Memref sig .tc .vmem S2x8x1024x128 .f32) (o o' : Fin 4 → ℕ) (h : ∀ a, o a + S1x1x1024x128.size a ≤ S2x8x1024x128.size a)
    (h' : ∀ a, o' a + S1x1x1024x128.size a ≤ S2x8x1024x128.size a) (e : o' = o) (f : M.view.ty.Contents (Elt F)) (x : S1024x128.Idx → Elt F .f32) (k : Fin 1024) (d : Fin 128) :
    M.view.readAt (Elt F) (Rect.unit (s := S2x8x1024x128) o' S1x1x1024x128.size h').toLoadRect
      ((hWin M o h).view.writes (Elt F) f [⟨Rect.whole S1024x128, x⟩]) (ix4 0 0 k d) = x (ix2 k d) := by
  subst e
  refine Eq.trans ?_ (congrFun (View.read_writes_full (hWin M o' h).view f (off := fun _ => 0) (fun a => by simp) x []) (ix2 k d))
  show M.view.read (Elt F) _ ((Rect.unit (s := S2x8x1024x128) o' S1x1x1024x128.size h').emb (ix4 0 0 k d))
    = M.view.read (Elt F) _ ((Rect.unit (s := S2x8x1024x128) o' S1x1x1024x128.size h).emb (Shape.reshapeEquiv _ (ix2 k d)))
  rw [drop_front k d shapeCasts_S1x1x1024x128_S1024x128]
  rfl

omit [FloatOps F] in
/-- One head of consecutive rows of the key cache, read at an index. -/
theorem krows_at (c : Dev nD) (o : Fin 3 → ℕ) (h : ∀ a, o a + S1024x1x128.size a ≤ S8192x8x128.size a) (f : BufAt (F := F) c kHbm) (R : ℕ) (H : Fin 8)
    (e : o = ![R, H.val, 0]) (hR : R + 1024 ≤ 8192) (k : Fin 1024) (d : Fin 128) :
    (cWin kHbm o h).view.read (Elt F) f (ix2 k d) = f (ix3 ⟨R + k.val, by omega⟩ H d) := by
  subst e
  show f ((Rect.unit (s := S8192x8x128) ![R, H.val, 0] S1024x1x128.size h).emb (Shape.reshapeEquiv _ (ix2 k d))) = _
  rw [drop_mid k d squeezes_S1024x1x128_S1024x128.numel_eq.symm]
  refine congrArg f (funext fun a => Fin.ext ?_)
  fin_cases a
  · show R + 1 * k.val = R + k.val; omega
  · show H.val + 1 * 0 = H.val; omega
  · show 0 + 1 * d.val = d.val; omega

omit [FloatOps F] in
/-- One head of consecutive rows of the value cache, read at an index. -/
theorem vrows_at (c : Dev nD) (o : Fin 3 → ℕ) (h : ∀ a, o a + S1024x1x128.size a ≤ S8192x8x128.size a) (f : BufAt (F := F) c vHbm) (R : ℕ) (H : Fin 8)
    (e : o = ![R, H.val, 0]) (hR : R + 1024 ≤ 8192) (k : Fin 1024) (d : Fin 128) :
    (cWin vHbm o h).view.read (Elt F) f (ix2 k d) = f (ix3 ⟨R + k.val, by omega⟩ H d) := by
  subst e
  show f ((Rect.unit (s := S8192x8x128) ![R, H.val, 0] S1024x1x128.size h).emb (Shape.reshapeEquiv _ (ix2 k d))) = _
  rw [drop_mid k d squeezes_S1024x1x128_S1024x128.numel_eq.symm]
  refine congrArg f (funext fun a => Fin.ext ?_)
  fin_cases a
  · show R + 1 * k.val = R + k.val; omega
  · show H.val + 1 * 0 = H.val; omega
  · show 0 + 1 * d.val = d.val; omega

/-! ## The offsets the kernel computes -/

theorem ld0_0 : k0_off43 (grid0.coords t0_0) = ![0, 0, 0, 0] := by decide +kernel
theorem ld1_0 : k0_off43 (grid0.coords t0_1) = ![1, 0, 0, 0] := by decide +kernel
theorem src0_0 : ∀ c : Dev nD, k0_off1 c = ![2048 * (c.val % 4), 0, 0] := by decide +kernel
theorem src1_0 : ∀ c : Dev nD, k0_off11 (grid0.coords t0_0) c = ![2048 * (c.val % 4) + 1024, 0, 0] := by decide +kernel
theorem ld0_1 : k0_off44 (grid0.coords t0_0) = ![0, 1, 0, 0] := by decide +kernel
theorem ld1_1 : k0_off44 (grid0.coords t0_1) = ![1, 1, 0, 0] := by decide +kernel
theorem src0_1 : ∀ c : Dev nD, k0_off2 c = ![2048 * (c.val % 4), 1, 0] := by decide +kernel
theorem src1_1 : ∀ c : Dev nD, k0_off13 (grid0.coords t0_0) c = ![2048 * (c.val % 4) + 1024, 1, 0] := by decide +kernel
theorem ld0_2 : k0_off45 (grid0.coords t0_0) = ![0, 2, 0, 0] := by decide +kernel
theorem ld1_2 : k0_off45 (grid0.coords t0_1) = ![1, 2, 0, 0] := by decide +kernel
theorem src0_2 : ∀ c : Dev nD, k0_off3 c = ![2048 * (c.val % 4), 2, 0] := by decide +kernel
theorem src1_2 : ∀ c : Dev nD, k0_off15 (grid0.coords t0_0) c = ![2048 * (c.val % 4) + 1024, 2, 0] := by decide +kernel
theorem ld0_3 : k0_off46 (grid0.coords t0_0) = ![0, 3, 0, 0] := by decide +kernel
theorem ld1_3 : k0_off46 (grid0.coords t0_1) = ![1, 3, 0, 0] := by decide +kernel
theorem src0_3 : ∀ c : Dev nD, k0_off4 c = ![2048 * (c.val % 4), 3, 0] := by decide +kernel
theorem src1_3 : ∀ c : Dev nD, k0_off17 (grid0.coords t0_0) c = ![2048 * (c.val % 4) + 1024, 3, 0] := by decide +kernel
theorem ld0_4 : k0_off47 (grid0.coords t0_0) = ![0, 4, 0, 0] := by decide +kernel
theorem ld1_4 : k0_off47 (grid0.coords t0_1) = ![1, 4, 0, 0] := by decide +kernel
theorem src0_4 : ∀ c : Dev nD, k0_off5 c = ![2048 * (c.val % 4), 4, 0] := by decide +kernel
theorem src1_4 : ∀ c : Dev nD, k0_off19 (grid0.coords t0_0) c = ![2048 * (c.val % 4) + 1024, 4, 0] := by decide +kernel
theorem ld0_5 : k0_off48 (grid0.coords t0_0) = ![0, 5, 0, 0] := by decide +kernel
theorem ld1_5 : k0_off48 (grid0.coords t0_1) = ![1, 5, 0, 0] := by decide +kernel
theorem src0_5 : ∀ c : Dev nD, k0_off6 c = ![2048 * (c.val % 4), 5, 0] := by decide +kernel
theorem src1_5 : ∀ c : Dev nD, k0_off21 (grid0.coords t0_0) c = ![2048 * (c.val % 4) + 1024, 5, 0] := by decide +kernel
theorem ld0_6 : k0_off49 (grid0.coords t0_0) = ![0, 6, 0, 0] := by decide +kernel
theorem ld1_6 : k0_off49 (grid0.coords t0_1) = ![1, 6, 0, 0] := by decide +kernel
theorem src0_6 : ∀ c : Dev nD, k0_off7 c = ![2048 * (c.val % 4), 6, 0] := by decide +kernel
theorem src1_6 : ∀ c : Dev nD, k0_off23 (grid0.coords t0_0) c = ![2048 * (c.val % 4) + 1024, 6, 0] := by decide +kernel
theorem ld0_7 : k0_off50 (grid0.coords t0_0) = ![0, 7, 0, 0] := by decide +kernel
theorem ld1_7 : k0_off50 (grid0.coords t0_1) = ![1, 7, 0, 0] := by decide +kernel
theorem src0_7 : ∀ c : Dev nD, k0_off8 c = ![2048 * (c.val % 4), 7, 0] := by decide +kernel
theorem src1_7 : ∀ c : Dev nD, k0_off25 (grid0.coords t0_0) c = ![2048 * (c.val % 4) + 1024, 7, 0] := by decide +kernel

/-- Row `k` of block 0 and of block 1 of device `c`, in its own part of the caches. -/
abbrev lrow0 (c : Dev nD) (k : Fin 1024) : Fin 8192 := ⟨2048 * (c.val % 4) + k.val, by omega⟩
abbrev lrow1 (c : Dev nD) (k : Fin 1024) : Fin 8192 := ⟨2048 * (c.val % 4) + 1024 + k.val, by omega⟩

/-! ## The rows a head works on -/

theorem kld0_0 (c : Dev nD) (f : BufAt (F := F) c kHbm) (k : Fin 1024) (d : Fin 128) : runB0.sl.v190 c f (ix4 0 0 k d) = f (ix3 (lrow0 c k) 0 d) :=
  (landed kBuf ![0, 0, 0, 0] _ (by decide) _ ld0_0 _ _ k d).trans (krows_at c _ _ f _ 0 (src0_0 c) (by omega) k d)
theorem vld0_0 (c : Dev nD) (f : BufAt (F := F) c vHbm) (k : Fin 1024) (d : Fin 128) : runB0.sl.v193 c f (ix4 0 0 k d) = f (ix3 (lrow0 c k) 0 d) :=
  (landed vBuf ![0, 0, 0, 0] _ (by decide) _ ld0_0 _ _ k d).trans (vrows_at c _ _ f _ 0 (src0_0 c) (by omega) k d)
theorem kld0_1 (c : Dev nD) (f : BufAt (F := F) c kHbm) (k : Fin 1024) (d : Fin 128) : runB0.sl.v235 c f (ix4 0 0 k d) = f (ix3 (lrow0 c k) 1 d) :=
  (landed kBuf ![0, 1, 0, 0] _ (by decide) _ ld0_1 _ _ k d).trans (krows_at c _ _ f _ 1 (src0_1 c) (by omega) k d)
theorem vld0_1 (c : Dev nD) (f : BufAt (F := F) c vHbm) (k : Fin 1024) (d : Fin 128) : runB0.sl.v238 c f (ix4 0 0 k d) = f (ix3 (lrow0 c k) 1 d) :=
  (landed vBuf ![0, 1, 0, 0] _ (by decide) _ ld0_1 _ _ k d).trans (vrows_at c _ _ f _ 1 (src0_1 c) (by omega) k d)
theorem kld0_2 (c : Dev nD) (f : BufAt (F := F) c kHbm) (k : Fin 1024) (d : Fin 128) : runB0.sl.v280 c f (ix4 0 0 k d) = f (ix3 (lrow0 c k) 2 d) :=
  (landed kBuf ![0, 2, 0, 0] _ (by decide) _ ld0_2 _ _ k d).trans (krows_at c _ _ f _ 2 (src0_2 c) (by omega) k d)
theorem vld0_2 (c : Dev nD) (f : BufAt (F := F) c vHbm) (k : Fin 1024) (d : Fin 128) : runB0.sl.v283 c f (ix4 0 0 k d) = f (ix3 (lrow0 c k) 2 d) :=
  (landed vBuf ![0, 2, 0, 0] _ (by decide) _ ld0_2 _ _ k d).trans (vrows_at c _ _ f _ 2 (src0_2 c) (by omega) k d)
theorem kld0_3 (c : Dev nD) (f : BufAt (F := F) c kHbm) (k : Fin 1024) (d : Fin 128) : runB0.sl.v325 c f (ix4 0 0 k d) = f (ix3 (lrow0 c k) 3 d) :=
  (landed kBuf ![0, 3, 0, 0] _ (by decide) _ ld0_3 _ _ k d).trans (krows_at c _ _ f _ 3 (src0_3 c) (by omega) k d)
theorem vld0_3 (c : Dev nD) (f : BufAt (F := F) c vHbm) (k : Fin 1024) (d : Fin 128) : runB0.sl.v328 c f (ix4 0 0 k d) = f (ix3 (lrow0 c k) 3 d) :=
  (landed vBuf ![0, 3, 0, 0] _ (by decide) _ ld0_3 _ _ k d).trans (vrows_at c _ _ f _ 3 (src0_3 c) (by omega) k d)
theorem kld0_4 (c : Dev nD) (f : BufAt (F := F) c kHbm) (k : Fin 1024) (d : Fin 128) : runB0.sl.v370 c f (ix4 0 0 k d) = f (ix3 (lrow0 c k) 4 d) :=
  (landed kBuf ![0, 4, 0, 0] _ (by decide) _ ld0_4 _ _ k d).trans (krows_at c _ _ f _ 4 (src0_4 c) (by omega) k d)
theorem vld0_4 (c : Dev nD) (f : BufAt (F := F) c vHbm) (k : Fin 1024) (d : Fin 128) : runB0.sl.v373 c f (ix4 0 0 k d) = f (ix3 (lrow0 c k) 4 d) :=
  (landed vBuf ![0, 4, 0, 0] _ (by decide) _ ld0_4 _ _ k d).trans (vrows_at c _ _ f _ 4 (src0_4 c) (by omega) k d)
theorem kld0_5 (c : Dev nD) (f : BufAt (F := F) c kHbm) (k : Fin 1024) (d : Fin 128) : runB0.sl.v415 c f (ix4 0 0 k d) = f (ix3 (lrow0 c k) 5 d) :=
  (landed kBuf ![0, 5, 0, 0] _ (by decide) _ ld0_5 _ _ k d).trans (krows_at c _ _ f _ 5 (src0_5 c) (by omega) k d)
theorem vld0_5 (c : Dev nD) (f : BufAt (F := F) c vHbm) (k : Fin 1024) (d : Fin 128) : runB0.sl.v418 c f (ix4 0 0 k d) = f (ix3 (lrow0 c k) 5 d) :=
  (landed vBuf ![0, 5, 0, 0] _ (by decide) _ ld0_5 _ _ k d).trans (vrows_at c _ _ f _ 5 (src0_5 c) (by omega) k d)
theorem kld0_6 (c : Dev nD) (f : BufAt (F := F) c kHbm) (k : Fin 1024) (d : Fin 128) : runB0.sl.v460 c f (ix4 0 0 k d) = f (ix3 (lrow0 c k) 6 d) :=
  (landed kBuf ![0, 6, 0, 0] _ (by decide) _ ld0_6 _ _ k d).trans (krows_at c _ _ f _ 6 (src0_6 c) (by omega) k d)
theorem vld0_6 (c : Dev nD) (f : BufAt (F := F) c vHbm) (k : Fin 1024) (d : Fin 128) : runB0.sl.v463 c f (ix4 0 0 k d) = f (ix3 (lrow0 c k) 6 d) :=
  (landed vBuf ![0, 6, 0, 0] _ (by decide) _ ld0_6 _ _ k d).trans (vrows_at c _ _ f _ 6 (src0_6 c) (by omega) k d)
theorem kld0_7 (c : Dev nD) (f : BufAt (F := F) c kHbm) (k : Fin 1024) (d : Fin 128) : runB0.sl.v505 c f (ix4 0 0 k d) = f (ix3 (lrow0 c k) 7 d) :=
  (landed kBuf ![0, 7, 0, 0] _ (by decide) _ ld0_7 _ _ k d).trans (krows_at c _ _ f _ 7 (src0_7 c) (by omega) k d)
theorem vld0_7 (c : Dev nD) (f : BufAt (F := F) c vHbm) (k : Fin 1024) (d : Fin 128) : runB0.sl.v508 c f (ix4 0 0 k d) = f (ix3 (lrow0 c k) 7 d) :=
  (landed vBuf ![0, 7, 0, 0] _ (by decide) _ ld0_7 _ _ k d).trans (vrows_at c _ _ f _ 7 (src0_7 c) (by omega) k d)
theorem kld1_0 (c : Dev nD) (f : BufAt (F := F) c kHbm) (k : Fin 1024) (d : Fin 128) : runB1.sl.v190 c f (ix4 0 0 k d) = f (ix3 (lrow1 c k) 0 d) :=
  (landed kBuf ![1, 0, 0, 0] _ (by decide) _ ld1_0 _ _ k d).trans (krows_at c _ _ f _ 0 (src1_0 c) (by omega) k d)
theorem vld1_0 (c : Dev nD) (f : BufAt (F := F) c vHbm) (k : Fin 1024) (d : Fin 128) : runB1.sl.v193 c f (ix4 0 0 k d) = f (ix3 (lrow1 c k) 0 d) :=
  (landed vBuf ![1, 0, 0, 0] _ (by decide) _ ld1_0 _ _ k d).trans (vrows_at c _ _ f _ 0 (src1_0 c) (by omega) k d)
theorem kld1_1 (c : Dev nD) (f : BufAt (F := F) c kHbm) (k : Fin 1024) (d : Fin 128) : runB1.sl.v235 c f (ix4 0 0 k d) = f (ix3 (lrow1 c k) 1 d) :=
  (landed kBuf ![1, 1, 0, 0] _ (by decide) _ ld1_1 _ _ k d).trans (krows_at c _ _ f _ 1 (src1_1 c) (by omega) k d)
theorem vld1_1 (c : Dev nD) (f : BufAt (F := F) c vHbm) (k : Fin 1024) (d : Fin 128) : runB1.sl.v238 c f (ix4 0 0 k d) = f (ix3 (lrow1 c k) 1 d) :=
  (landed vBuf ![1, 1, 0, 0] _ (by decide) _ ld1_1 _ _ k d).trans (vrows_at c _ _ f _ 1 (src1_1 c) (by omega) k d)
theorem kld1_2 (c : Dev nD) (f : BufAt (F := F) c kHbm) (k : Fin 1024) (d : Fin 128) : runB1.sl.v280 c f (ix4 0 0 k d) = f (ix3 (lrow1 c k) 2 d) :=
  (landed kBuf ![1, 2, 0, 0] _ (by decide) _ ld1_2 _ _ k d).trans (krows_at c _ _ f _ 2 (src1_2 c) (by omega) k d)
theorem vld1_2 (c : Dev nD) (f : BufAt (F := F) c vHbm) (k : Fin 1024) (d : Fin 128) : runB1.sl.v283 c f (ix4 0 0 k d) = f (ix3 (lrow1 c k) 2 d) :=
  (landed vBuf ![1, 2, 0, 0] _ (by decide) _ ld1_2 _ _ k d).trans (vrows_at c _ _ f _ 2 (src1_2 c) (by omega) k d)
theorem kld1_3 (c : Dev nD) (f : BufAt (F := F) c kHbm) (k : Fin 1024) (d : Fin 128) : runB1.sl.v325 c f (ix4 0 0 k d) = f (ix3 (lrow1 c k) 3 d) :=
  (landed kBuf ![1, 3, 0, 0] _ (by decide) _ ld1_3 _ _ k d).trans (krows_at c _ _ f _ 3 (src1_3 c) (by omega) k d)
theorem vld1_3 (c : Dev nD) (f : BufAt (F := F) c vHbm) (k : Fin 1024) (d : Fin 128) : runB1.sl.v328 c f (ix4 0 0 k d) = f (ix3 (lrow1 c k) 3 d) :=
  (landed vBuf ![1, 3, 0, 0] _ (by decide) _ ld1_3 _ _ k d).trans (vrows_at c _ _ f _ 3 (src1_3 c) (by omega) k d)
theorem kld1_4 (c : Dev nD) (f : BufAt (F := F) c kHbm) (k : Fin 1024) (d : Fin 128) : runB1.sl.v370 c f (ix4 0 0 k d) = f (ix3 (lrow1 c k) 4 d) :=
  (landed kBuf ![1, 4, 0, 0] _ (by decide) _ ld1_4 _ _ k d).trans (krows_at c _ _ f _ 4 (src1_4 c) (by omega) k d)
theorem vld1_4 (c : Dev nD) (f : BufAt (F := F) c vHbm) (k : Fin 1024) (d : Fin 128) : runB1.sl.v373 c f (ix4 0 0 k d) = f (ix3 (lrow1 c k) 4 d) :=
  (landed vBuf ![1, 4, 0, 0] _ (by decide) _ ld1_4 _ _ k d).trans (vrows_at c _ _ f _ 4 (src1_4 c) (by omega) k d)
theorem kld1_5 (c : Dev nD) (f : BufAt (F := F) c kHbm) (k : Fin 1024) (d : Fin 128) : runB1.sl.v415 c f (ix4 0 0 k d) = f (ix3 (lrow1 c k) 5 d) :=
  (landed kBuf ![1, 5, 0, 0] _ (by decide) _ ld1_5 _ _ k d).trans (krows_at c _ _ f _ 5 (src1_5 c) (by omega) k d)
theorem vld1_5 (c : Dev nD) (f : BufAt (F := F) c vHbm) (k : Fin 1024) (d : Fin 128) : runB1.sl.v418 c f (ix4 0 0 k d) = f (ix3 (lrow1 c k) 5 d) :=
  (landed vBuf ![1, 5, 0, 0] _ (by decide) _ ld1_5 _ _ k d).trans (vrows_at c _ _ f _ 5 (src1_5 c) (by omega) k d)
theorem kld1_6 (c : Dev nD) (f : BufAt (F := F) c kHbm) (k : Fin 1024) (d : Fin 128) : runB1.sl.v460 c f (ix4 0 0 k d) = f (ix3 (lrow1 c k) 6 d) :=
  (landed kBuf ![1, 6, 0, 0] _ (by decide) _ ld1_6 _ _ k d).trans (krows_at c _ _ f _ 6 (src1_6 c) (by omega) k d)
theorem vld1_6 (c : Dev nD) (f : BufAt (F := F) c vHbm) (k : Fin 1024) (d : Fin 128) : runB1.sl.v463 c f (ix4 0 0 k d) = f (ix3 (lrow1 c k) 6 d) :=
  (landed vBuf ![1, 6, 0, 0] _ (by decide) _ ld1_6 _ _ k d).trans (vrows_at c _ _ f _ 6 (src1_6 c) (by omega) k d)
theorem kld1_7 (c : Dev nD) (f : BufAt (F := F) c kHbm) (k : Fin 1024) (d : Fin 128) : runB1.sl.v505 c f (ix4 0 0 k d) = f (ix3 (lrow1 c k) 7 d) :=
  (landed kBuf ![1, 7, 0, 0] _ (by decide) _ ld1_7 _ _ k d).trans (krows_at c _ _ f _ 7 (src1_7 c) (by omega) k d)
theorem vld1_7 (c : Dev nD) (f : BufAt (F := F) c vHbm) (k : Fin 1024) (d : Fin 128) : runB1.sl.v508 c f (ix4 0 0 k d) = f (ix3 (lrow1 c k) 7 d) :=
  (landed vBuf ![1, 7, 0, 0] _ (by decide) _ ld1_7 _ _ k d).trans (vrows_at c _ _ f _ 7 (src1_7 c) (by omega) k d)

end Cert.KernelIdeal.Hand

end
-- ==== Proof.Algebra.lean ====
module

public import Idealize.ShloMosaic.Lib.Pointwise

@[expose] public section

noncomputable section

namespace Cert.Attn

open Idealize.ShloMosaic

/-! ## Sums of extended reals with nonnegative real weights -/

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem sum_mul_coe {ι : Type*} (s : Finset ι) (f : ι → EReal) (c : ℝ) (hc : 0 ≤ c) : (∑ i ∈ s, f i) * (c : EReal) = ∑ i ∈ s, f i * (c : EReal) := by
  classical
  induction s using Finset.induction_on with
  | empty => simp
  | insert a s h ih =>
    rw [Finset.sum_insert h, Finset.sum_insert h, EReal.right_distrib_of_nonneg_of_ne_top (EReal.coe_nonneg.2 hc) (EReal.coe_ne_top c), ih]

theorem coe_sum_mul {ι : Type*} (s : Finset ι) (f : ι → ℝ) (hf : ∀ i ∈ s, 0 ≤ f i) (x : EReal) :
    ((∑ i ∈ s, f i : ℝ) : EReal) * x = ∑ i ∈ s, (f i : EReal) * x := by
  classical
  induction s using Finset.induction_on with
  | empty => simp
  | insert a s h ih =>
    have hs : ∀ i ∈ s, 0 ≤ f i := fun i hi => hf i (Finset.mem_insert_of_mem hi)
    rw [Finset.sum_insert h, Finset.sum_insert h, EReal.coe_add,
      EReal.right_distrib_of_nonneg (EReal.coe_nonneg.2 (hf a (Finset.mem_insert_self a s))) (EReal.coe_nonneg.2 (Finset.sum_nonneg hs)), ih hs]

theorem exp_coe (r : ℝ) : Ideal.exp (r : EReal) = (Real.exp r : EReal) := rfl
theorem exp_sub_coe (r t : ℝ) : Ideal.exp ((r : EReal) - (t : EReal)) = (Real.exp (r - t) : EReal) := by
  rw [← EReal.coe_sub]; rfl
theorem max_coe (r t : ℝ) : max (r : EReal) (t : EReal) = ((max r t : ℝ) : EReal) := (EReal.coe_strictMono.monotone.map_max).symm

/-- A running maximum of reals, started from a real, is real. -/
theorem max_fold_real {κ : Type*} (s : Finset κ) (μ : ℝ) (f : κ → EReal) (hf : ∀ k, ∃ r : ℝ, f k = r) :
    ∃ r : ℝ, max (μ : EReal) (s.fold max ⊥ f) = r := by
  classical
  induction s using Finset.induction_on with
  | empty => exact ⟨μ, by simp⟩
  | insert a s h ih =>
    obtain ⟨r, hr⟩ := ih
    obtain ⟨t, ht⟩ := hf a
    exact ⟨max t r, by rw [Finset.fold_insert h, max_left_comm, hr, ht, max_coe]⟩

/-! ## Partial softmax sums

    `n β k` is how often row `k` of block `β` is attended to, `s β k` its score and `v β k` its value. A partial result over a
    set of blocks is a shift `μ`, the sum of the weights `n * exp (s - μ)` and the sum of the weighted values. -/

section Rep
variable {ι κ δ : Type*} [DecidableEq ι] [Fintype κ] (n s : ι → κ → ℝ) (v : ι → κ → δ → EReal)

/-- The weights of a set of blocks, summed. -/
def mass (A : Finset ι) (μ : ℝ) : ℝ := ∑ β ∈ A, ∑ k, n β k * Real.exp (s β k - μ)
/-- The weighted values of a set of blocks, summed. -/
def wsum (A : Finset ι) (μ : ℝ) (d : δ) : EReal := ∑ β ∈ A, ∑ k, ((n β k * Real.exp (s β k - μ) : ℝ) : EReal) * v β k d

omit [DecidableEq ι] in
theorem weight_scale (a t μ μ' : ℝ) : a * Real.exp (t - μ) * Real.exp (μ - μ') = a * Real.exp (t - μ') := by
  rw [mul_assoc, ← Real.exp_add, sub_add_sub_cancel]

omit [DecidableEq ι] in
theorem mass_scale (A : Finset ι) (μ μ' : ℝ) : mass n s A μ * Real.exp (μ - μ') = mass n s A μ' := by
  unfold mass
  rw [Finset.sum_mul]
  refine Finset.sum_congr rfl fun β _ => ?_
  rw [Finset.sum_mul]
  exact Finset.sum_congr rfl fun k _ => weight_scale _ _ _ _

omit [DecidableEq ι] in
theorem wsum_scale (A : Finset ι) (μ μ' : ℝ) (d : δ) : wsum n s v A μ d * (Real.exp (μ - μ') : EReal) = wsum n s v A μ' d := by
  unfold wsum
  rw [sum_mul_coe _ _ _ (Real.exp_pos _).le]
  refine Finset.sum_congr rfl fun β _ => ?_
  rw [sum_mul_coe _ _ _ (Real.exp_pos _).le]
  refine Finset.sum_congr rfl fun k _ => ?_
  rw [mul_right_comm, ← EReal.coe_mul, weight_scale]

/-- `m`, `l`, `a` are the partial result over the blocks in `A`. -/
def Rep (A : Finset ι) (m l : EReal) (a : δ → EReal) : Prop :=
  ∃ μ : ℝ, m = μ ∧ l = (mass n s A μ : ℝ) ∧ ∀ d, a d = wsum n s v A μ d

theorem rep_empty (μ : ℝ) : Rep n s v ∅ (μ : EReal) 0 (fun _ => 0) :=
  ⟨μ, rfl, by simp [mass], fun d => by simp [wsum]⟩

/-- One more block. -/
theorem rep_step {A : Finset ι} {m l : EReal} {a : δ → EReal} (h : Rep n s v A m l a) {β : ι} (hβ : β ∉ A) (hn : ∀ k, 0 ≤ n β k)
    (sm : κ → EReal) (hsm : ∀ k, ∃ r : ℝ, sm k = r ∧ (n β k ≠ 0 → r = s β k)) :
    Rep n s v (insert β A) (max m (Finset.univ.fold max ⊥ sm))
      (l * Ideal.exp (m - max m (Finset.univ.fold max ⊥ sm)) + ∑ k, Ideal.exp (sm k - max m (Finset.univ.fold max ⊥ sm)) * (n β k : EReal))
      (fun d => a d * Ideal.exp (m - max m (Finset.univ.fold max ⊥ sm))
        + ∑ k, Ideal.exp (sm k - max m (Finset.univ.fold max ⊥ sm)) * (n β k : EReal) * v β k d) := by
  obtain ⟨μ, rfl, rfl, ha⟩ := h
  obtain ⟨μ', hμ'⟩ := max_fold_real Finset.univ μ sm fun k => (hsm k).imp fun _ h => h.1
  have hw : ∀ k, Ideal.exp (sm k - (μ' : EReal)) * (n β k : EReal) = ((n β k * Real.exp (s β k - μ') : ℝ) : EReal) := fun k => by
    obtain ⟨r, hr, hs⟩ := hsm k
    rw [hr, exp_sub_coe, ← EReal.coe_mul]
    by_cases h0 : n β k = 0
    · simp [h0]
    · rw [hs h0, mul_comm]
  rw [hμ']
  refine ⟨μ', rfl, ?_, fun d => ?_⟩
  · simp only [hw]
    rw [exp_sub_coe, ← EReal.coe_mul, mass_scale, ← coe_sum, ← EReal.coe_add]
    unfold mass
    rw [Finset.sum_insert hβ, add_comm]
  · simp only [hw]
    rw [exp_sub_coe, ha, wsum_scale]
    unfold wsum
    rw [Finset.sum_insert hβ, add_comm]

/-- Two partial results over disjoint sets of blocks. -/
theorem rep_merge {A B : Finset ι} {m l m' l' : EReal} {a a' : δ → EReal} (h : Rep n s v A m l a) (h' : Rep n s v B m' l' a') (hd : Disjoint A B) :
    Rep n s v (A ∪ B) (max m m') (l * Ideal.exp (m - max m m') + l' * Ideal.exp (m' - max m m'))
      (fun d => a d * Ideal.exp (m - max m m') + a' d * Ideal.exp (m' - max m m')) := by
  obtain ⟨μ, rfl, rfl, ha⟩ := h
  obtain ⟨μ', rfl, rfl, ha'⟩ := h'
  rw [max_coe]
  refine ⟨_, rfl, ?_, fun d => ?_⟩
  · rw [exp_sub_coe, exp_sub_coe, ← EReal.coe_mul, ← EReal.coe_mul, mass_scale, mass_scale, ← EReal.coe_add]
    unfold mass
    rw [Finset.sum_union hd]
  · show a d * _ + a' d * _ = _
    rw [exp_sub_coe, exp_sub_coe, ha, ha', wsum_scale, wsum_scale]
    unfold wsum
    rw [Finset.sum_union hd]

end Rep

/-! ## From pages to positions -/

/-- How often page `p` is named by an attended position. -/
def count {π ρ : Type*} [Fintype π] [DecidableEq ρ] (ok : π → Prop) [DecidablePred ok] (g : π → ρ) (p : ρ) : ℝ :=
  ∑ j, if ok j ∧ g j = p then 1 else 0

theorem count_nonneg {π ρ : Type*} [Fintype π] [DecidableEq ρ] (ok : π → Prop) [DecidablePred ok] (g : π → ρ) (p : ρ) : 0 ≤ count ok g p :=
  Finset.sum_nonneg fun _ _ => by split <;> norm_num

theorem sum_count {π ρ : Type*} [Fintype π] [Fintype ρ] [DecidableEq ρ] (ok : π → Prop) [DecidablePred ok] (g : π → ρ) (e : ρ → ℝ) :
    ∑ p, count ok g p * e p = ∑ j, if ok j then e (g j) else 0 := by
  simp only [count, Finset.sum_mul]
  rw [Finset.sum_comm]
  refine Finset.sum_congr rfl fun j _ => ?_
  by_cases h : ok j <;> simp [h]

theorem wsum_count {π ρ : Type*} [Fintype π] [Fintype ρ] [DecidableEq ρ] (ok : π → Prop) [DecidablePred ok] (g : π → ρ) (e : ρ → ℝ) (he : ∀ p, 0 ≤ e p)
    (v : ρ → EReal) : ∑ p, ((count ok g p * e p : ℝ) : EReal) * v p = ∑ j, if ok j then (e (g j) : EReal) * v (g j) else 0 := by
  have h1 : ∀ p, ((count ok g p * e p : ℝ) : EReal) * v p = ∑ j, if ok j ∧ g j = p then (e p : EReal) * v p else 0 := fun p => by
    unfold count
    rw [Finset.sum_mul, coe_sum_mul _ _ fun j _ => mul_nonneg (by split <;> norm_num) (he p)]
    refine Finset.sum_congr rfl fun j _ => ?_
    by_cases h : ok j ∧ g j = p <;> simp [h]
  simp only [h1]
  rw [Finset.sum_comm]
  refine Finset.sum_congr rfl fun j _ => ?_
  by_cases h : ok j <;> simp [h]

/-! ## The quotient -/

theorem div_coe_pos (x : EReal) (r : ℝ) (hr : 0 < r) : Ideal.div x (r : EReal) = x * ((r⁻¹ : ℝ) : EReal) := by
  unfold Ideal.div
  rw [if_neg (by exact_mod_cast hr.ne'), EReal.coe_inv]

/-- The maximum of the masked scores is real as soon as one position counts. -/
theorem fold_masked_real {π : Type*} (s : Finset π) (ok : π → Prop) [DecidablePred ok] (t : π → ℝ) (h : ∃ j ∈ s, ok j) :
    ∃ M : ℝ, s.fold max ⊥ (fun j => if ok j then (t j : EReal) else ⊥) = M := by
  classical
  have key : (∃ M : ℝ, s.fold max ⊥ (fun j => if ok j then (t j : EReal) else ⊥) = M) ∨ ((∀ j ∈ s, ¬ ok j) ∧ s.fold max ⊥ (fun j => if ok j then (t j : EReal) else ⊥) = ⊥) := by
    clear h
    induction s using Finset.induction_on with
    | empty => exact Or.inr ⟨fun _ h => absurd h (Finset.notMem_empty _), by simp⟩
    | insert a s h ih =>
      rw [Finset.fold_insert h]
      by_cases ha : ok a
      · rcases ih with ⟨M, hM⟩ | ⟨_, hM⟩
        · exact Or.inl ⟨max (t a) M, by rw [hM, if_pos ha, max_coe]⟩
        · exact Or.inl ⟨t a, by rw [hM, if_pos ha, max_eq_left bot_le]⟩
      · rcases ih with ⟨M, hM⟩ | ⟨h0, hM⟩
        · exact Or.inl ⟨M, by rw [hM, if_neg ha, max_eq_right bot_le]⟩
        · exact Or.inr ⟨fun j hj => (Finset.mem_insert.1 hj).elim (fun e => e ▸ ha) (h0 j), by rw [hM, if_neg ha, max_self]⟩
  rcases key with h' | ⟨h', _⟩
  · exact h'
  · obtain ⟨j, hj, hk⟩ := h; exact absurd hk (h' j hj)

/-- The softmax over the positions, as the partial sums over all of them at any shift divide out. -/
theorem softmax_eq {π : Type*} [Fintype π] (ok : π → Prop) [DecidablePred ok] (t : π → ℝ) (v : π → EReal) (h : ∃ j, ok j) (μ : ℝ) :
    (∑ j, Ideal.div (Ideal.exp ((if ok j then (t j : EReal) else ⊥) - Finset.univ.fold max ⊥ (fun j => if ok j then (t j : EReal) else ⊥)))
        (∑ j', Ideal.exp ((if ok j' then (t j' : EReal) else ⊥) - Finset.univ.fold max ⊥ (fun j => if ok j then (t j : EReal) else ⊥))) * v j)
      = Ideal.div (∑ j, if ok j then (Real.exp (t j - μ) : EReal) * v j else 0) ((∑ j, if ok j then Real.exp (t j - μ) else 0 : ℝ) : EReal) := by
  obtain ⟨M, hM⟩ := fold_masked_real Finset.univ ok t (h.imp fun j hj => ⟨Finset.mem_univ _, hj⟩)
  rw [hM]
  have he : ∀ j, Ideal.exp ((if ok j then (t j : EReal) else ⊥) - (M : EReal)) = ((if ok j then Real.exp (t j - M) else 0 : ℝ) : EReal) := fun j => by
    by_cases hj : ok j
    · rw [if_pos hj, if_pos hj, exp_sub_coe]
    · rw [if_neg hj, if_neg hj, EReal.bot_sub]; rfl
  have pos : ∀ ν : ℝ, 0 < ∑ j, if ok j then Real.exp (t j - ν) else 0 := fun ν => by
    obtain ⟨j, hj⟩ := h
    refine Finset.sum_pos' (fun i _ => by split <;> positivity) ⟨j, Finset.mem_univ _, ?_⟩
    rw [if_pos hj]; positivity
  have sc : (∑ j, if ok j then Real.exp (t j - μ) else 0) = (∑ j, if ok j then Real.exp (t j - M) else 0) * Real.exp (M - μ) := by
    rw [Finset.sum_mul]
    refine Finset.sum_congr rfl fun j _ => ?_
    split
    · rw [← Real.exp_add, sub_add_sub_cancel]
    · simp
  simp only [he]
  rw [← coe_sum, div_coe_pos _ _ (pos μ), sum_mul_coe _ _ _ (inv_nonneg.2 (pos μ).le)]
  refine Finset.sum_congr rfl fun j _ => ?_
  rw [div_coe_pos _ _ (pos M)]
  split
  · rw [mul_right_comm ((Real.exp (t j - μ) : ℝ) : EReal), ← EReal.coe_mul, ← EReal.coe_mul]
    refine congrArg (· * v j) (congrArg _ ?_)
    rw [sc, mul_inv, mul_left_comm, ← Real.exp_neg, ← Real.exp_add, mul_comm]
    congr 2; ring
  · simp

end Cert.Attn

end
-- ==== Proof.Spec.lean ====
module

public import proofs.«01_k».proof.Proof.Algebra

@[expose] public section

set_option maxRecDepth 16384

noncomputable section

namespace Cert.Attn

open Idealize.ShloMosaic

/-! ## The three float constants -/

theorem bot_word : Ideal.ofBits .f32 0xFF800000#32 = ⊥ := by
  simp [Ideal.ofBits, Ideal.ieee]

theorem scale_word : ∃ r : ℝ, Ideal.ofBits .f32 0x3DB504F3#32 = (r : EReal) :=
  ⟨_, by simp [Ideal.ofBits, Ideal.ieee]; rfl⟩

theorem floor_word : ∃ r : ℝ, Ideal.ofBits .f32 0xF149F2CA#32 = (r : EReal) :=
  ⟨_, by simp [Ideal.ofBits, Ideal.ieee]; rfl⟩

theorem top_word : Ideal.ofBits .f32 0x7F800000#32 = ⊤ := by
  simp [Ideal.ofBits, Ideal.ieee]

theorem zero_word : Ideal.ofBits .f32 0x00000000#32 = 0 := by
  simp [Ideal.ofBits, Ideal.ieee]

/-- The factor on the scores. -/
def scale : ℝ := (Ideal.ofBits .f32 0x3DB504F3#32).toReal

theorem scale_eq : Ideal.ofBits .f32 0x3DB504F3#32 = (scale : EReal) := by
  obtain ⟨r, hr⟩ := scale_word
  rw [scale, hr, EReal.toReal_coe]

/-! ## Attention over a paged cache -/

/-- Row `i` of page `p`. -/
abbrev row (p : Fin 1024) (i : Fin 16) : Fin 16384 := ⟨16 * p.val + i.val, by omega⟩
/-- Row `k` of block `β`. -/
abbrev brow (β : Fin 16) (k : Fin 1024) : Fin 16384 := ⟨1024 * β.val + k.val, by omega⟩
/-- The page of row `k` of block `β`. -/
abbrev bpage (β : Fin 16) (k : Fin 1024) : Fin 1024 := ⟨64 * β.val + k.val / 16, by omega⟩
/-- The position and the row in its page of the `x`-th gathered row. -/
abbrev pos (x : Fin 8192) : Fin 512 := ⟨x.val / 16, by omega⟩
abbrev off (x : Fin 8192) : Fin 16 := ⟨x.val % 16, by omega⟩

/-- Position `p` is attended: it lies below the length. -/
abbrev ok (len : BitVec 32) (p : Fin 512) : Prop := IntOp.cmpi .slt (BitVec.ofNat 32 p.val) len = 1#1
/-- The page position `p` names. -/
def page (bt : Fin 512 → BitVec 32) (p : Fin 512) : Fin 1024 := ⟨min (bt p).toNat 1023, by omega⟩

/-- The scaled score of a query against a row. -/
def score (q : Fin 128 → EReal) (K : Fin 16384 → Fin 128 → EReal) (r : Fin 16384) : ℝ := (∑ d, (q d).toReal * (K r d).toReal) * scale

theorem score_eq (q : Fin 128 → EReal) (K : Fin 16384 → Fin 128 → EReal) (hq : ∀ d, ∃ r : ℝ, q d = r) (r : Fin 16384) (hK : ∀ d, ∃ t : ℝ, K r d = t) :
    (∑ d, q d * K r d) * Ideal.ofBits .f32 0x3DB504F3#32 = (score q K r : EReal) := by
  unfold score
  rw [scale_eq, EReal.coe_mul, coe_sum]
  congr 1
  refine Finset.sum_congr rfl fun d _ => ?_
  obtain ⟨a, ha⟩ := hq d
  obtain ⟨b, hb⟩ := hK d
  rw [ha, hb, EReal.toReal_coe, EReal.toReal_coe, EReal.coe_mul]

/-- The attention of one query over the attended positions, at shift `μ`. -/
def attn (len : BitVec 32) (bt : Fin 512 → BitVec 32) (q : Fin 128 → EReal) (K V : Fin 16384 → Fin 128 → EReal) (μ : ℝ) (d : Fin 128) : EReal :=
  Ideal.div (∑ x : Fin 8192, if ok len (pos x) then (Real.exp (score q K (row (page bt (pos x)) (off x)) - μ) : EReal) * V (row (page bt (pos x)) (off x)) d else 0)
    ((∑ x : Fin 8192, if ok len (pos x) then Real.exp (score q K (row (page bt (pos x)) (off x)) - μ) else 0 : ℝ) : EReal)

/-! ## The same sums, block by block -/

theorem sum_blocks {M : Type*} [AddCommMonoid M] (f : Fin 16384 → M) : ∑ β : Fin 16, ∑ k : Fin 1024, f (brow β k) = ∑ r, f r := by
  rw [← Fintype.sum_prod_type', ← Equiv.sum_comp (finProdFinEquiv : Fin 16 × Fin 1024 ≃ Fin 16384) f]
  refine Finset.sum_congr rfl fun x _ => congrArg f (Fin.ext ?_)
  show 1024 * x.1.val + x.2.val = x.2.val + 1024 * x.1.val
  omega

theorem sum_pages {M : Type*} [AddCommMonoid M] (f : Fin 16384 → M) : ∑ i : Fin 16, ∑ p : Fin 1024, f (row p i) = ∑ r, f r := by
  rw [Finset.sum_comm, ← Fintype.sum_prod_type', ← Equiv.sum_comp (finProdFinEquiv : Fin 1024 × Fin 16 ≃ Fin 16384) f]
  refine Finset.sum_congr rfl fun x _ => congrArg f (Fin.ext ?_)
  show 16 * x.1.val + x.2.val = x.2.val + 16 * x.1.val
  omega

theorem sum_positions {M : Type*} [AddCommMonoid M] (f : Fin 512 → Fin 16 → M) : ∑ i : Fin 16, ∑ p : Fin 512, f p i = ∑ x : Fin 8192, f (pos x) (off x) := by
  rw [Finset.sum_comm, ← Fintype.sum_prod_type', ← Equiv.sum_comp (finProdFinEquiv : Fin 512 × Fin 16 ≃ Fin 8192) fun x => f (pos x) (off x)]
  refine Finset.sum_congr rfl fun x _ => ?_
  have e1 : pos (finProdFinEquiv x) = x.1 := Fin.ext (by show (x.2.val + 16 * x.1.val) / 16 = x.1.val; omega)
  have e2 : off (finProdFinEquiv x) = x.2 := Fin.ext (by show (x.2.val + 16 * x.1.val) % 16 = x.2.val; omega)
  rw [e1, e2]

variable (len : BitVec 32) (bt : Fin 512 → BitVec 32) (q : Fin 128 → EReal) (K V : Fin 16384 → Fin 128 → EReal)

/-- How often row `k` of block `β` is attended. -/
def mult (β : Fin 16) (k : Fin 1024) : ℝ := count (ok len) (page bt) (bpage β k)

theorem row_page (r : Fin 16384) : bpage ⟨r.val / 1024, by omega⟩ ⟨r.val % 1024, by omega⟩ = ⟨r.val / 16, by omega⟩ :=
  Fin.ext (by show 64 * (r.val / 1024) + r.val % 1024 / 16 = r.val / 16; omega)

theorem mass_all (μ : ℝ) : mass (mult len bt) (fun β k => score q K (brow β k)) Finset.univ μ
    = ∑ x : Fin 8192, if ok len (pos x) then Real.exp (score q K (row (page bt (pos x)) (off x)) - μ) else 0 := by
  rw [← sum_positions fun p i => if ok len p then Real.exp (score q K (row (page bt p) i) - μ) else 0]
  unfold mass
  trans ∑ r : Fin 16384, count (ok len) (page bt) ⟨r.val / 16, by omega⟩ * Real.exp (score q K r - μ)
  · rw [← sum_blocks]
    refine Finset.sum_congr rfl fun β _ => Finset.sum_congr rfl fun k _ => ?_
    unfold mult
    congr 2
    exact Fin.ext (by show 64 * β.val + k.val / 16 = (1024 * β.val + k.val) / 16; omega)
  · rw [← sum_pages]
    refine Finset.sum_congr rfl fun i _ => ?_
    rw [← sum_count (ok len) (page bt) fun p => Real.exp (score q K (row p i) - μ)]
    refine Finset.sum_congr rfl fun p _ => ?_
    congr 2
    exact Fin.ext (by show (16 * p.val + i.val) / 16 = p.val; omega)

theorem wsum_all (μ : ℝ) (d : Fin 128) : wsum (mult len bt) (fun β k => score q K (brow β k)) (fun β k => V (brow β k)) Finset.univ μ d
    = ∑ x : Fin 8192, if ok len (pos x) then (Real.exp (score q K (row (page bt (pos x)) (off x)) - μ) : EReal) * V (row (page bt (pos x)) (off x)) d else 0 := by
  rw [← sum_positions fun p i => if ok len p then (Real.exp (score q K (row (page bt p) i) - μ) : EReal) * V (row (page bt p) i) d else 0]
  unfold wsum
  trans ∑ r : Fin 16384, ((count (ok len) (page bt) ⟨r.val / 16, by omega⟩ * Real.exp (score q K r - μ) : ℝ) : EReal) * V r d
  · rw [← sum_blocks]
    refine Finset.sum_congr rfl fun β _ => Finset.sum_congr rfl fun k _ => ?_
    unfold mult
    congr 4
    exact Fin.ext (by show 64 * β.val + k.val / 16 = (1024 * β.val + k.val) / 16; omega)
  · rw [← sum_pages]
    refine Finset.sum_congr rfl fun i _ => ?_
    rw [← wsum_count (ok len) (page bt) (fun p => Real.exp (score q K (row p i) - μ)) (fun p => (Real.exp_pos _).le) fun p => V (row p i) d]
    refine Finset.sum_congr rfl fun p _ => ?_
    congr 4
    exact Fin.ext (by show (16 * p.val + i.val) / 16 = p.val; omega)

/-- The blocks all taken in, the quotient is the attention. -/
theorem attn_of_rep {m l : EReal} {a : Fin 128 → EReal}
    (h : Rep (mult len bt) (fun β k => score q K (brow β k)) (fun β k => V (brow β k)) Finset.univ m l a) :
    ∃ μ : ℝ, ∀ d, Ideal.div (a d) l = attn len bt q K V μ d := by
  obtain ⟨μ, -, rfl, ha⟩ := h
  refine ⟨μ, fun d => ?_⟩
  rw [ha, mass_all, wsum_all]; rfl

/-- The softmax over the gathered rows is the attention at every shift. -/
theorem attn_softmax (h : ∃ p, ok len p) (μ : ℝ) (d : Fin 128) (t : Fin 8192 → EReal)
    (ht : ∀ x, t x = if ok len (pos x) then (score q K (row (page bt (pos x)) (off x)) : EReal) else ⊥) (v : Fin 8192 → EReal)
    (hv : ∀ x, ok len (pos x) → v x = V (row (page bt (pos x)) (off x)) d) :
    (∑ x, Ideal.div (Ideal.exp (t x - Finset.univ.fold max ⊥ t)) (∑ x', Ideal.exp (t x' - Finset.univ.fold max ⊥ t)) * v x) = attn len bt q K V μ d := by
  obtain rfl : t = fun x => if ok len (pos x) then (score q K (row (page bt (pos x)) (off x)) : EReal) else ⊥ := funext ht
  obtain ⟨p, hp⟩ := h
  have hx : ok len (pos ⟨16 * p.val, by omega⟩) := by
    have e : pos ⟨16 * p.val, by omega⟩ = p := Fin.ext (by show 16 * p.val / 16 = p.val; omega)
    rw [e]; exact hp
  rw [softmax_eq (fun x => ok len (pos x)) (fun x => score q K (row (page bt (pos x)) (off x))) v ⟨_, hx⟩ μ]
  unfold attn
  congr 1
  refine Finset.sum_congr rfl fun x _ => ?_
  by_cases hk : ok len (pos x)
  · rw [if_pos hk, if_pos hk, hv x hk]
  · rw [if_neg hk, if_neg hk]

end Cert.Attn

end
-- ==== Proof.HeadVal.lean ====
module

public import proofs.«01_k».proof.Proof.Loads
public import proofs.«01_k».proof.Proof.Spec
public import Idealize.ShloMosaic.Lib.Pointwise

@[expose] public section

set_option maxRecDepth 16384

noncomputable section

namespace Cert.KernelIdeal.Hand

open Cert.KernelIdeal Cert.KernelIdeal.Gen Cert.Attn
open Idealize.ShloMosaic Idealize.ShloMosaic.TcCoe

/-! ## One head's step, element by element -/

/-- The masked scores of one query over one block. -/
def sm (cp : IVec S8x1024 1) (b : Fin 8) (q : Fin 128 → EReal) (K : Fin 1024 → Fin 128 → EReal) (k : Fin 1024) : EReal :=
  Scalar.select (cp (ix2 b k)) ((∑ d, q d * K k d) * Ideal.ofBits .f32 0x3DB504F3#32) (Ideal.ofBits .f32 0xF149F2CA#32)

section
variable (cr : FVec Ideal S8x1024 .f32) (cp : IVec S8x1024 1) (q : Vec Ideal S8x128 .f32) (k v : Vec Ideal S1x1x1024x128 .f32) (mo lo : Vec Ideal S1x8x1 .f32) (ao : Vec Ideal S1x8x128 .f32)
  (b : Fin 8) (qf : Fin 128 → EReal) (kf vf : Fin 1024 → Fin 128 → EReal) (M L : EReal) (A : Fin 128 → EReal)
  (hq : ∀ d, q (ix2 b d) = qf d) (hk : ∀ r d, k (ix4 0 0 r d) = kf r d) (hv : ∀ r d, v (ix4 0 0 r d) = vf r d)
  (hM' : mo (ix3 0 b 0) = M) (hL' : lo (ix3 0 b 0) = L) (hA' : ∀ d, ao (ix3 0 b d) = A d)

include hq hk in
theorem score_at (r : Fin 1024) : k0_pay44 cp q k (ix2 b r) = sm cp b qf kf r := by
  have e : k0_pay44 cp q k (ix2 b r) = Scalar.select (cp (ix2 b r)) ((∑ d, q (ix2 b d) * k (ix4 0 0 r d)) * Ideal.ofBits .f32 0x3DB504F3#32) (Ideal.ofBits .f32 0xF149F2CA#32) := by
    pointwise [k0_pay44]
  rw [e]; unfold sm
  simp only [hq, hk]

include hq hk in
theorem top_at : k0_pay46 cp q k (ix2 b 0) = Finset.univ.fold max ⊥ (sm cp b qf kf) := by
  have e : k0_pay46 cp q k (ix2 b 0) = Finset.univ.fold max (Ideal.ofBits .f32 0xFF800000#32) (fun x => k0_pay44 cp q k (ix2 b x)) := by pointwise [k0_pay46]
  rw [e, bot_word]
  exact congrArg (Finset.univ.fold max ⊥) (funext fun r => score_at cp q k b qf kf hq hk r)

include hq hk hM' in
theorem hM_at : hM cp q k mo (ix3 0 b 0) = max M (Finset.univ.fold max ⊥ (sm cp b qf kf)) := by
  have e : hM cp q k mo (ix3 0 b 0) = max (mo (ix3 0 b 0)) (k0_pay46 cp q k (ix2 b 0)) := by pointwise [hM, k0_pay52, k0_pay47, k0_pay45]
  rw [e, top_at cp q k b qf kf hq hk, hM']

include hq hk hM' hL' in
theorem hL_at : hL cr cp q k mo lo (ix3 0 b 0) = L * Ideal.exp (M - max M (Finset.univ.fold max ⊥ (sm cp b qf kf)))
    + ∑ r, Ideal.exp (sm cp b qf kf r - max M (Finset.univ.fold max ⊥ (sm cp b qf kf))) * cr (ix2 b r) := by
  have e : hL cr cp q k mo lo (ix3 0 b 0) = lo (ix3 0 b 0) * Ideal.exp (mo (ix3 0 b 0) - max (mo (ix3 0 b 0)) (k0_pay46 cp q k (ix2 b 0)))
      + ∑ r, Ideal.exp (k0_pay44 cp q k (ix2 b r) - max (mo (ix3 0 b 0)) (k0_pay46 cp q k (ix2 b 0))) * cr (ix2 b r) := by
    pointwise [hL, k0_pay50, k0_pay48, k0_pay49, k0_pay47, k0_pay45]
  rw [e, top_at cp q k b qf kf hq hk, hM', hL']
  simp only [score_at cp q k b qf kf hq hk]

include hq hk hv hM' hA' in
theorem hA_at (d : Fin 128) : hA cr cp q k v mo ao (ix3 0 b d) = A d * Ideal.exp (M - max M (Finset.univ.fold max ⊥ (sm cp b qf kf)))
    + ∑ r, Ideal.exp (sm cp b qf kf r - max M (Finset.univ.fold max ⊥ (sm cp b qf kf))) * cr (ix2 b r) * vf r d := by
  have e : hA cr cp q k v mo ao (ix3 0 b d) = ao (ix3 0 b d) * Ideal.exp (mo (ix3 0 b 0) - max (mo (ix3 0 b 0)) (k0_pay46 cp q k (ix2 b 0)))
      + ∑ r, Ideal.exp (k0_pay44 cp q k (ix2 b r) - max (mo (ix3 0 b 0)) (k0_pay46 cp q k (ix2 b 0))) * cr (ix2 b r) * v (ix4 0 0 r d) := by
    pointwise [hA, k0_pay51, k0_pay43, k0_pay48, k0_pay49, k0_pay47, k0_pay45]
  rw [e, top_at cp q k b qf kf hq hk, hM', hA']
  simp only [score_at cp q k b qf kf hq hk, hv]
end

/-! ## The eight heads, stored one by one -/

theorem heads1 {sp : Space} (V : View sig .tc sp S8x8x1 .f32) (f : V.ty.Contents (Elt Ideal)) (P0 P1 P2 P3 P4 P5 P6 P7 : Vec Ideal S1x8x1 .f32) (h b : Fin 8) (e : Fin 1) :
    V.read (Elt Ideal) (V.writes (Elt Ideal) f [⟨Rect.unit (s := S8x8x1) ![7, 0, 0] S1x8x1.size inb_S8x8x1_S1x8x1_7_0_0, P7⟩, ⟨Rect.unit (s := S8x8x1) ![6, 0, 0] S1x8x1.size inb_S8x8x1_S1x8x1_6_0_0, P6⟩, ⟨Rect.unit (s := S8x8x1) ![5, 0, 0] S1x8x1.size inb_S8x8x1_S1x8x1_5_0_0, P5⟩, ⟨Rect.unit (s := S8x8x1) ![4, 0, 0] S1x8x1.size inb_S8x8x1_S1x8x1_4_0_0, P4⟩, ⟨Rect.unit (s := S8x8x1) ![3, 0, 0] S1x8x1.size inb_S8x8x1_S1x8x1_3_0_0, P3⟩, ⟨Rect.unit (s := S8x8x1) ![2, 0, 0] S1x8x1.size inb_S8x8x1_S1x8x1_2_0_0, P2⟩, ⟨Rect.unit (s := S8x8x1) ![1, 0, 0] S1x8x1.size inb_S8x8x1_S1x8x1_1_0_0, P1⟩, ⟨Rect.unit (s := S8x8x1) ![0, 0, 0] S1x8x1.size inb_S8x8x1_S1x8x1_0_0_0, P0⟩]) (ix3 h b e) = (![P0, P1, P2, P3, P4, P5, P6, P7] h : Vec Ideal S1x8x1 .f32) (ix3 0 b e) := by
  have hit : ∀ (L : List (View.Piece (Elt Ideal) S8x8x1 .f32)) (o : ℕ) (inb : ∀ a, (![o, 0, 0] : Fin 3 → ℕ) a + S1x8x1.size a ≤ S8x8x1.size a) (P : Vec Ideal S1x8x1 .f32) (i : Fin 8), i.val = o →
      V.read (Elt Ideal) (V.writes (Elt Ideal) f (⟨Rect.unit (s := S8x8x1) ![o, 0, 0] S1x8x1.size inb, P⟩ :: L)) (ix3 i b e) = P (ix3 0 b e) := fun L o inb P i hi =>
    View.read_writes_cons_unit_of_mem V f inb P L _ (ix3 0 b e) rfl (fun a => by
      fin_cases a
      · exact hi
      · exact (Nat.zero_add b.val).symm
      · exact (Nat.zero_add e.val).symm)
  have skip : ∀ (L : List (View.Piece (Elt Ideal) S8x8x1 .f32)) (o : ℕ) (inb : ∀ a, (![o, 0, 0] : Fin 3 → ℕ) a + S1x8x1.size a ≤ S8x8x1.size a) (P : Vec Ideal S1x8x1 .f32) (i : Fin 8), i.val < o →
      V.read (Elt Ideal) (V.writes (Elt Ideal) f (⟨Rect.unit (s := S8x8x1) ![o, 0, 0] S1x8x1.size inb, P⟩ :: L)) (ix3 i b e) = V.read (Elt Ideal) (V.writes (Elt Ideal) f L) (ix3 i b e) := fun L o inb P i hi =>
    View.read_writes_cons_unit_of_not_mem V f inb P L _ rfl 0 (Or.inl hi)
  match h with
  | ⟨0, _⟩ => exact (skip _ 7 _ _ 0 (by decide)).trans ((skip _ 6 _ _ 0 (by decide)).trans ((skip _ 5 _ _ 0 (by decide)).trans ((skip _ 4 _ _ 0 (by decide)).trans ((skip _ 3 _ _ 0 (by decide)).trans ((skip _ 2 _ _ 0 (by decide)).trans ((skip _ 1 _ _ 0 (by decide)).trans (hit _ 0 _ _ 0 rfl)))))))
  | ⟨1, _⟩ => exact (skip _ 7 _ _ 1 (by decide)).trans ((skip _ 6 _ _ 1 (by decide)).trans ((skip _ 5 _ _ 1 (by decide)).trans ((skip _ 4 _ _ 1 (by decide)).trans ((skip _ 3 _ _ 1 (by decide)).trans ((skip _ 2 _ _ 1 (by decide)).trans (hit _ 1 _ _ 1 rfl))))))
  | ⟨2, _⟩ => exact (skip _ 7 _ _ 2 (by decide)).trans ((skip _ 6 _ _ 2 (by decide)).trans ((skip _ 5 _ _ 2 (by decide)).trans ((skip _ 4 _ _ 2 (by decide)).trans ((skip _ 3 _ _ 2 (by decide)).trans (hit _ 2 _ _ 2 rfl)))))
  | ⟨3, _⟩ => exact (skip _ 7 _ _ 3 (by decide)).trans ((skip _ 6 _ _ 3 (by decide)).trans ((skip _ 5 _ _ 3 (by decide)).trans ((skip _ 4 _ _ 3 (by decide)).trans (hit _ 3 _ _ 3 rfl))))
  | ⟨4, _⟩ => exact (skip _ 7 _ _ 4 (by decide)).trans ((skip _ 6 _ _ 4 (by decide)).trans ((skip _ 5 _ _ 4 (by decide)).trans (hit _ 4 _ _ 4 rfl)))
  | ⟨5, _⟩ => exact (skip _ 7 _ _ 5 (by decide)).trans ((skip _ 6 _ _ 5 (by decide)).trans (hit _ 5 _ _ 5 rfl))
  | ⟨6, _⟩ => exact (skip _ 7 _ _ 6 (by decide)).trans (hit _ 6 _ _ 6 rfl)
  | ⟨7, _⟩ => exact hit _ 7 _ _ 7 rfl

theorem heads128 {sp : Space} (V : View sig .tc sp S8x8x128 .f32) (f : V.ty.Contents (Elt Ideal)) (P0 P1 P2 P3 P4 P5 P6 P7 : Vec Ideal S1x8x128 .f32) (h b : Fin 8) (e : Fin 128) :
    V.read (Elt Ideal) (V.writes (Elt Ideal) f [⟨Rect.unit (s := S8x8x128) ![7, 0, 0] S1x8x128.size inb_S8x8x128_S1x8x128_7_0_0, P7⟩, ⟨Rect.unit (s := S8x8x128) ![6, 0, 0] S1x8x128.size inb_S8x8x128_S1x8x128_6_0_0, P6⟩, ⟨Rect.unit (s := S8x8x128) ![5, 0, 0] S1x8x128.size inb_S8x8x128_S1x8x128_5_0_0, P5⟩, ⟨Rect.unit (s := S8x8x128) ![4, 0, 0] S1x8x128.size inb_S8x8x128_S1x8x128_4_0_0, P4⟩, ⟨Rect.unit (s := S8x8x128) ![3, 0, 0] S1x8x128.size inb_S8x8x128_S1x8x128_3_0_0, P3⟩, ⟨Rect.unit (s := S8x8x128) ![2, 0, 0] S1x8x128.size inb_S8x8x128_S1x8x128_2_0_0, P2⟩, ⟨Rect.unit (s := S8x8x128) ![1, 0, 0] S1x8x128.size inb_S8x8x128_S1x8x128_1_0_0, P1⟩, ⟨Rect.unit (s := S8x8x128) ![0, 0, 0] S1x8x128.size inb_S8x8x128_S1x8x128_0_0_0, P0⟩]) (ix3 h b e) = (![P0, P1, P2, P3, P4, P5, P6, P7] h : Vec Ideal S1x8x128 .f32) (ix3 0 b e) := by
  have hit : ∀ (L : List (View.Piece (Elt Ideal) S8x8x128 .f32)) (o : ℕ) (inb : ∀ a, (![o, 0, 0] : Fin 3 → ℕ) a + S1x8x128.size a ≤ S8x8x128.size a) (P : Vec Ideal S1x8x128 .f32) (i : Fin 8), i.val = o →
      V.read (Elt Ideal) (V.writes (Elt Ideal) f (⟨Rect.unit (s := S8x8x128) ![o, 0, 0] S1x8x128.size inb, P⟩ :: L)) (ix3 i b e) = P (ix3 0 b e) := fun L o inb P i hi =>
    View.read_writes_cons_unit_of_mem V f inb P L _ (ix3 0 b e) rfl (fun a => by
      fin_cases a
      · exact hi
      · exact (Nat.zero_add b.val).symm
      · exact (Nat.zero_add e.val).symm)
  have skip : ∀ (L : List (View.Piece (Elt Ideal) S8x8x128 .f32)) (o : ℕ) (inb : ∀ a, (![o, 0, 0] : Fin 3 → ℕ) a + S1x8x128.size a ≤ S8x8x128.size a) (P : Vec Ideal S1x8x128 .f32) (i : Fin 8), i.val < o →
      V.read (Elt Ideal) (V.writes (Elt Ideal) f (⟨Rect.unit (s := S8x8x128) ![o, 0, 0] S1x8x128.size inb, P⟩ :: L)) (ix3 i b e) = V.read (Elt Ideal) (V.writes (Elt Ideal) f L) (ix3 i b e) := fun L o inb P i hi =>
    View.read_writes_cons_unit_of_not_mem V f inb P L _ rfl 0 (Or.inl hi)
  match h with
  | ⟨0, _⟩ => exact (skip _ 7 _ _ 0 (by decide)).trans ((skip _ 6 _ _ 0 (by decide)).trans ((skip _ 5 _ _ 0 (by decide)).trans ((skip _ 4 _ _ 0 (by decide)).trans ((skip _ 3 _ _ 0 (by decide)).trans ((skip _ 2 _ _ 0 (by decide)).trans ((skip _ 1 _ _ 0 (by decide)).trans (hit _ 0 _ _ 0 rfl)))))))
  | ⟨1, _⟩ => exact (skip _ 7 _ _ 1 (by decide)).trans ((skip _ 6 _ _ 1 (by decide)).trans ((skip _ 5 _ _ 1 (by decide)).trans ((skip _ 4 _ _ 1 (by decide)).trans ((skip _ 3 _ _ 1 (by decide)).trans ((skip _ 2 _ _ 1 (by decide)).trans (hit _ 1 _ _ 1 rfl))))))
  | ⟨2, _⟩ => exact (skip _ 7 _ _ 2 (by decide)).trans ((skip _ 6 _ _ 2 (by decide)).trans ((skip _ 5 _ _ 2 (by decide)).trans ((skip _ 4 _ _ 2 (by decide)).trans ((skip _ 3 _ _ 2 (by decide)).trans (hit _ 2 _ _ 2 rfl)))))
  | ⟨3, _⟩ => exact (skip _ 7 _ _ 3 (by decide)).trans ((skip _ 6 _ _ 3 (by decide)).trans ((skip _ 5 _ _ 3 (by decide)).trans ((skip _ 4 _ _ 3 (by decide)).trans (hit _ 3 _ _ 3 rfl))))
  | ⟨4, _⟩ => exact (skip _ 7 _ _ 4 (by decide)).trans ((skip _ 6 _ _ 4 (by decide)).trans ((skip _ 5 _ _ 4 (by decide)).trans (hit _ 4 _ _ 4 rfl)))
  | ⟨5, _⟩ => exact (skip _ 7 _ _ 5 (by decide)).trans ((skip _ 6 _ _ 5 (by decide)).trans (hit _ 5 _ _ 5 rfl))
  | ⟨6, _⟩ => exact (skip _ 7 _ _ 6 (by decide)).trans (hit _ 6 _ _ 6 rfl)
  | ⟨7, _⟩ => exact hit _ 7 _ _ 7 rfl

/-! ## Loads of one head -/

variable (m : (ℓ : Loc nD τ sig) → Buf (Elt Ideal) ℓ)

theorem qLd_at (c : Dev nD) (o : ℕ) (h : ∀ a, (![0, o] : Fin 2 → ℕ) a + S8x128.size a ≤ S8x1024.size a) (b : Fin 8) (d : Fin 128) (j : Fin 1024) (hj : j.val = o + d.val) :
    qLd m c o h (ix2 b d) = qAt m c (ix2 b j) := by
  show qAt m c ((Rect.unit (s := S8x1024) ![0, o] S8x128.size h).emb (ix2 b d)) = _
  refine congrArg (qAt m c) (funext fun a => Fin.ext ?_)
  fin_cases a
  · show 0 + 1 * b.val = b.val; omega
  · show o + 1 * d.val = j.val; omega

theorem mLd_at (c : Dev nD) (f : BufAt (F := Ideal) c mSc) (o : ℕ) (h : ∀ a, (![o, 0, 0] : Fin 3 → ℕ) a + S1x8x1.size a ≤ S8x8x1.size a) (b : Fin 8) (d : Fin 1) (i : Fin 8) (hi : i.val = o) :
    mLd c f o h (ix3 0 b d) = f (ix3 i b d) := by
  show f ((Rect.unit (s := S8x8x1) ![o, 0, 0] S1x8x1.size h).emb (ix3 0 b d)) = _
  refine congrArg f (funext fun a => Fin.ext ?_)
  fin_cases a
  · show o + 1 * 0 = i.val; omega
  · show 0 + 1 * b.val = b.val; omega
  · show 0 + 1 * d.val = d.val; omega

theorem lLd_at (c : Dev nD) (f : BufAt (F := Ideal) c lSc) (o : ℕ) (h : ∀ a, (![o, 0, 0] : Fin 3 → ℕ) a + S1x8x1.size a ≤ S8x8x1.size a) (b : Fin 8) (d : Fin 1) (i : Fin 8) (hi : i.val = o) :
    lLd c f o h (ix3 0 b d) = f (ix3 i b d) := by
  show f ((Rect.unit (s := S8x8x1) ![o, 0, 0] S1x8x1.size h).emb (ix3 0 b d)) = _
  refine congrArg f (funext fun a => Fin.ext ?_)
  fin_cases a
  · show o + 1 * 0 = i.val; omega
  · show 0 + 1 * b.val = b.val; omega
  · show 0 + 1 * d.val = d.val; omega

theorem aLd_at (c : Dev nD) (f : BufAt (F := Ideal) c aSc) (o : ℕ) (h : ∀ a, (![o, 0, 0] : Fin 3 → ℕ) a + S1x8x128.size a ≤ S8x8x128.size a) (b : Fin 8) (d : Fin 128) (i : Fin 8) (hi : i.val = o) :
    aLd c f o h (ix3 0 b d) = f (ix3 i b d) := by
  show f ((Rect.unit (s := S8x8x128) ![o, 0, 0] S1x8x128.size h).emb (ix3 0 b d)) = _
  refine congrArg f (funext fun a => Fin.ext ?_)
  fin_cases a
  · show o + 1 * 0 = i.val; omega
  · show 0 + 1 * b.val = b.val; omega
  · show 0 + 1 * d.val = d.val; omega

/-! ## A block taken in, at every head -/

/-- The query of a head, and the rows of a head in each block. -/
abbrev qf (c : Dev nD) (h b : Fin 8) : Fin 128 → EReal := fun d => qAt m c (ix2 b ⟨128 * h.val + d.val, by omega⟩)
abbrev kf0 (c : Dev nD) (h : Fin 8) : Fin 1024 → Fin 128 → EReal := fun k d => kAt m c (ix3 (lrow0 c k) h d)
abbrev vf0 (c : Dev nD) (h : Fin 8) : Fin 1024 → Fin 128 → EReal := fun k d => vAt m c (ix3 (lrow0 c k) h d)
abbrev kf1 (c : Dev nD) (h : Fin 8) : Fin 1024 → Fin 128 → EReal := fun k d => kAt m c (ix3 (lrow1 c k) h d)
abbrev pM0 (c : Dev nD) : FVec Ideal S8x8x1 .f32 := (part0 m c).1
abbrev pL0 (c : Dev nD) : FVec Ideal S8x8x1 .f32 := (part0 m c).2.1
abbrev pA0 (c : Dev nD) : FVec Ideal S8x8x128 .f32 := (part0 m c).2.2
abbrev pM1 (c : Dev nD) : FVec Ideal S8x8x1 .f32 := (part1 m c).1
abbrev pL1 (c : Dev nD) : FVec Ideal S8x8x1 .f32 := (part1 m c).2.1
abbrev pA1 (c : Dev nD) : FVec Ideal S8x8x128 .f32 := (part1 m c).2.2
abbrev vf1 (c : Dev nD) (h : Fin 8) : Fin 1024 → Fin 128 → EReal := fun k d => vAt m c (ix3 (lrow1 c k) h d)

theorem part0_m_at (c : Dev nD) (h b : Fin 8) : pM0 m c (ix3 h b 0) = (max ((k0_pay3 : FVec Ideal S8x8x1 .f32) (ix3 h b 0)) (Finset.univ.fold max ⊥ (sm (cp0 m c) b (qf m c h b) (kf0 m c h)))) := by
  refine (congrFun (part0_m m c) _).trans ?_
  refine (heads1 mSc.view _ _ _ _ _ _ _ _ _ h b 0).trans ?_
  match h with
  | ⟨0, _⟩ => exact hM_at _ _ _ _ b _ _ _ (fun d => qLd_at m c 0 _ b d _ rfl) (fun r d => kld0_0 c _ r d) (mLd_at c _ 0 _ b 0 0 rfl)
  | ⟨1, _⟩ => exact hM_at _ _ _ _ b _ _ _ (fun d => qLd_at m c 128 _ b d _ rfl) (fun r d => kld0_1 c _ r d) (mLd_at c _ 1 _ b 0 1 rfl)
  | ⟨2, _⟩ => exact hM_at _ _ _ _ b _ _ _ (fun d => qLd_at m c 256 _ b d _ rfl) (fun r d => kld0_2 c _ r d) (mLd_at c _ 2 _ b 0 2 rfl)
  | ⟨3, _⟩ => exact hM_at _ _ _ _ b _ _ _ (fun d => qLd_at m c 384 _ b d _ rfl) (fun r d => kld0_3 c _ r d) (mLd_at c _ 3 _ b 0 3 rfl)
  | ⟨4, _⟩ => exact hM_at _ _ _ _ b _ _ _ (fun d => qLd_at m c 512 _ b d _ rfl) (fun r d => kld0_4 c _ r d) (mLd_at c _ 4 _ b 0 4 rfl)
  | ⟨5, _⟩ => exact hM_at _ _ _ _ b _ _ _ (fun d => qLd_at m c 640 _ b d _ rfl) (fun r d => kld0_5 c _ r d) (mLd_at c _ 5 _ b 0 5 rfl)
  | ⟨6, _⟩ => exact hM_at _ _ _ _ b _ _ _ (fun d => qLd_at m c 768 _ b d _ rfl) (fun r d => kld0_6 c _ r d) (mLd_at c _ 6 _ b 0 6 rfl)
  | ⟨7, _⟩ => exact hM_at _ _ _ _ b _ _ _ (fun d => qLd_at m c 896 _ b d _ rfl) (fun r d => kld0_7 c _ r d) (mLd_at c _ 7 _ b 0 7 rfl)

theorem part0_l_at (c : Dev nD) (h b : Fin 8) : pL0 m c (ix3 h b 0) = ((k0_pay4 : FVec Ideal S8x8x1 .f32) (ix3 h b 0)) * Ideal.exp (((k0_pay3 : FVec Ideal S8x8x1 .f32) (ix3 h b 0)) - (max ((k0_pay3 : FVec Ideal S8x8x1 .f32) (ix3 h b 0)) (Finset.univ.fold max ⊥ (sm (cp0 m c) b (qf m c h b) (kf0 m c h))))) + ∑ r, Ideal.exp ((sm (cp0 m c) b (qf m c h b) (kf0 m c h)) r - (max ((k0_pay3 : FVec Ideal S8x8x1 .f32) (ix3 h b 0)) (Finset.univ.fold max ⊥ (sm (cp0 m c) b (qf m c h b) (kf0 m c h))))) * cr0 m c (ix2 b r) := by
  refine (congrFun (part0_l m c) _).trans ?_
  refine (heads1 lSc.view _ _ _ _ _ _ _ _ _ h b 0).trans ?_
  match h with
  | ⟨0, _⟩ => exact hL_at _ _ _ _ _ _ b _ _ _ _ (fun d => qLd_at m c 0 _ b d _ rfl) (fun r d => kld0_0 c _ r d) (mLd_at c _ 0 _ b 0 0 rfl) (lLd_at c _ 0 _ b 0 0 rfl)
  | ⟨1, _⟩ => exact hL_at _ _ _ _ _ _ b _ _ _ _ (fun d => qLd_at m c 128 _ b d _ rfl) (fun r d => kld0_1 c _ r d) (mLd_at c _ 1 _ b 0 1 rfl) (lLd_at c _ 1 _ b 0 1 rfl)
  | ⟨2, _⟩ => exact hL_at _ _ _ _ _ _ b _ _ _ _ (fun d => qLd_at m c 256 _ b d _ rfl) (fun r d => kld0_2 c _ r d) (mLd_at c _ 2 _ b 0 2 rfl) (lLd_at c _ 2 _ b 0 2 rfl)
  | ⟨3, _⟩ => exact hL_at _ _ _ _ _ _ b _ _ _ _ (fun d => qLd_at m c 384 _ b d _ rfl) (fun r d => kld0_3 c _ r d) (mLd_at c _ 3 _ b 0 3 rfl) (lLd_at c _ 3 _ b 0 3 rfl)
  | ⟨4, _⟩ => exact hL_at _ _ _ _ _ _ b _ _ _ _ (fun d => qLd_at m c 512 _ b d _ rfl) (fun r d => kld0_4 c _ r d) (mLd_at c _ 4 _ b 0 4 rfl) (lLd_at c _ 4 _ b 0 4 rfl)
  | ⟨5, _⟩ => exact hL_at _ _ _ _ _ _ b _ _ _ _ (fun d => qLd_at m c 640 _ b d _ rfl) (fun r d => kld0_5 c _ r d) (mLd_at c _ 5 _ b 0 5 rfl) (lLd_at c _ 5 _ b 0 5 rfl)
  | ⟨6, _⟩ => exact hL_at _ _ _ _ _ _ b _ _ _ _ (fun d => qLd_at m c 768 _ b d _ rfl) (fun r d => kld0_6 c _ r d) (mLd_at c _ 6 _ b 0 6 rfl) (lLd_at c _ 6 _ b 0 6 rfl)
  | ⟨7, _⟩ => exact hL_at _ _ _ _ _ _ b _ _ _ _ (fun d => qLd_at m c 896 _ b d _ rfl) (fun r d => kld0_7 c _ r d) (mLd_at c _ 7 _ b 0 7 rfl) (lLd_at c _ 7 _ b 0 7 rfl)

theorem part0_a_at (c : Dev nD) (h b : Fin 8) (d : Fin 128) : pA0 m c (ix3 h b d) = ((k0_pay5 : FVec Ideal S8x8x128 .f32) (ix3 h b d)) * Ideal.exp (((k0_pay3 : FVec Ideal S8x8x1 .f32) (ix3 h b 0)) - (max ((k0_pay3 : FVec Ideal S8x8x1 .f32) (ix3 h b 0)) (Finset.univ.fold max ⊥ (sm (cp0 m c) b (qf m c h b) (kf0 m c h))))) + ∑ r, Ideal.exp ((sm (cp0 m c) b (qf m c h b) (kf0 m c h)) r - (max ((k0_pay3 : FVec Ideal S8x8x1 .f32) (ix3 h b 0)) (Finset.univ.fold max ⊥ (sm (cp0 m c) b (qf m c h b) (kf0 m c h))))) * cr0 m c (ix2 b r) * vf0 m c h r d := by
  refine (congrFun (part0_a m c) _).trans ?_
  refine (heads128 aSc.view _ _ _ _ _ _ _ _ _ h b d).trans ?_
  match h with
  | ⟨0, _⟩ => exact hA_at _ _ _ _ _ _ _ b _ _ _ _ _ (fun d => qLd_at m c 0 _ b d _ rfl) (fun r d => kld0_0 c _ r d) (fun r d => vld0_0 c _ r d) (mLd_at c _ 0 _ b 0 0 rfl) (fun d => aLd_at c _ 0 _ b d 0 rfl) d
  | ⟨1, _⟩ => exact hA_at _ _ _ _ _ _ _ b _ _ _ _ _ (fun d => qLd_at m c 128 _ b d _ rfl) (fun r d => kld0_1 c _ r d) (fun r d => vld0_1 c _ r d) (mLd_at c _ 1 _ b 0 1 rfl) (fun d => aLd_at c _ 1 _ b d 1 rfl) d
  | ⟨2, _⟩ => exact hA_at _ _ _ _ _ _ _ b _ _ _ _ _ (fun d => qLd_at m c 256 _ b d _ rfl) (fun r d => kld0_2 c _ r d) (fun r d => vld0_2 c _ r d) (mLd_at c _ 2 _ b 0 2 rfl) (fun d => aLd_at c _ 2 _ b d 2 rfl) d
  | ⟨3, _⟩ => exact hA_at _ _ _ _ _ _ _ b _ _ _ _ _ (fun d => qLd_at m c 384 _ b d _ rfl) (fun r d => kld0_3 c _ r d) (fun r d => vld0_3 c _ r d) (mLd_at c _ 3 _ b 0 3 rfl) (fun d => aLd_at c _ 3 _ b d 3 rfl) d
  | ⟨4, _⟩ => exact hA_at _ _ _ _ _ _ _ b _ _ _ _ _ (fun d => qLd_at m c 512 _ b d _ rfl) (fun r d => kld0_4 c _ r d) (fun r d => vld0_4 c _ r d) (mLd_at c _ 4 _ b 0 4 rfl) (fun d => aLd_at c _ 4 _ b d 4 rfl) d
  | ⟨5, _⟩ => exact hA_at _ _ _ _ _ _ _ b _ _ _ _ _ (fun d => qLd_at m c 640 _ b d _ rfl) (fun r d => kld0_5 c _ r d) (fun r d => vld0_5 c _ r d) (mLd_at c _ 5 _ b 0 5 rfl) (fun d => aLd_at c _ 5 _ b d 5 rfl) d
  | ⟨6, _⟩ => exact hA_at _ _ _ _ _ _ _ b _ _ _ _ _ (fun d => qLd_at m c 768 _ b d _ rfl) (fun r d => kld0_6 c _ r d) (fun r d => vld0_6 c _ r d) (mLd_at c _ 6 _ b 0 6 rfl) (fun d => aLd_at c _ 6 _ b d 6 rfl) d
  | ⟨7, _⟩ => exact hA_at _ _ _ _ _ _ _ b _ _ _ _ _ (fun d => qLd_at m c 896 _ b d _ rfl) (fun r d => kld0_7 c _ r d) (fun r d => vld0_7 c _ r d) (mLd_at c _ 7 _ b 0 7 rfl) (fun d => aLd_at c _ 7 _ b d 7 rfl) d

theorem part1_m_at (c : Dev nD) (h b : Fin 8) : pM1 m c (ix3 h b 0) = (max (pM0 m c (ix3 h b 0)) (Finset.univ.fold max ⊥ (sm (cp1 m c) b (qf m c h b) (kf1 m c h)))) := by
  refine (congrFun (part1_m m c) _).trans ?_
  refine (heads1 mSc.view _ _ _ _ _ _ _ _ _ h b 0).trans ?_
  match h with
  | ⟨0, _⟩ => exact hM_at _ _ _ _ b _ _ _ (fun d => qLd_at m c 0 _ b d _ rfl) (fun r d => kld1_0 c _ r d) (mLd_at c _ 0 _ b 0 0 rfl)
  | ⟨1, _⟩ => exact hM_at _ _ _ _ b _ _ _ (fun d => qLd_at m c 128 _ b d _ rfl) (fun r d => kld1_1 c _ r d) (mLd_at c _ 1 _ b 0 1 rfl)
  | ⟨2, _⟩ => exact hM_at _ _ _ _ b _ _ _ (fun d => qLd_at m c 256 _ b d _ rfl) (fun r d => kld1_2 c _ r d) (mLd_at c _ 2 _ b 0 2 rfl)
  | ⟨3, _⟩ => exact hM_at _ _ _ _ b _ _ _ (fun d => qLd_at m c 384 _ b d _ rfl) (fun r d => kld1_3 c _ r d) (mLd_at c _ 3 _ b 0 3 rfl)
  | ⟨4, _⟩ => exact hM_at _ _ _ _ b _ _ _ (fun d => qLd_at m c 512 _ b d _ rfl) (fun r d => kld1_4 c _ r d) (mLd_at c _ 4 _ b 0 4 rfl)
  | ⟨5, _⟩ => exact hM_at _ _ _ _ b _ _ _ (fun d => qLd_at m c 640 _ b d _ rfl) (fun r d => kld1_5 c _ r d) (mLd_at c _ 5 _ b 0 5 rfl)
  | ⟨6, _⟩ => exact hM_at _ _ _ _ b _ _ _ (fun d => qLd_at m c 768 _ b d _ rfl) (fun r d => kld1_6 c _ r d) (mLd_at c _ 6 _ b 0 6 rfl)
  | ⟨7, _⟩ => exact hM_at _ _ _ _ b _ _ _ (fun d => qLd_at m c 896 _ b d _ rfl) (fun r d => kld1_7 c _ r d) (mLd_at c _ 7 _ b 0 7 rfl)

theorem part1_l_at (c : Dev nD) (h b : Fin 8) : pL1 m c (ix3 h b 0) = (pL0 m c (ix3 h b 0)) * Ideal.exp ((pM0 m c (ix3 h b 0)) - (max (pM0 m c (ix3 h b 0)) (Finset.univ.fold max ⊥ (sm (cp1 m c) b (qf m c h b) (kf1 m c h))))) + ∑ r, Ideal.exp ((sm (cp1 m c) b (qf m c h b) (kf1 m c h)) r - (max (pM0 m c (ix3 h b 0)) (Finset.univ.fold max ⊥ (sm (cp1 m c) b (qf m c h b) (kf1 m c h))))) * cr1 m c (ix2 b r) := by
  refine (congrFun (part1_l m c) _).trans ?_
  refine (heads1 lSc.view _ _ _ _ _ _ _ _ _ h b 0).trans ?_
  match h with
  | ⟨0, _⟩ => exact hL_at _ _ _ _ _ _ b _ _ _ _ (fun d => qLd_at m c 0 _ b d _ rfl) (fun r d => kld1_0 c _ r d) (mLd_at c _ 0 _ b 0 0 rfl) (lLd_at c _ 0 _ b 0 0 rfl)
  | ⟨1, _⟩ => exact hL_at _ _ _ _ _ _ b _ _ _ _ (fun d => qLd_at m c 128 _ b d _ rfl) (fun r d => kld1_1 c _ r d) (mLd_at c _ 1 _ b 0 1 rfl) (lLd_at c _ 1 _ b 0 1 rfl)
  | ⟨2, _⟩ => exact hL_at _ _ _ _ _ _ b _ _ _ _ (fun d => qLd_at m c 256 _ b d _ rfl) (fun r d => kld1_2 c _ r d) (mLd_at c _ 2 _ b 0 2 rfl) (lLd_at c _ 2 _ b 0 2 rfl)
  | ⟨3, _⟩ => exact hL_at _ _ _ _ _ _ b _ _ _ _ (fun d => qLd_at m c 384 _ b d _ rfl) (fun r d => kld1_3 c _ r d) (mLd_at c _ 3 _ b 0 3 rfl) (lLd_at c _ 3 _ b 0 3 rfl)
  | ⟨4, _⟩ => exact hL_at _ _ _ _ _ _ b _ _ _ _ (fun d => qLd_at m c 512 _ b d _ rfl) (fun r d => kld1_4 c _ r d) (mLd_at c _ 4 _ b 0 4 rfl) (lLd_at c _ 4 _ b 0 4 rfl)
  | ⟨5, _⟩ => exact hL_at _ _ _ _ _ _ b _ _ _ _ (fun d => qLd_at m c 640 _ b d _ rfl) (fun r d => kld1_5 c _ r d) (mLd_at c _ 5 _ b 0 5 rfl) (lLd_at c _ 5 _ b 0 5 rfl)
  | ⟨6, _⟩ => exact hL_at _ _ _ _ _ _ b _ _ _ _ (fun d => qLd_at m c 768 _ b d _ rfl) (fun r d => kld1_6 c _ r d) (mLd_at c _ 6 _ b 0 6 rfl) (lLd_at c _ 6 _ b 0 6 rfl)
  | ⟨7, _⟩ => exact hL_at _ _ _ _ _ _ b _ _ _ _ (fun d => qLd_at m c 896 _ b d _ rfl) (fun r d => kld1_7 c _ r d) (mLd_at c _ 7 _ b 0 7 rfl) (lLd_at c _ 7 _ b 0 7 rfl)

theorem part1_a_at (c : Dev nD) (h b : Fin 8) (d : Fin 128) : pA1 m c (ix3 h b d) = (pA0 m c (ix3 h b d)) * Ideal.exp ((pM0 m c (ix3 h b 0)) - (max (pM0 m c (ix3 h b 0)) (Finset.univ.fold max ⊥ (sm (cp1 m c) b (qf m c h b) (kf1 m c h))))) + ∑ r, Ideal.exp ((sm (cp1 m c) b (qf m c h b) (kf1 m c h)) r - (max (pM0 m c (ix3 h b 0)) (Finset.univ.fold max ⊥ (sm (cp1 m c) b (qf m c h b) (kf1 m c h))))) * cr1 m c (ix2 b r) * vf1 m c h r d := by
  refine (congrFun (part1_a m c) _).trans ?_
  refine (heads128 aSc.view _ _ _ _ _ _ _ _ _ h b d).trans ?_
  match h with
  | ⟨0, _⟩ => exact hA_at _ _ _ _ _ _ _ b _ _ _ _ _ (fun d => qLd_at m c 0 _ b d _ rfl) (fun r d => kld1_0 c _ r d) (fun r d => vld1_0 c _ r d) (mLd_at c _ 0 _ b 0 0 rfl) (fun d => aLd_at c _ 0 _ b d 0 rfl) d
  | ⟨1, _⟩ => exact hA_at _ _ _ _ _ _ _ b _ _ _ _ _ (fun d => qLd_at m c 128 _ b d _ rfl) (fun r d => kld1_1 c _ r d) (fun r d => vld1_1 c _ r d) (mLd_at c _ 1 _ b 0 1 rfl) (fun d => aLd_at c _ 1 _ b d 1 rfl) d
  | ⟨2, _⟩ => exact hA_at _ _ _ _ _ _ _ b _ _ _ _ _ (fun d => qLd_at m c 256 _ b d _ rfl) (fun r d => kld1_2 c _ r d) (fun r d => vld1_2 c _ r d) (mLd_at c _ 2 _ b 0 2 rfl) (fun d => aLd_at c _ 2 _ b d 2 rfl) d
  | ⟨3, _⟩ => exact hA_at _ _ _ _ _ _ _ b _ _ _ _ _ (fun d => qLd_at m c 384 _ b d _ rfl) (fun r d => kld1_3 c _ r d) (fun r d => vld1_3 c _ r d) (mLd_at c _ 3 _ b 0 3 rfl) (fun d => aLd_at c _ 3 _ b d 3 rfl) d
  | ⟨4, _⟩ => exact hA_at _ _ _ _ _ _ _ b _ _ _ _ _ (fun d => qLd_at m c 512 _ b d _ rfl) (fun r d => kld1_4 c _ r d) (fun r d => vld1_4 c _ r d) (mLd_at c _ 4 _ b 0 4 rfl) (fun d => aLd_at c _ 4 _ b d 4 rfl) d
  | ⟨5, _⟩ => exact hA_at _ _ _ _ _ _ _ b _ _ _ _ _ (fun d => qLd_at m c 640 _ b d _ rfl) (fun r d => kld1_5 c _ r d) (fun r d => vld1_5 c _ r d) (mLd_at c _ 5 _ b 0 5 rfl) (fun d => aLd_at c _ 5 _ b d 5 rfl) d
  | ⟨6, _⟩ => exact hA_at _ _ _ _ _ _ _ b _ _ _ _ _ (fun d => qLd_at m c 768 _ b d _ rfl) (fun r d => kld1_6 c _ r d) (fun r d => vld1_6 c _ r d) (mLd_at c _ 6 _ b 0 6 rfl) (fun d => aLd_at c _ 6 _ b d 6 rfl) d
  | ⟨7, _⟩ => exact hA_at _ _ _ _ _ _ _ b _ _ _ _ _ (fun d => qLd_at m c 896 _ b d _ rfl) (fun r d => kld1_7 c _ r d) (fun r d => vld1_7 c _ r d) (mLd_at c _ 7 _ b 0 7 rfl) (fun d => aLd_at c _ 7 _ b d 7 rfl) d

end Cert.KernelIdeal.Hand

end
-- ==== Proof.Mult.lean ====
module

public import proofs.«01_k».proof.Proof.HeadVal

@[expose] public section

set_option maxRecDepth 16384

noncomputable section

namespace Cert.KernelIdeal.Hand

open Cert.KernelIdeal Cert.KernelIdeal.Gen Cert.Attn
open Idealize.ShloMosaic Idealize.ShloMosaic.TcCoe

/-! ## The words -/

/-- The floor of a row number over 16, as the kernel computes it. -/
def rowPage (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 16#32 0#32)) (Scalar.extui (Scalar.cmpi .slt 16#32 0#32))))
      (IntOp.cmpi .ne (IntOp.remsi .vector w 16#32) 0#32))
    (IntOp.subi (IntOp.divsi .vector w 16#32) 1#32)
    (IntOp.divsi .vector w 16#32)

theorem rowPage_eq : ∀ k : Fin 1024, rowPage (BitVec.ofNat 32 k.val) = BitVec.ofNat 32 (k.val / 16) := by decide +kernel

/-- The page word of page `p` of a device's block. -/
theorem pageWord0 : ∀ (c : Dev nD), ∀ p : Fin 64, IntOp.addi
      (Scalar.addi
        (Scalar.addi (Scalar.muli (Scalar.remsi (Scalar.divsi c.word 4#32) 2#32) 512#32)
          (Scalar.muli
            (Scalar.addi (Scalar.muli (2#32) (Scalar.remsi (Scalar.divsi c.word 2#32) 2#32))
              (Scalar.remsi (Scalar.divsi c.word 1#32) 2#32))
            128#32))
        (Scalar.muli (BitVec.ofNat 32 (grid0.coords t0_0 0).val) 64#32))
      (BitVec.ofNat 32 p.val) = BitVec.ofNat 32 (64 * (2 * c.val) + p.val) := by decide +kernel
theorem pageWord1 : ∀ (c : Dev nD), ∀ p : Fin 64, IntOp.addi
      (Scalar.addi
        (Scalar.addi (Scalar.muli (Scalar.remsi (Scalar.divsi c.word 4#32) 2#32) 512#32)
          (Scalar.muli
            (Scalar.addi (Scalar.muli (2#32) (Scalar.remsi (Scalar.divsi c.word 2#32) 2#32))
              (Scalar.remsi (Scalar.divsi c.word 1#32) 2#32))
            128#32))
        (Scalar.muli (BitVec.ofNat 32 (grid0.coords t0_1 0).val) 64#32))
      (BitVec.ofNat 32 p.val) = BitVec.ofNat 32 (64 * (2 * c.val + 1) + p.val) := by decide +kernel

theorem pay39_0 (c : Dev nD) (p : Fin 64) (b : Fin 8) (j : Fin 512) : k0_pay39 (grid0.coords t0_0) c (ix3 p b j) = BitVec.ofNat 32 (64 * (2 * c.val) + p.val) := by
  pointwise [k0_pay39]
  exact pageWord0 c p
theorem pay39_1 (c : Dev nD) (p : Fin 64) (b : Fin 8) (j : Fin 512) : k0_pay39 (grid0.coords t0_1) c (ix3 p b j) = BitVec.ofNat 32 (64 * (2 * c.val + 1) + p.val) := by
  pointwise [k0_pay39]
  exact pageWord1 c p

variable (m : (ℓ : Loc nD τ sig) → Buf (Elt Ideal) ℓ)

theorem pay40_at (c : Dev nD) (b : Fin 8) (j : Fin 512) : k0_pay40 (lensOf c a5w (lnAt m c)) (ix2 b j) = IntOp.cmpi .slt (BitVec.ofNat 32 j.val) (lnAt m c (ix2 b 0)) := by
  pointwise [k0_pay40, lensOf]
  congr 1
  exact congrFun (View.readAt_full (View.whole cc0_stg2_0) (lnAt m c) (off := ![0, 0]) inb_S8x1_S8x1_0_0) (ix2 b 0)

theorem btLd_at (c : Dev nD) : btLd m c = btAt m c :=
  View.readAt_full a4w.view (btAt m c) (off := ![0, 0]) inb_S8x512_S8x512_0_0

/-! ## The multiplicities -/

theorem bit_word (w : BitVec 1) : (FloatOps.sitofp (F := Ideal) .f32 (BitVec.setWidth 32 w) : EReal) = ((if w = 1#1 then 1 else 0 : ℝ) : EReal) := by
  revert w
  have h : ∀ w : BitVec 1, (BitVec.setWidth 32 w).toInt = if w = 1#1 then 1 else 0 := by decide
  intro w
  show (((BitVec.setWidth 32 w).toInt : ℝ) : EReal) = _
  rw [h]
  split <;> norm_num

theorem cmpi_eq_one {n : ℕ} (u w : BitVec n) : IntOp.cmpi .eq u w = 1#1 ↔ u = w := by
  show BitVec.ofBool (u == w) = 1#1 ↔ _
  cases h : (u == w)
  · simp only [beq_eq_false_iff_ne] at h
    exact ⟨fun e => absurd e (by decide), fun e => absurd e h⟩
  · exact ⟨fun _ => eq_of_beq h, fun _ => rfl⟩

theorem and_eq_one : ∀ u w : BitVec 1, IntOp.andi u w = 1#1 ↔ u = 1#1 ∧ w = 1#1 := by decide

theorem crep_at (β : Fin 16) (pw : IVec S64x8x512 32) (okw : IVec S8x512 1) (bt : Vec Ideal S8x512 .i32) (len : BitVec 32) (b : Fin 8)
    (hp : ∀ p j, pw (ix3 p b j) = BitVec.ofNat 32 (64 * β.val + p.val)) (ho : ∀ j, okw (ix2 b j) = IntOp.cmpi .slt (BitVec.ofNat 32 j.val) len)
    (hb : ∀ j, ok len j → (bt (ix2 b j)).toNat < 1024) (k : Fin 1024) :
    (k0_pay41 pw okw bt (ix2 b k) : EReal) = (mult len (fun j => bt (ix2 b j)) β k : ℝ) := by
  have e : (k0_pay41 pw okw bt (ix2 b k) : EReal) = ∑ x : Fin 64, (∑ y : Fin 512,
        FloatOps.sitofp (F := Ideal) .f32 (BitVec.setWidth 32 (IntOp.andi (IntOp.cmpi .eq (bt (ix2 b y)) (pw (ix3 x b y))) (okw (ix2 b y))))) *
      FloatOps.sitofp (F := Ideal) .f32 (BitVec.setWidth 32 (IntOp.cmpi .eq (BitVec.ofNat 32 x.val) (rowPage (BitVec.ofNat 32 k.val)))) := by
    pointwise [k0_pay41]
    rfl
  rw [e]
  have hx : ∀ x : Fin 64, (FloatOps.sitofp (F := Ideal) .f32 (BitVec.setWidth 32 (IntOp.cmpi .eq (BitVec.ofNat 32 x.val) (rowPage (BitVec.ofNat 32 k.val)))) : EReal)
      = ((if x = (⟨k.val / 16, by omega⟩ : Fin 64) then 1 else 0 : ℝ) : EReal) := fun x => by
    rw [bit_word, rowPage_eq]
    congr 1
    refine if_congr ?_ rfl rfl
    rw [cmpi_eq_one, Fin.ext_iff]
    refine ⟨fun h => ?_, fun h => congrArg _ h⟩
    have := congrArg BitVec.toNat h
    simp only [BitVec.toNat_ofNat] at this
    have h1 := x.isLt; have h2 := k.isLt
    show x.val = k.val / 16
    omega
  have hy : ∀ x : Fin 64, (∑ y : Fin 512, FloatOps.sitofp (F := Ideal) .f32 (BitVec.setWidth 32 (IntOp.andi (IntOp.cmpi .eq (bt (ix2 b y)) (pw (ix3 x b y))) (okw (ix2 b y)))) : EReal)
      = (Cert.Attn.count (ok len) (page fun j => bt (ix2 b j)) ⟨64 * β.val + x.val, by omega⟩ : ℝ) := fun x => by
    unfold Cert.Attn.count
    rw [coe_sum]
    refine Finset.sum_congr rfl fun y _ => ?_
    rw [bit_word]
    congr 1
    refine if_congr ?_ rfl rfl
    rw [and_eq_one, cmpi_eq_one, hp, ho, and_comm]
    refine and_congr_right fun hok => ?_
    have hlt := hb y hok
    rw [Fin.ext_iff]
    show _ ↔ min (bt (ix2 b y)).toNat 1023 = 64 * β.val + x.val
    have h1 := x.isLt; have h2 := β.isLt
    constructor
    · intro h
      rw [h, BitVec.toNat_ofNat]; omega
    · intro h
      refine BitVec.eq_of_toNat_eq ?_
      rw [BitVec.toNat_ofNat]; omega
  simp only [hx, hy]
  rw [Finset.sum_eq_single (⟨k.val / 16, by omega⟩ : Fin 64) (fun x _ hne => by rw [if_neg hne]; simp) (fun h => absurd (Finset.mem_univ _) h)]
  rw [if_pos rfl]
  simp [mult]

theorem cpos_at (β : Fin 16) (pw : IVec S64x8x512 32) (okw : IVec S8x512 1) (bt : Vec Ideal S8x512 .i32) (b : Fin 8) (k : Fin 1024) (n : ℝ) (hn : 0 ≤ n)
    (h : (k0_pay41 pw okw bt (ix2 b k) : EReal) = (n : ℝ)) : k0_pay42 pw okw bt (ix2 b k) = BitVec.ofBool (decide (n ≠ 0)) := by
  have e : k0_pay42 pw okw bt (ix2 b k) = Ideal.cmp .ogt (k0_pay41 pw okw bt (ix2 b k)) (Ideal.ofBits .f32 0x00000000#32) := by
    pointwise [k0_pay42]
  rw [e, h, zero_word]
  show BitVec.ofBool (decide ((0 : EReal) < (n : EReal))) = _
  congr 1
  refine decide_eq_decide.2 ?_
  rw [EReal.coe_pos]
  exact ⟨fun h => h.ne', fun h => lt_of_le_of_ne hn (Ne.symm h)⟩

end Cert.KernelIdeal.Hand

end
-- ==== Proof.Out.lean ====
module

public import proofs.«01_k».proof.Proof.Frames
public import Idealize.ShloMosaic.Lib.Pipeline.ValueKit.Geometry
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]
variable (m : (ℓ : Loc nD τ sig) → Buf (Elt F) ℓ)

/-! ## The result array -/

theorem final_out (c : Dev nD) : finalA m c (3 : Fin 4) = outAt m c := by
  unfold finalA
  refine (dats m 0 c).arrAt_eq_of_after_last 3 t0_1 (by decide +kernel) _ (fun j => ?_)
  rfl

/-! ## The staged arguments are the whole arguments -/

theorem qAt_eq (c : Dev nD) (b : Fin 8) (j : Fin 1024) : qAt m c (ix2 b j) = m ((c : Thread nD τ).loc main_arg0) (ix2 b j) := by
  show m ((c : Thread nD τ).loc main_arg0) (((cfg0.win 0).blk t0_0).view.emb (ix2 b j)) = _
  refine congrArg _ (funext fun a => Fin.ext ?_)
  fin_cases a
  · show 0 + 1 * b.val = b.val; omega
  · show 0 + 1 * j.val = j.val; omega

theorem btAt_eq (c : Dev nD) (b : Fin 8) (j : Fin 512) : btAt m c (ix2 b j) = m ((c : Thread nD τ).loc main_arg3) (ix2 b j) := by
  show m ((c : Thread nD τ).loc main_arg3) (((cfg0.win 1).blk t0_0).view.emb (ix2 b j)) = _
  refine congrArg _ (funext fun a => Fin.ext ?_)
  fin_cases a
  · show 0 + 1 * b.val = b.val; omega
  · show 0 + 1 * j.val = j.val; omega

theorem lnAt_eq (c : Dev nD) (b : Fin 8) : lnAt m c (ix2 b 0) = m ((c : Thread nD τ).loc main_arg4) (ix2 b 0) := by
  show m ((c : Thread nD τ).loc main_arg4) (((cfg0.win 2).blk t0_0).view.emb (ix2 b 0)) = _
  refine congrArg _ (funext fun a => Fin.ext ?_)
  fin_cases a
  · show 0 + 1 * b.val = b.val; omega
  · rfl

end Cert.KernelIdeal.Hand

end
-- ==== Proof.KerVal.lean ====
module

public import proofs.«01_k».proof.Proof.Mult
public import proofs.«01_k».proof.Proof.Out

@[expose] public section

set_option maxRecDepth 16384

noncomputable section

namespace Cert.KernelIdeal.Hand

open Cert.KernelIdeal Cert.KernelIdeal.Gen Cert.Attn
open Idealize.ShloMosaic Idealize.ShloMosaic.TcCoe

variable (m : (ℓ : Loc nD τ sig) → Buf (Elt Ideal) ℓ)

/-- The global block that block `x` of device `c` is. -/
abbrev gblk (x : Fin 2) (c : Dev nD) : Fin 16 := ⟨2 * c.val + x.val, by have := c.isLt; have : nD = 8 := rfl; omega⟩

/-- The row of the whole caches that a device's row is. -/
abbrev grow (c : Dev nD) (r : Fin 8192) : Fin 16384 := ⟨8192 * (c.val / 4) + r.val, by have := c.isLt; have : nD = 8 := rfl; omega⟩

theorem grow_lrow0 : ∀ (c : Dev nD), ∀ k : Fin 1024, grow c (lrow0 c k) = brow (gblk 0 c) k := fun c k => Fin.ext (by
  show 8192 * (c.val / 4) + (2048 * (c.val % 4) + k.val) = 1024 * (2 * c.val + 0) + k.val
  omega)
theorem grow_lrow1 : ∀ (c : Dev nD), ∀ k : Fin 1024, grow c (lrow1 c k) = brow (gblk 1 c) k := fun c k => Fin.ext (by
  show 8192 * (c.val / 4) + (2048 * (c.val % 4) + 1024 + k.val) = 1024 * (2 * c.val + 1) + k.val
  omega)

/-- The devices hold the halves of the caches and the same queries, tables and lengths, and these are usable. -/
structure Given (Q : Fin 8 → Fin 1024 → EReal) (K V : Fin 16384 → Fin 8 → Fin 128 → EReal) (bt : Fin 8 → Fin 512 → BitVec 32) (ln : Fin 8 → BitVec 32) : Prop where
  q : ∀ c b j, qAt m c (ix2 b j) = Q b j
  k : ∀ c r h d, kAt m c (ix3 r h d) = K (grow c r) h d
  v : ∀ c r h d, vAt m c (ix3 r h d) = V (grow c r) h d
  tb : ∀ c b j, btAt m c (ix2 b j) = bt b j
  len : ∀ c b, lnAt m c (ix2 b 0) = ln b
  hq : ∀ b j, ∃ r : ℝ, Q b j = r
  hk : ∀ r h d, ∃ t : ℝ, K r h d = t
  hb : ∀ b p, ok (ln b) p → (bt b p).toNat < 1024

/-- The queries of head `h` of row `b`. -/
abbrev qG (Q : Fin 8 → Fin 1024 → EReal) (h b : Fin 8) : Fin 128 → EReal := fun d => Q b ⟨128 * h.val + d.val, by omega⟩
/-- Head `h` of a cache. -/
abbrev kG (K : Fin 16384 → Fin 8 → Fin 128 → EReal) (h : Fin 8) : Fin 16384 → Fin 128 → EReal := fun r d => K r h d

section
variable {Q : Fin 8 → Fin 1024 → EReal} {K V : Fin 16384 → Fin 8 → Fin 128 → EReal} {bt : Fin 8 → Fin 512 → BitVec 32} {ln : Fin 8 → BitVec 32}

/-- A set of blocks represented by a running maximum, sum and weighted sum, for head `h` of row `b`. -/
abbrev RepG (Q : Fin 8 → Fin 1024 → EReal) (K V : Fin 16384 → Fin 8 → Fin 128 → EReal) (bt : Fin 8 → Fin 512 → BitVec 32) (ln : Fin 8 → BitVec 32)
    (h b : Fin 8) (A : Finset (Fin 16)) (M L : EReal) (a : Fin 128 → EReal) : Prop :=
  Rep (mult (ln b) (bt b)) (fun β k => score (qG Q h b) (kG K h) (brow β k)) (fun β k => kG V h (brow β k)) A M L a

variable {m}

theorem cr0_at (G : Given m Q K V bt ln) (c : Dev nD) (b : Fin 8) (k : Fin 1024) : (cr0 m c (ix2 b k) : EReal) = (mult (ln b) (bt b) (gblk 0 c) k : ℝ) := by
  refine (crep_at (gblk 0 c) _ _ _ (ln b) b (fun p j => pay39_0 c p b j) (fun j => (pay40_at m c b j).trans (by rw [G.len])) (fun j hj => ?_) k).trans ?_
  · rw [btLd_at, G.tb]; exact G.hb b j hj
  · congr 2
    funext j
    rw [btLd_at, G.tb]
theorem cr1_at (G : Given m Q K V bt ln) (c : Dev nD) (b : Fin 8) (k : Fin 1024) : (cr1 m c (ix2 b k) : EReal) = (mult (ln b) (bt b) (gblk 1 c) k : ℝ) := by
  refine (crep_at (gblk 1 c) _ _ _ (ln b) b (fun p j => pay39_1 c p b j) (fun j => (pay40_at m c b j).trans (by rw [G.len])) (fun j hj => ?_) k).trans ?_
  · rw [btLd_at, G.tb]; exact G.hb b j hj
  · congr 2
    funext j
    rw [btLd_at, G.tb]

theorem mult_nonneg (len : BitVec 32) (t : Fin 512 → BitVec 32) (β : Fin 16) (k : Fin 1024) : 0 ≤ mult len t β k := count_nonneg _ _ _

theorem cp0_at (G : Given m Q K V bt ln) (c : Dev nD) (b : Fin 8) (k : Fin 1024) : cp0 m c (ix2 b k) = BitVec.ofBool (decide (mult (ln b) (bt b) (gblk 0 c) k ≠ 0)) :=
  cpos_at (gblk 0 c) _ _ _ b k _ (mult_nonneg _ _ _ _) (cr0_at G c b k)
theorem cp1_at (G : Given m Q K V bt ln) (c : Dev nD) (b : Fin 8) (k : Fin 1024) : cp1 m c (ix2 b k) = BitVec.ofBool (decide (mult (ln b) (bt b) (gblk 1 c) k ≠ 0)) :=
  cpos_at (gblk 1 c) _ _ _ b k _ (mult_nonneg _ _ _ _) (cr1_at G c b k)

/-- The masked scores are real, and are the scores where the row is attended. -/
theorem sm_real (cp : IVec S8x1024 1) (b : Fin 8) (q : Fin 128 → EReal) (Kb : Fin 1024 → Fin 128 → EReal) (k : Fin 1024) (n t : ℝ)
    (hc : cp (ix2 b k) = BitVec.ofBool (decide (n ≠ 0))) (hs : (∑ d, q d * Kb k d) * Ideal.ofBits .f32 0x3DB504F3#32 = (t : EReal)) :
    ∃ r : ℝ, sm cp b q Kb k = r ∧ (n ≠ 0 → r = t) := by
  unfold sm
  rw [hc, hs]
  by_cases h : n = 0
  · obtain ⟨f, hf⟩ := floor_word
    refine ⟨f, ?_, fun hn => absurd h hn⟩
    rw [← hf, decide_eq_false (by simpa using h)]; rfl
  · refine ⟨t, ?_, fun _ => rfl⟩
    rw [decide_eq_true h]; rfl

theorem sm0_real (G : Given m Q K V bt ln) (c : Dev nD) (h b : Fin 8) (k : Fin 1024) :
    ∃ r : ℝ, sm (cp0 m c) b (qf m c h b) (kf0 m c h) k = r ∧ (mult (ln b) (bt b) (gblk 0 c) k ≠ 0 → r = score (qG Q h b) (kG K h) (brow (gblk 0 c) k)) := by
  refine sm_real _ _ _ _ k _ _ (cp0_at G c b k) ?_
  rw [← score_eq (qG Q h b) (kG K h) (fun d => G.hq b _) (brow (gblk 0 c) k) (fun d => G.hk _ h d)]
  congr 1
  refine Finset.sum_congr rfl fun d _ => ?_
  exact congrArg₂ (fun x y : EReal => x * y) (G.q c b _) ((G.k c _ h d).trans (by rw [grow_lrow0]))
theorem sm1_real (G : Given m Q K V bt ln) (c : Dev nD) (h b : Fin 8) (k : Fin 1024) :
    ∃ r : ℝ, sm (cp1 m c) b (qf m c h b) (kf1 m c h) k = r ∧ (mult (ln b) (bt b) (gblk 1 c) k ≠ 0 → r = score (qG Q h b) (kG K h) (brow (gblk 1 c) k)) := by
  refine sm_real _ _ _ _ k _ _ (cp1_at G c b k) ?_
  rw [← score_eq (qG Q h b) (kG K h) (fun d => G.hq b _) (brow (gblk 1 c) k) (fun d => G.hk _ h d)]
  congr 1
  refine Finset.sum_congr rfl fun d _ => ?_
  exact congrArg₂ (fun x y : EReal => x * y) (G.q c b _) ((G.k c _ h d).trans (by rw [grow_lrow1]))

/-! ## The values a device starts from -/

theorem pay3_at (h b : Fin 8) : (k0_pay3 : FVec Ideal S8x8x1 .f32) (ix3 h b 0) = Ideal.ofBits .f32 0xF149F2CA#32 := by
  pointwise [k0_pay3]
theorem pay4_at (h b : Fin 8) : (k0_pay4 : FVec Ideal S8x8x1 .f32) (ix3 h b 0) = (0 : EReal) := by
  have e : (k0_pay4 : FVec Ideal S8x8x1 .f32) (ix3 h b 0) = Ideal.ofBits .f32 0x00000000#32 := by pointwise [k0_pay4]
  exact e.trans zero_word
theorem pay5_at (h b : Fin 8) (d : Fin 128) : (k0_pay5 : FVec Ideal S8x8x128 .f32) (ix3 h b d) = (0 : EReal) := by
  have e : (k0_pay5 : FVec Ideal S8x8x128 .f32) (ix3 h b d) = Ideal.ofBits .f32 0x00000000#32 := by pointwise [k0_pay5]
  exact e.trans zero_word

theorem rep_part0 (G : Given m Q K V bt ln) (c : Dev nD) (h b : Fin 8) :
    RepG Q K V bt ln h b {gblk 0 c} (pM0 m c (ix3 h b 0)) (pL0 m c (ix3 h b 0)) (fun d => pA0 m c (ix3 h b d)) := by
  obtain ⟨f, hf⟩ := floor_word
  have h0 := rep_step (mult (ln b) (bt b)) (fun β k => score (qG Q h b) (kG K h) (brow β k)) (fun β k => kG V h (brow β k))
    (rep_empty _ _ _ f) (β := gblk 0 c) (Finset.notMem_empty _) (fun k => mult_nonneg _ _ _ _) (sm (cp0 m c) b (qf m c h b) (kf0 m c h)) (sm0_real G c h b)
  rw [insert_empty_eq] at h0
  have e3 := (pay3_at h b).trans hf
  rw [part0_m_at, part0_l_at]
  simp only [part0_a_at, e3, pay4_at, pay5_at, cr0_at G, G.v, grow_lrow0]
  exact h0

theorem rep_part1 (G : Given m Q K V bt ln) (c : Dev nD) (h b : Fin 8) :
    RepG Q K V bt ln h b {gblk 1 c, gblk 0 c} (pM1 m c (ix3 h b 0)) (pL1 m c (ix3 h b 0)) (fun d => pA1 m c (ix3 h b d)) := by
  have h1 := rep_step (mult (ln b) (bt b)) (fun β k => score (qG Q h b) (kG K h) (brow β k)) (fun β k => kG V h (brow β k))
    (rep_part0 G c h b) (β := gblk 1 c) (by simp [gblk]) (fun k => mult_nonneg _ _ _ _) (sm (cp1 m c) b (qf m c h b) (kf1 m c h)) (sm1_real G c h b)
  rw [part1_m_at, part1_l_at]
  simp only [part1_a_at, cr1_at G, G.v, grow_lrow1]
  exact h1

/-! ## The three merges -/

/-- A partial result represents a set of blocks. -/
def RepP (Q : Fin 8 → Fin 1024 → EReal) (K V : Fin 16384 → Fin 8 → Fin 128 → EReal) (bt : Fin 8 → Fin 512 → BitVec 32) (ln : Fin 8 → BitVec 32)
    (h b : Fin 8) (A : Finset (Fin 16)) (p : Part Ideal) : Prop :=
  RepG Q K V bt ln h b A (p.m (ix3 h b 0)) (p.l (ix3 h b 0)) (fun d => p.a (ix3 h b d))

theorem merge_m_at (M L : FVec Ideal S8x8x1 .f32) (A : FVec Ideal S8x8x128 .f32) (M' L' : FVec Ideal S8x8x1 .f32) (A' : FVec Ideal S8x8x128 .f32) (h b : Fin 8) :
    ((Part.merge (F := Ideal) ⟨M, L, A⟩ ⟨M', L', A'⟩).m : FVec Ideal S8x8x1 .f32) (ix3 h b 0) = max (M (ix3 h b 0)) (M' (ix3 h b 0)) := by
  pointwise [Part.merge]
theorem merge_l_at (M L : FVec Ideal S8x8x1 .f32) (A : FVec Ideal S8x8x128 .f32) (M' L' : FVec Ideal S8x8x1 .f32) (A' : FVec Ideal S8x8x128 .f32) (h b : Fin 8) :
    ((Part.merge (F := Ideal) ⟨M, L, A⟩ ⟨M', L', A'⟩).l : FVec Ideal S8x8x1 .f32) (ix3 h b 0) = L (ix3 h b 0) * Ideal.exp (M (ix3 h b 0) - max (M (ix3 h b 0)) (M' (ix3 h b 0)))
      + L' (ix3 h b 0) * Ideal.exp (M' (ix3 h b 0) - max (M (ix3 h b 0)) (M' (ix3 h b 0))) := by
  pointwise [Part.merge]
theorem merge_a_at (M L : FVec Ideal S8x8x1 .f32) (A : FVec Ideal S8x8x128 .f32) (M' L' : FVec Ideal S8x8x1 .f32) (A' : FVec Ideal S8x8x128 .f32) (h b : Fin 8) (d : Fin 128) :
    ((Part.merge (F := Ideal) ⟨M, L, A⟩ ⟨M', L', A'⟩).a : FVec Ideal S8x8x128 .f32) (ix3 h b d) = A (ix3 h b d) * Ideal.exp (M (ix3 h b 0) - max (M (ix3 h b 0)) (M' (ix3 h b 0)))
      + A' (ix3 h b d) * Ideal.exp (M' (ix3 h b 0) - max (M (ix3 h b 0)) (M' (ix3 h b 0))) := by
  pointwise [Part.merge]
theorem out_at (M L : FVec Ideal S8x8x1 .f32) (A : FVec Ideal S8x8x128 .f32) (h b : Fin 8) (d : Fin 128) :
    ((Part.mk (F := Ideal) M L A).out : FVec Ideal S8x8x128 .f32) (ix3 h b d) = Ideal.div (A (ix3 h b d)) (L (ix3 h b 0)) := by
  pointwise [Part.out, k0_pay2]

theorem RepP.merge {h b : Fin 8} {A B : Finset (Fin 16)} {p p' : Part Ideal} (hp : RepP Q K V bt ln h b A p) (hp' : RepP Q K V bt ln h b B p') (hd : Disjoint A B) :
    RepP Q K V bt ln h b (A ∪ B) (p.merge p') := by
  obtain ⟨M, L, a⟩ := p
  obtain ⟨M', L', a'⟩ := p'
  have := rep_merge _ _ _ hp hp' hd
  unfold RepP
  rw [merge_m_at, merge_l_at]
  simp only [merge_a_at]
  exact this

/-- The blocks a device's partial result covers before each merge, and after the last. -/
def S0 (c : Dev nD) : Finset (Fin 16) := {gblk 1 c, gblk 0 c}
def S1 (c : Dev nD) : Finset (Fin 16) := S0 c ∪ S0 (peer 0 c)
def S2 (c : Dev nD) : Finset (Fin 16) := S1 c ∪ S1 (peer 1 c)

theorem disj0 : ∀ c : Dev nD, Disjoint (S0 c) (S0 (peer 0 c)) := by decide +kernel
theorem disj1 : ∀ c : Dev nD, Disjoint (S1 c) (S1 (peer 1 c)) := by decide +kernel
theorem disj2 : ∀ c : Dev nD, Disjoint (S2 c) (S2 (peer 2 c)) := by decide +kernel
theorem all3 : ∀ c : Dev nD, S2 c ∪ S2 (peer 2 c) = Finset.univ := by decide +kernel

theorem rep_T0 (G : Given m Q K V bt ln) (c : Dev nD) (h b : Fin 8) : RepP Q K V bt ln h b (S0 c) (T m 0 c) := rep_part1 G c h b
theorem rep_T1 (G : Given m Q K V bt ln) (c : Dev nD) (h b : Fin 8) : RepP Q K V bt ln h b (S1 c) (T m 1 c) := by
  rw [T_one]; exact (rep_T0 G c h b).merge (rep_T0 G _ h b) (disj0 c)
theorem rep_T2 (G : Given m Q K V bt ln) (c : Dev nD) (h b : Fin 8) : RepP Q K V bt ln h b (S2 c) (T m 2 c) := by
  rw [T_two]; exact (rep_T1 G c h b).merge (rep_T1 G _ h b) (disj1 c)

/-- The kernel's result on every device: the attention over all the attended rows. -/
theorem out_value (G : Given m Q K V bt ln) (c : Dev nD) (h b : Fin 8) :
    ∃ μ : ℝ, ∀ d : Fin 128, (outAt m c (ix3 h b d) : EReal) = attn (ln b) (bt b) (qG Q h b) (kG K h) (kG V h) μ d := by
  have hr := (rep_T2 G c h b).merge (rep_T2 G (peer 2 c) h b) (disj2 c)
  rw [all3] at hr
  obtain ⟨μ, hμ⟩ := attn_of_rep (ln b) (bt b) (qG Q h b) (kG K h) (kG V h) hr
  refine ⟨μ, fun d => ?_⟩
  rw [← hμ d]
  exact out_at _ _ _ h b d

end

end Cert.KernelIdeal.Hand

end
-- ==== Proof.RefVal.lean ====
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

/-- The gather of whole pages, at an index: the page is the table's word, read signed and clamped. -/
theorem gather_at {α : Type} (x : S1024x16x8x128.Idx → α) (idx : IVec S8x512x1 32) (b : Fin 8) (p : Fin 512) (i : Fin 16) (h : Fin 8) (d : Fin 128) :
    Host.gather gather_S1024x16x8x128_S8x512x1_S8x512x16x8x128_234_0_n_n_0_2_1168128 x idx (ix5 b p i h d)
      = x (ix4 ⟨min (idx (ix3 b p 0)).toInt.toNat 1023, by omega⟩ i h d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  fin_cases a
  · rw [GatherDims.offCoord_eq_zero _ _ _ (fun h => ((GatherDims.mem_sKept _ _).mp h).1 (List.mem_singleton.mpr rfl)), Nat.add_zero]
    unfold GatherDims.start
    refine (dif_pos (show (0 : Fin 4) ∈ [(0 : Fin 4)] from List.mem_singleton.mpr rfl)).trans ?_
    show min (idx _).toInt.toNat (1024 - 1) = _
    congr 4
    funext c
    refine Fin.ext ?_
    fin_cases c <;> rfl
  all_goals
    unfold GatherDims.start
    rw [dif_neg (by decide), Nat.zero_add]
    rfl

open Cert.Attn

/-- The words the gather reads: the table's, a negative one wrapped. -/
theorem start_at (bt : IVec S8x512 32) (b : Fin 8) (p : Fin 512) (hb : (bt (ix2 b p)).toNat < 1024) :
    broadcastInDim S8x512x1 ![0, 1] bcast_S8x512_S8x512x1_0_1
      (select (cmpi .slt bt (broadcastInDim S8x512 ![] bcast_S_S8x512 (constantI S_ 32 0#32)))
        (addi bt (broadcastInDim S8x512 ![] bcast_S_S8x512 (constantI S_ 32 1024#32))) bt) (ix3 b p 0) = bt (ix2 b p) := by
  pointwise
  generalize bt (ix2 b p) = w at hb ⊢
  have h0 : IntOp.cmpi .slt w 0#32 = 0#1 := by
    simp only [IntOp.cmpi]
    rw [show w.slt 0#32 = false by simp [BitVec.slt, BitVec.toInt_eq_toNat_cond]; omega]; rfl
  simp [h0, Scalar.select]

/-- A gathered element of a paged cache. -/
theorem gathered (X : S16384x8x128.Idx → EReal) (bt : IVec S8x512 32) (b : Fin 8) (p : Fin 512) (i : Fin 16) (h : Fin 8) (d : Fin 128) (hb : (bt (ix2 b p)).toNat < 1024) :
    Host.gather gather_S1024x16x8x128_S8x512x1_S8x512x16x8x128_234_0_n_n_0_2_1168128
      (shapeCast S1024x16x8x128 X shapeCasts_S16384x8x128_S1024x16x8x128)
      (broadcastInDim S8x512x1 ![0, 1] bcast_S8x512_S8x512x1_0_1
        (select (cmpi .slt bt (broadcastInDim S8x512 ![] bcast_S_S8x512 (constantI S_ 32 0#32)))
          (addi bt (broadcastInDim S8x512 ![] bcast_S_S8x512 (constantI S_ 32 1024#32))) bt)) (ix5 b p i h d)
      = X (ix3 (row (page (fun p => bt (ix2 b p)) p) i) h d) := by
  rw [gather_at]
  have e : ∀ P : Fin 1024, shapeCast S1024x16x8x128 X shapeCasts_S16384x8x128_S1024x16x8x128 (ix4 P i h d) = X (ix3 (row P i) h d) := fun P => by
    pointwise
    congr 2
    exact Fin.ext (by show P.val * 16 + i.val = 16 * P.val + i.val; omega)
  rw [e]
  congr 3
  refine Fin.ext ?_
  show min _ 1023 = min _ 1023
  rw [start_at bt b p hb]
  congr 1
  rw [BitVec.toInt_eq_toNat_cond, if_pos (by omega)]
  rfl

variable (m : (ℓ : Loc nD τ sig) → Buf (Elt Ideal) ℓ) (c : Dev nD)

abbrev qR (b h : Fin 8) : Fin 128 → EReal := fun d => m ((c : Thread nD τ).loc main_arg0) (ix2 b ⟨h.val * 128 + d.val, by omega⟩)
abbrev kR (h : Fin 8) : Fin 16384 → Fin 128 → EReal := fun r d => m ((c : Thread nD τ).loc main_arg1) (ix3 r h d)
abbrev vR (h : Fin 8) : Fin 16384 → Fin 128 → EReal := fun r d => m ((c : Thread nD τ).loc main_arg2) (ix3 r h d)
abbrev btR (b : Fin 8) : Fin 512 → BitVec 32 := fun p => m ((c : Thread nD τ).loc main_arg3) (ix2 b p)
abbrev lnR (b : Fin 8) : BitVec 32 := m ((c : Thread nD τ).loc main_arg4) (ix2 b 0)

/-- The reference's result is the attention of each head of each query. -/
theorem ref_value (hq : ∀ j, ∃ r : ℝ, m ((c : Thread nD τ).loc main_arg0) j = (r : EReal)) (hk : ∀ j, ∃ r : ℝ, m ((c : Thread nD τ).loc main_arg1) j = (r : EReal))
    (hl : ∀ b, ∃ p, ok (lnR m c b) p) (hb : ∀ b p, ok (lnR m c b) p → (btR m c b p).toNat < 1024) (h b : Fin 8) (d : Fin 128) (μ : ℝ) :
    res_main_v39 m c (ix3 h b d) = attn (lnR m c b) (btR m c b) (qR m c b h) (kR m c h) (vR m c h) μ d := by
  unfold res_main_v39
  pointwise
  rw [bot_word]
  refine attn_softmax _ _ _ _ _ (hl b) μ d _ ?_ _ ?_
  · intro x
    by_cases hx : ok (lnR m c b) (pos x)
    · rw [if_pos hx, ← score_eq (qR m c b h) (kR m c h) (fun d => hq _) _ (fun d => hk _)]
      refine Eq.trans (congrArg (fun w => Scalar.select w _ _) hx) ?_
      refine congrArg (· * Ideal.ofBits .f32 0x3DB504F3#32) (Finset.sum_congr rfl fun d' _ => congrArg (qR m c b h d' * ·) ?_)
      exact gathered (m ((c : Thread nD τ).loc main_arg1)) (m ((c : Thread nD τ).loc main_arg3)) b (pos x) (off x) h d' (hb b _ hx)
    · rw [if_neg hx]
      have h0 : IntOp.cmpi .slt (BitVec.ofNat 32 (pos x).val) (lnR m c b) = 0#1 := by
        have hw : ∀ w : BitVec 1, ¬ w = 1#1 → w = 0#1 := by decide
        exact hw _ hx
      refine Eq.trans (congrArg (fun w => Scalar.select w _ _) h0) ?_
      exact bot_word
  · intro x hx
    exact gathered (m ((c : Thread nD τ).loc main_arg2)) (m ((c : Thread nD τ).loc main_arg3)) b (pos x) (off x) h d (hb b _ hx)

end Cert.ReferenceIdeal.Hand

end
-- ==== Proof.Pre.lean ====
module

public import proofs.«01_k».proof.Defs
public import proofs.«01_k».proof.Proof.Spec
public import Idealize.ShloMosaic.Lib.ReduceAll
public import Idealize.ShloMosaic.Lib.Pointwise
public import Idealize.ShloMosaic.Lib.Layout

@[expose] public section

set_option maxRecDepth 16384

noncomputable section

namespace Cert.Pre_usable_KernelIdeal

open Idealize.ShloMosaic Cert.Attn

variable [Facts]
open Facts

/-- A word of magnitude below infinity is a real. -/
theorem real_of_abs (x : EReal) (h : Ideal.cmp .olt (max x (-x)) (Ideal.ofBits .f32 0x7F800000#32) = 1#1) : ∃ r : ℝ, x = r := by
  rw [top_word] at h
  have h' : BitVec.ofBool (decide (max x (-x) < (⊤ : EReal))) = 1#1 := h
  have hlt : max x (-x) < (⊤ : EReal) := by
    by_contra hn
    rw [decide_eq_false hn] at h'
    exact absurd h' (by decide)
  induction x using EReal.rec with
  | bot => simp at hlt
  | top => simp at hlt
  | coe r => exact ⟨r, rfl⟩

theorem and_one : ∀ u w : BitVec 1, IntOp.andi u w = 1#1 → u = 1#1 ∧ w = 1#1 := by decide

/-- What the precondition says of one device's arguments. -/
theorem usable_parts (Q : FVec Ideal S8x1024 .f32) (K V : FVec Ideal S8192x8x128 .f32) (bt : IVec S8x512 32) (ln : IVec S8x1 32)
    (h : fn (F := Ideal) Q K V bt ln = fun _ => 1#1) :
    (∀ b j, ∃ r : ℝ, Q (ix2 b j) = (r : EReal)) ∧ (∀ r g d, ∃ t : ℝ, K (ix3 r g d) = (t : EReal)) ∧ (∀ b, IntOp.cmpi .sge (ln (ix2 b 0)) 1#32 = 1#1)
      ∧ ∀ b p, IntOp.ori (~~~ (IntOp.cmpi .slt (BitVec.ofNat 32 p.val) (ln (ix2 b 0))))
          (IntOp.andi (IntOp.cmpi .sge (bt (ix2 b p)) 0#32) (IntOp.cmpi .slt (bt (ix2 b p)) 1024#32)) = 1#1 := by
  have h0 := congrFun h ix0
  simp only [fn, fn_part1] at h0
  obtain ⟨h1, hb⟩ := and_one _ _ h0
  obtain ⟨h2, hl⟩ := and_one _ _ h1
  obtain ⟨hq, hk⟩ := and_one _ _ h2
  haveI : Subsingleton S_.Idx := ⟨fun a b => funext fun i => i.elim0⟩
  refine ⟨fun b j => ?_, fun r g d => ?_, fun b => ?_, fun b p => ?_⟩
  · have := Host.reduce_andi_all _ _ _ _ _ hq (ix2 b j)
    exact real_of_abs _ this
  · have := Host.reduce_andi_all _ _ _ _ _ hk (ix3 r g d)
    exact real_of_abs _ this
  · have := Host.reduce_andi_all _ _ _ _ _ hl (ix2 b 0)
    exact this
  · have := Host.reduce_andi_all _ _ _ _ _ hb (ix2 b p)
    refine Eq.trans ?_ this
    symm
    pointwise

/-- A usable length reaches position 0. -/
theorem ok_zero (l : BitVec 32) (h : IntOp.cmpi .sge l 1#32 = 1#1) : ok l 0 := by
  have h1 : BitVec.ofBool ((1#32 : BitVec 32).sle l) = 1#1 := h
  show BitVec.ofBool ((BitVec.ofNat 32 0).slt l) = 1#1
  have h2 : (1#32 : BitVec 32).sle l = true := by
    cases e : (1#32 : BitVec 32).sle l
    · rw [e] at h1; exact absurd h1 (by decide)
    · rfl
  have h3 : (1#32 : BitVec 32).toInt ≤ l.toInt := by simpa [BitVec.sle] using h2
  have h4 : (BitVec.ofNat 32 0).slt l = true := by
    have : (1#32 : BitVec 32).toInt = 1 := by decide
    have h0 : (BitVec.ofNat 32 0 : BitVec 32).toInt = 0 := by decide
    simp only [BitVec.slt, h0, decide_eq_true_eq]
    omega
  rw [h4]; rfl

/-- A usable table entry at an attended position is a page number. -/
theorem page_lt (l t : BitVec 32) (p : Fin 512) (h : IntOp.ori (~~~ (IntOp.cmpi .slt (BitVec.ofNat 32 p.val) l))
      (IntOp.andi (IntOp.cmpi .sge t 0#32) (IntOp.cmpi .slt t 1024#32)) = 1#1) (hp : ok l p) : t.toNat < 1024 := by
  have hp' : IntOp.cmpi .slt (BitVec.ofNat 32 p.val) l = 1#1 := hp
  rw [hp'] at h
  have key : ∀ u : BitVec 1, IntOp.ori (~~~ (1#1 : BitVec 1)) u = 1#1 → u = 1#1 := by decide
  obtain ⟨ha, hb⟩ := and_one _ _ (key _ h)
  have ha' : BitVec.ofBool ((0#32 : BitVec 32).sle t) = 1#1 := ha
  have hb' : BitVec.ofBool (t.slt 1024#32) = 1#1 := hb
  have h1 : (0#32 : BitVec 32).sle t = true := by
    cases e : (0#32 : BitVec 32).sle t
    · rw [e] at ha'; exact absurd ha' (by decide)
    · rfl
  have h2 : t.slt 1024#32 = true := by
    cases e : t.slt 1024#32
    · rw [e] at hb'; exact absurd hb' (by decide)
    · rfl
  have e0 : (0#32 : BitVec 32).toInt = 0 := by decide
  have e1 : (1024#32 : BitVec 32).toInt = 1024 := by decide
  simp only [BitVec.sle, BitVec.slt, e0, e1, decide_eq_true_eq] at h1 h2
  have := t.isLt
  rw [BitVec.toInt_eq_toNat_cond] at h1 h2
  split at h1 <;> omega

end Cert.Pre_usable_KernelIdeal

namespace Cert.Attn
open Idealize.ShloMosaic

/-- Row `r` of device `c`'s half of a cache is row `8192 (c / 4) + r` of the whole. -/
theorem half_at {α : Type} (f : (⟨3, ![16384, 8, 128]⟩ : Shape).Idx → α) (c : Fin 8) (r : Fin 8192) (h : Fin 8) (d : Fin 128)
    (hr : 8192 * (c.val / 4) + r.val < 16384) :
    (Layout.blockN ⟨3, ![8192, 8, 128]⟩ ⟨3, ![16384, 8, 128]⟩ (Layout.meshBlock [2, 2, 2] ![[0], [], []] c) f) (ix3 r h d) = f (ix3 ⟨8192 * (c.val / 4) + r.val, hr⟩ h d) := by
  refine congrArg f (funext fun a => Fin.ext ?_)
  have h0 : ∀ c : Fin 8, Layout.meshLin [2, 2, 2] c.val [0] = c.val / 4 := by decide +kernel
  have h1 : ∀ c : Fin 8, Layout.meshLin [2, 2, 2] c.val [] = 0 := by decide +kernel
  fin_cases a
  · show Layout.meshLin [2, 2, 2] c.val [0] * 8192 + r.val = 8192 * (c.val / 4) + r.val
    rw [h0]; omega
  · show Layout.meshLin [2, 2, 2] c.val [] * 8 + h.val = h.val
    rw [h1]; omega
  · show Layout.meshLin [2, 2, 2] c.val [] * 128 + d.val = d.val
    rw [h1]; omega

end Cert.Attn

end
-- ==== Proof.Equal.lean ====
module

public import proofs.«01_k».proof.Proof.KerVal
public import proofs.«01_k».proof.Proof.RefVal
public import proofs.«01_k».proof.Proof.Pre

@[expose] public section

set_option maxRecDepth 16384

noncomputable section

namespace Cert.Proof

open Idealize.ShloMosaic Idealize.SL.Sem Cert.Attn
open Cert.KernelIdeal.Hand (Given gblk grow qG kG out_value outAt final_out args_kept)

/-- The reference's memory. -/
abbrev RMem := (ℓ : Loc Cert.ReferenceIdeal.nD Cert.ReferenceIdeal.τ Cert.ReferenceIdeal.sig) → Buf (Elt Ideal) ℓ
/-- The kernel's memory. -/
abbrev KMem := (ℓ : Loc Cert.KernelIdeal.nD Cert.KernelIdeal.τ Cert.KernelIdeal.sig) → Buf (Elt Ideal) ℓ

/-- The reference's arguments. -/
abbrev rQ (m' : RMem) : FVec Ideal ⟨2, ![8, 1024]⟩ .f32 := m' (((0 : Dev Cert.ReferenceIdeal.nD).tc : Thread Cert.ReferenceIdeal.nD Cert.ReferenceIdeal.τ).loc Cert.ReferenceIdeal.main_arg0)
abbrev rK (m' : RMem) : FVec Ideal ⟨3, ![16384, 8, 128]⟩ .f32 := m' (((0 : Dev Cert.ReferenceIdeal.nD).tc : Thread Cert.ReferenceIdeal.nD Cert.ReferenceIdeal.τ).loc Cert.ReferenceIdeal.main_arg1)
abbrev rV (m' : RMem) : FVec Ideal ⟨3, ![16384, 8, 128]⟩ .f32 := m' (((0 : Dev Cert.ReferenceIdeal.nD).tc : Thread Cert.ReferenceIdeal.nD Cert.ReferenceIdeal.τ).loc Cert.ReferenceIdeal.main_arg2)
abbrev rB (m' : RMem) : IVec ⟨2, ![8, 512]⟩ 32 := m' (((0 : Dev Cert.ReferenceIdeal.nD).tc : Thread Cert.ReferenceIdeal.nD Cert.ReferenceIdeal.τ).loc Cert.ReferenceIdeal.main_arg3)
abbrev rL (m' : RMem) : IVec ⟨2, ![8, 1]⟩ 32 := m' (((0 : Dev Cert.ReferenceIdeal.nD).tc : Thread Cert.ReferenceIdeal.nD Cert.ReferenceIdeal.τ).loc Cert.ReferenceIdeal.main_arg4)

/-- The kernel's devices hold the reference's arguments: the small arrays whole, each its half of the caches. -/
structure Held (m : KMem) (m' : RMem) : Prop where
  q : ∀ c : Dev Cert.KernelIdeal.nD, m ((c.tc : Thread Cert.KernelIdeal.nD Cert.KernelIdeal.τ).loc Cert.KernelIdeal.main_arg0) = rQ m'
  k : ∀ c : Dev Cert.KernelIdeal.nD, m ((c.tc : Thread Cert.KernelIdeal.nD Cert.KernelIdeal.τ).loc Cert.KernelIdeal.main_arg1)
    = Layout.blockN ⟨3, ![8192, 8, 128]⟩ ⟨3, ![16384, 8, 128]⟩ (Layout.meshBlock [2, 2, 2] ![[0], [], []] c) (rK m')
  v : ∀ c : Dev Cert.KernelIdeal.nD, m ((c.tc : Thread Cert.KernelIdeal.nD Cert.KernelIdeal.τ).loc Cert.KernelIdeal.main_arg2)
    = Layout.blockN ⟨3, ![8192, 8, 128]⟩ ⟨3, ![16384, 8, 128]⟩ (Layout.meshBlock [2, 2, 2] ![[0], [], []] c) (rV m')
  b : ∀ c : Dev Cert.KernelIdeal.nD, m ((c.tc : Thread Cert.KernelIdeal.nD Cert.KernelIdeal.τ).loc Cert.KernelIdeal.main_arg3) = rB m'
  l : ∀ c : Dev Cert.KernelIdeal.nD, m ((c.tc : Thread Cert.KernelIdeal.nD Cert.KernelIdeal.τ).loc Cert.KernelIdeal.main_arg4) = rL m'

/-- The reference's arguments are usable. -/
structure Usable (m' : RMem) : Prop where
  q : ∀ b j, ∃ r : ℝ, rQ m' (ix2 b j) = (r : EReal)
  k : ∀ r h d, ∃ t : ℝ, rK m' (ix3 r h d) = (t : EReal)
  l : ∀ b, ok (rL m' (ix2 b 0)) 0
  b : ∀ b p, ok (rL m' (ix2 b 0)) p → (rB m' (ix2 b p)).toNat < 1024

theorem usable_of [Cert.Pre_usable_KernelIdeal.Facts] {m : KMem} {m' : RMem} (hp : Pre_KernelIdeal_usable_KernelIdeal m) (h : Held m m') : Usable m' := by
  have parts := fun c => Cert.Pre_usable_KernelIdeal.usable_parts _ _ _ _ _ (hp c)
  refine ⟨fun b j => ?_, fun r g d => ?_, fun b => ?_, fun b p hok => ?_⟩
  · obtain ⟨t, ht⟩ := (parts 0).1 b j
    exact ⟨t, (congrFun (h.q 0) _).symm.trans ht⟩
  · let c : Dev Cert.KernelIdeal.nD := ⟨4 * (r.val / 8192), by have := r.isLt; show _ < 8; omega⟩
    have hr := r.isLt
    have hm : r.val % 8192 < 8192 := Nat.mod_lt _ (by decide)
    have hlt : 8192 * (c.val / 4) + (⟨r.val % 8192, hm⟩ : Fin 8192).val < 16384 := by show 8192 * (4 * (r.val / 8192) / 4) + r.val % 8192 < 16384; omega
    obtain ⟨t, ht⟩ := (parts c).2.1 ⟨r.val % 8192, hm⟩ g d
    refine ⟨t, Eq.trans ?_ ((congrFun (h.k c) _).symm.trans ht)⟩
    refine Eq.trans ?_ (half_at (rK m') c ⟨r.val % 8192, hm⟩ g d hlt).symm
    refine congrArg (fun x => rK m' (ix3 x g d)) (Fin.ext ?_)
    show r.val = 8192 * (4 * (r.val / 8192) / 4) + r.val % 8192
    omega
  · have := (parts 0).2.2.1 b
    rw [h.l 0] at this
    exact Cert.Pre_usable_KernelIdeal.ok_zero _ this
  · have := (parts 0).2.2.2 b p
    rw [h.l 0, h.b 0] at this
    exact Cert.Pre_usable_KernelIdeal.page_lt _ _ p this hok

theorem given_of {m : KMem} {m' : RMem} (u : Usable m') (h : Held m m') :
    Given m (fun b j => rQ m' (ix2 b j)) (fun r g d => rK m' (ix3 r g d)) (fun r g d => rV m' (ix3 r g d)) (fun b p => rB m' (ix2 b p)) (fun b => rL m' (ix2 b 0)) where
  q c b j := (Cert.KernelIdeal.Hand.qAt_eq m c b j).trans (congrFun (h.q c) _)
  k c r g d := (congrFun (h.k c) _).trans (half_at (rK m') c r g d (grow c r).isLt)
  v c r g d := (congrFun (h.v c) _).trans (half_at (rV m') c r g d (grow c r).isLt)
  tb c b j := (Cert.KernelIdeal.Hand.btAt_eq m c b j).trans (congrFun (h.b c) _)
  len c b := (Cert.KernelIdeal.Hand.lnAt_eq m c b).trans (congrFun (h.l c) _)
  hq := u.q
  hk := u.k
  hb := u.b

/-- Every device's result is the reference's. -/
theorem out_eq {m : KMem} {m' : RMem} (u : Usable m') (h : Held m m') (c : Dev Cert.KernelIdeal.nD) :
    (outAt m c : FVec Ideal ⟨3, ![8, 8, 128]⟩ .f32) = Cert.ReferenceIdeal.Value.res_main_v39 m' 0 := by
  funext i
  obtain ⟨g, b, d, rfl⟩ : ∃ g b d, i = ix3 g b d := ⟨i 0, i 1, i 2, eq_ix3 i⟩
  obtain ⟨μ, hμ⟩ := out_value (given_of u h) c g b
  refine (hμ d).trans ?_
  refine Eq.trans ?_ (Cert.ReferenceIdeal.Hand.ref_value m' 0 (fun j => ?_) (fun j => ?_) (fun b => ⟨0, u.l b⟩) u.b g b d μ).symm
  · have e : qG (fun b j => rQ m' (ix2 b j)) g b = Cert.ReferenceIdeal.Hand.qR m' 0 b g := by
      funext d
      refine congrArg (fun x => rQ m' (ix2 b x)) (Fin.ext ?_)
      show 128 * g.val + d.val = g.val * 128 + d.val
      omega
    rw [e]
  · obtain ⟨b, k, rfl⟩ : ∃ b k, j = ix2 b k := ⟨j 0, j 1, eq_ix2 j⟩
    exact u.q b k
  · obtain ⟨r, g, k, rfl⟩ : ∃ r g k, j = ix3 r g k := ⟨j 0, j 1, j 2, eq_ix3 j⟩
    exact u.k r g k

/-- The kernel computes what the reference computes, on every device, in exact arithmetic. -/
theorem algebraic_kernel [Cert.Pre_usable_KernelIdeal.Facts] : Cert.algebraic_KernelIdeal_ReferenceIdeal_pre_usable_KernelIdeal := fun m g m' g' hp hm => by
  have h : Held m m' := ⟨fun c => (hm c).1, fun c => (hm c).2.1, fun c => (hm c).2.2.1, fun c => (hm c).2.2.2.1, fun c => (hm c).2.2.2.2⟩
  have u := usable_of hp h
  refine ⟨Cert.ReferenceIdeal.Value.res_main_v39 m' 0, ?_, ?_⟩
  · refine (θ_run Cert.KernelIdeal.defs _ _).mono (fun r hr c => ⟨?_, args_kept m hr.1 c⟩) (Cert.KernelIdeal.Hand.run_main m g)
    exact ((hr.1 c).1 (3 : Fin 4)).trans ((final_out m c).trans (out_eq u h c))
  · exact (θ_run Cert.ReferenceIdeal.defs _ _).mono (fun r hr => hr 0) (Cert.ReferenceIdeal.Value.run (F := Ideal) m' g')

end Cert.Proof

end
-- ==== Proof.lean ====
module

public import proofs.«01_k».proof.Defs
public import proofs.«01_k».proof.Proof.Frames
public import proofs.«01_k».proof.Proof.Equal
public import proofs.«01_k».proof.Proof.Gen.ReferenceIdeal.Run

@[expose] public section

set_option maxRecDepth 16384

noncomputable section

namespace Cert.Proof

open Idealize.ShloMosaic Idealize.SL.Sem

/-- The shape conditions of the precondition, on one device's shapes. -/
theorem facts_usable_kernel : Cert.Pre_usable_KernelIdeal.Facts := by
  constructor <;> decide
/-- The same on the whole shapes. -/
theorem facts_usable_reference : Cert.Pre_usable_ReferenceIdeal.Facts := by
  constructor <;> decide

theorem claim : Cert.Claim := ⟨Cert.Kernel.Gen.facts, Cert.KernelIdeal.Gen.facts, Cert.ReferenceIdeal.Gen.facts, facts_usable_kernel, facts_usable_reference,
  frame_kernel, frame_kernelIdeal, fun m ρ _ => frame_kernelIdeal m ρ trivial, frame_reference, fun m ρ _ => frame_reference m ρ trivial,
  preserves_kernel, @algebraic_kernel facts_usable_kernel⟩

end Cert.Proof

end
